-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_ok [hPre_gates_ok : Cert.Pre_gates_ok.Facts] (m : (ℓ : Loc Cert.KernelIdeal.nD Cert.KernelIdeal.τ Cert.KernelIdeal.sig) → Buf (Elt Ideal) ℓ) : Prop :=
  ∀ c : Dev Cert.KernelIdeal.nD,
    (Cert.Pre_gates_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_ok [hPre_gates_ok : Cert.Pre_gates_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gates_ok [hKernelIdeal : Cert.KernelIdeal.Facts] [hPre_gates_ok : Cert.Pre_gates_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gates_ok [hReferenceIdeal : Cert.ReferenceIdeal.Facts] [hPre_gates_ok : Cert.Pre_gates_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  True

def algebraic_KernelIdeal_ReferenceIdeal_pre_gates_ok [hKernelIdeal : Cert.KernelIdeal.Facts] [hReferenceIdeal : Cert.ReferenceIdeal.Facts] [hPre_gates_ok : Cert.Pre_gates_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_v129) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v192_1)) (v1 : (c : Dev Cert.Kernel4Ideal.nD) → Buf (Elt Ideal) ((c.tc : Thread Cert.Kernel4Ideal.nD Cert.Kernel4Ideal.τ).loc Cert.Kernel4Ideal.main_v192_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v192_1) = v0 c
          ∧ r.2.mem ((c.tc : Thread Cert.Kernel4Ideal.nD Cert.Kernel4Ideal.τ).loc Cert.Kernel4Ideal.main_v192_2) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v14) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)) →
    ∃ (v0 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v51) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_gates_ok : Cert.Pre_gates_ok.Facts) (hPre_finite : Cert.Pre_finite.Facts),
    quiescent_Kernel (hKernel := hKernel)
    ∧ quiescent_KernelIdeal (hKernelIdeal := hKernelIdeal)
    ∧ quiescent_KernelIdeal_pre_gates_ok (hKernelIdeal := hKernelIdeal) (hPre_gates_ok := hPre_gates_ok)
    ∧ quiescent_ReferenceIdeal (hReferenceIdeal := hReferenceIdeal)
    ∧ quiescent_ReferenceIdeal_pre_gates_ok (hReferenceIdeal := hReferenceIdeal) (hPre_gates_ok := hPre_gates_ok)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_gates_ok (hKernelIdeal := hKernelIdeal) (hReferenceIdeal := hReferenceIdeal) (hPre_gates_ok := hPre_gates_ok)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S32x64x6656 : Shape := ⟨3, ![32, 64, 6656]⟩
abbrev S4x128x1024 : Shape := ⟨3, ![4, 128, 1024]⟩
abbrev S4x2x512x128 : Shape := ⟨4, ![4, 2, 512, 128]⟩
abbrev S2048 : Shape := ⟨1, ![2048]⟩
abbrev S512 : Shape := ⟨1, ![512]⟩
abbrev S512x512 : Shape := ⟨2, ![512, 512]⟩
abbrev S32x1x2048 : Shape := ⟨3, ![32, 1, 2048]⟩
abbrev S32x64x512 : Shape := ⟨3, ![32, 64, 512]⟩
abbrev S_ : Shape := ⟨0, ![]⟩

class Facts : Prop where
  slices_S32x64x6656_S32x64x512_0_0_6144 : S32x64x6656.Slices ![0, 0, 6144] S32x64x512
  bcast_S_S32x64x512 : S_.BroadcastsInDim S32x64x512 (![] : Fin 0 → Fin S32x64x512.rank)
  reducesTo_S32x64x512_S_d0_1_2 : S32x64x512.ReducesTo [0, 1, 2] S_
  h_S_ : 0 < S_.numel
  bcast_S_S4x128x1024 : S_.BroadcastsInDim S4x128x1024 (![] : Fin 0 → Fin S4x128x1024.rank)
  reducesTo_S4x128x1024_S_d0_1_2 : S4x128x1024.ReducesTo [0, 1, 2] S_
  bcast_S_S2048 : S_.BroadcastsInDim S2048 (![] : Fin 0 → Fin S2048.rank)
  reducesTo_S2048_S_d0 : S2048.ReducesTo [0] S_
  bcast_S_S32x1x2048 : S_.BroadcastsInDim S32x1x2048 (![] : Fin 0 → Fin S32x1x2048.rank)
  reducesTo_S32x1x2048_S_d0_1_2 : S32x1x2048.ReducesTo [0, 1, 2] S_

variable [Facts]

def fn_part1 {F : FTy → Type} [FloatOps F] (main_arg8 : FVec F S32x1x2048 .f32) (main_arg9 : FVec F S32x1x2048 .f32) (main_v4 : IVec S_ 1) (main_v8 : IVec S_ 1) (main_v12 : IVec S_ 1) (main_v15 : IVec S2048 1) (main_c_5 : IVec S_ 1) : IVec S_ 1 :=
  let main_v16 : IVec S_ 1 := (fun x v => Host.reduce IntOp.andi x v reducesTo_S2048_S_d0 h_S_) main_v15 main_c_5
  let main_v17 : FVec F S32x1x2048 .f32 := Host.absf main_arg8
  let main_cst_6 : FVec F S_ .f32 := constant S_ .f32 0x7F800000#32
  let main_v18 : FVec F S32x1x2048 .f32 := broadcastInDim S32x1x2048 ![] bcast_S_S32x1x2048 main_cst_6
  let main_v19 : IVec S32x1x2048 1 := cmpf .olt main_v17 main_v18
  let main_c_7 : IVec S_ 1 := constantI S_ 1 1#1
  let main_v20 : IVec S_ 1 := (fun x v => Host.reduce IntOp.andi x v reducesTo_S32x1x2048_S_d0_1_2 h_S_) main_v19 main_c_7
  let main_v21 : FVec F S32x1x2048 .f32 := Host.absf main_arg9
  let main_cst_8 : FVec F S_ .f32 := constant S_ .f32 0x7F800000#32
  let main_v22 : FVec F S32x1x2048 .f32 := broadcastInDim S32x1x2048 ![] bcast_S_S32x1x2048 main_cst_8
  let main_v23 : IVec S32x1x2048 1 := cmpf .olt main_v21 main_v22
  let main_c_9 : IVec S_ 1 := constantI S_ 1 1#1
  let main_v24 : IVec S_ 1 := (fun x v => Host.reduce IntOp.andi x v reducesTo_S32x1x2048_S_d0_1_2 h_S_) main_v23 main_c_9
  let main_v25 : IVec S_ 1 := andi main_v4 main_v8
  let main_v26 : IVec S_ 1 := andi main_v25 main_v12
  let main_v27 : IVec S_ 1 := andi main_v26 main_v16
  let main_v28 : IVec S_ 1 := andi main_v27 main_v20
  let main_v29 : IVec S_ 1 := andi main_v28 main_v24
  main_v29

def fn {F : FTy → Type} [FloatOps F] (main_arg0 : FVec F S32x64x6656 .f32) (main_arg1 : FVec F S4x128x1024 .f32) (main_arg2 : FVec F S4x2x512x128 .f32) (main_arg3 : FVec F S2048 .f32) (main_arg4 : FVec F S2048 .f32) (main_arg5 : FVec F S512 .f32) (main_arg6 : FVec F S512x512 .f32) (main_arg7 : FVec F S512 .f32) (main_arg8 : FVec F S32x1x2048 .f32) (main_arg9 : FVec F S32x1x2048 .f32) : IVec S_ 1 :=
  let main_v0 : FVec F S32x64x512 .f32 := (extractStridedSlice S32x64x512 ![0, 0, 6144] · slices_S32x64x6656_S32x64x512_0_0_6144) main_arg0
  let main_v1 : FVec F S32x64x512 .f32 := Host.absf main_v0
  let main_cst : FVec F S_ .f32 := constant S_ .f32 0x7F800000#32
  let main_v2 : FVec F S32x64x512 .f32 := broadcastInDim S32x64x512 ![] bcast_S_S32x64x512 main_cst
  let main_v3 : IVec S32x64x512 1 := cmpf .olt main_v1 main_v2
  let main_c : IVec S_ 1 := constantI S_ 1 1#1
  let main_v4 : IVec S_ 1 := (fun x v => Host.reduce IntOp.andi x v reducesTo_S32x64x512_S_d0_1_2 h_S_) main_v3 main_c
  let main_v5 : FVec F S4x128x1024 .f32 := Host.absf main_arg1
  let main_cst_0 : FVec F S_ .f32 := constant S_ .f32 0x7F800000#32
  let main_v6 : FVec F S4x128x1024 .f32 := broadcastInDim S4x128x1024 ![] bcast_S_S4x128x1024 main_cst_0
  let main_v7 : IVec S4x128x1024 1 := cmpf .olt main_v5 main_v6
  let main_c_1 : IVec S_ 1 := constantI S_ 1 1#1
  let main_v8 : IVec S_ 1 := (fun x v => Host.reduce IntOp.andi x v reducesTo_S4x128x1024_S_d0_1_2 h_S_) main_v7 main_c_1
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : FVec F S2048 .f32 := Host.absf main_arg4
  let main_cst_4 : FVec F S_ .f32 := constant S_ .f32 0x7F800000#32
  let main_v14 : FVec F S2048 .f32 := broadcastInDim S2048 ![] bcast_S_S2048 main_cst_4
  let main_v15 : IVec S2048 1 := cmpf .olt main_v13 main_v14
  let main_c_5 : IVec S_ 1 := constantI S_ 1 1#1
  fn_part1 (F := F) main_arg8 main_arg9 main_v4 main_v8 main_v12 main_v15 main_c_5
-- ==== Pre_gates_ok.lean ====
abbrev S32x64x6656 : Shape := ⟨3, ![32, 64, 6656]⟩
abbrev S1x128 : Shape := ⟨2, ![1, 128]⟩
abbrev S1x512 : Shape := ⟨2, ![1, 512]⟩
abbrev S32x4x128x128 : Shape := ⟨4, ![32, 4, 128, 128]⟩
abbrev S32x4x128 : Shape := ⟨3, ![32, 4, 128]⟩
abbrev S32x1x128 : Shape := ⟨3, ![32, 1, 128]⟩
abbrev S32x64x4 : Shape := ⟨3, ![32, 64, 4]⟩
abbrev S1x4 : Shape := ⟨2, ![1, 4]⟩
abbrev S4 : Shape := ⟨1, ![4]⟩
abbrev S1x1x4 : Shape := ⟨3, ![1, 1, 4]⟩
abbrev S_ : Shape := ⟨0, ![]⟩

class Facts : Prop where
  slices_S32x64x6656_S32x64x4_0_0_5888 : S32x64x6656.Slices ![0, 0, 5888] S32x64x4
  slices_S1x128_S1x4_0_0 : S1x128.Slices ![0, 0] S1x4
  shapeCasts_S1x4_S4 : S1x4.ShapeCasts S4
  bcast_S4_S1x1x4_2 : S4.BroadcastsInDim S1x1x4 (![2] : Fin 1 → Fin S1x1x4.rank)
  bcast_S1x1x4_S32x64x4_0_1_2 : S1x1x4.BroadcastsInDim S32x64x4 (![0, 1, 2] : Fin 3 → Fin S32x64x4.rank)
  bcast_S_S32x64x4 : S_.BroadcastsInDim S32x64x4 (![] : Fin 0 → Fin S32x64x4.rank)

variable [Facts]

def fn {F : FTy → Type} [FloatOps F] (main_arg0 : FVec F S32x64x6656 .f32) (main_arg1 : FVec F S1x128 .f32) (main_arg2 : FVec F S1x512 .f32) (main_arg3 : FVec F S32x4x128x128 .f32) (main_arg4 : FVec F S32x4x128 .f32) (main_arg5 : FVec F S32x1x128 .f32) : IVec S32x64x4 1 :=
  let main_v0 : FVec F S32x64x4 .f32 := (extractStridedSlice S32x64x4 ![0, 0, 5888] · slices_S32x64x6656_S32x64x4_0_0_5888) main_arg0
  let main_v1 : FVec F S1x4 .f32 := (extractStridedSlice S1x4 ![0, 0] · slices_S1x128_S1x4_0_0) main_arg1
  let main_v2 : FVec F S4 .f32 := shapeCast S4 main_v1 shapeCasts_S1x4_S4
  let main_v3 : FVec F S1x1x4 .f32 := broadcastInDim S1x1x4 ![2] bcast_S4_S1x1x4_2 main_v2
  let main_v4 : FVec F S32x64x4 .f32 := broadcastInDim S32x64x4 ![0, 1, 2] bcast_S1x1x4_S32x64x4_0_1_2 main_v3
  let main_v5 : FVec F S32x64x4 .f32 := addf main_v0 main_v4
  let main_cst : FVec F S_ .f32 := constant S_ .f32 0x7F800000#32
  let main_v6 : FVec F S32x64x4 .f32 := broadcastInDim S32x64x4 ![] bcast_S_S32x64x4 main_cst
  let main_v7 : IVec S32x64x4 1 := cmpf .olt main_v5 main_v6
  main_v7
-- ==== Kernel.lean ====
abbrev S32x64x6656 : Shape := ⟨3, ![32, 64, 6656]⟩
abbrev S1x128 : Shape := ⟨2, ![1, 128]⟩
abbrev S1x512 : Shape := ⟨2, ![1, 512]⟩
abbrev S32x4x128x128 : Shape := ⟨4, ![32, 4, 128, 128]⟩
abbrev S32x4x128 : Shape := ⟨3, ![32, 4, 128]⟩
abbrev S32x1x128 : Shape := ⟨3, ![32, 1, 128]⟩
abbrev S32x64x512 : Shape := ⟨3, ![32, 64, 512]⟩
abbrev S2x64x2048 : Shape := ⟨3, ![2, 64, 2048]⟩
abbrev S2x64x128 : Shape := ⟨3, ![2, 64, 128]⟩
abbrev S2x4x128x128 : Shape := ⟨4, ![2, 4, 128, 128]⟩
abbrev S2x4x128 : Shape := ⟨3, ![2, 4, 128]⟩
abbrev S2x1x128 : Shape := ⟨3, ![2, 1, 128]⟩
abbrev S2x64x512 : Shape := ⟨3, ![2, 64, 512]⟩
abbrev S64x64 : Shape := ⟨2, ![64, 64]⟩
abbrev S8x128 : Shape := ⟨2, ![8, 128]⟩
abbrev S1x64x128 : Shape := ⟨3, ![1, 64, 128]⟩
abbrev S64x128 : Shape := ⟨2, ![64, 128]⟩
abbrev S8x64 : Shape := ⟨2, ![8, 64]⟩
abbrev S1x1x128 : Shape := ⟨3, ![1, 1, 128]⟩
abbrev S64x1 : Shape := ⟨2, ![64, 1]⟩
abbrev S1x64 : Shape := ⟨2, ![1, 64]⟩
abbrev S1 : Shape := ⟨1, ![1]⟩
abbrev S1x1 : Shape := ⟨2, ![1, 1]⟩
abbrev S1x1x128x128 : Shape := ⟨4, ![1, 1, 128, 128]⟩
abbrev S128x128 : Shape := ⟨2, ![128, 128]⟩
abbrev S64 : Shape := ⟨1, ![64]⟩
abbrev S128 : Shape := ⟨1, ![128]⟩

abbrev nBuf : Space → Nat
  | .hbm => 10
  | .vmem => 20
  | .smem => 0
  | _ => 0

abbrev bufTy : (tb : Table) → Fin (tcTables nBuf tb) → BufTy
  | .hbm, ⟨0, _⟩ => ⟨S32x64x6656, .f32⟩
  | .hbm, ⟨1, _⟩ => ⟨S1x128, .f32⟩
  | .hbm, ⟨2, _⟩ => ⟨S1x512, .f32⟩
  | .hbm, ⟨3, _⟩ => ⟨S32x4x128x128, .f32⟩
  | .hbm, ⟨4, _⟩ => ⟨S32x4x128, .f32⟩
  | .hbm, ⟨5, _⟩ => ⟨S32x1x128, .f32⟩
  | .hbm, ⟨6, _⟩ => ⟨S32x64x512, .bf16⟩
  | .hbm, ⟨7, _⟩ => ⟨S32x4x128x128, .f32⟩
  | .hbm, ⟨8, _⟩ => ⟨S32x4x128, .f32⟩
  | .hbm, ⟨9, _⟩ => ⟨S32x1x128, .f32⟩
  | .local _ .vmem, ⟨0, _⟩ => ⟨S2x64x2048, .f32⟩
  | .local _ .vmem, ⟨1, _⟩ => ⟨S2x64x2048, .f32⟩
  | .local _ .vmem, ⟨2, _⟩ => ⟨S2x64x128, .f32⟩
  | .local _ .vmem, ⟨3, _⟩ => ⟨S2x64x128, .f32⟩
  | .local _ .vmem, ⟨4, _⟩ => ⟨S1x128, .f32⟩
  | .local _ .vmem, ⟨5, _⟩ => ⟨S1x512, .f32⟩
  | .local _ .vmem, ⟨6, _⟩ => ⟨S2x4x128x128, .f32⟩
  | .local _ .vmem, ⟨7, _⟩ => ⟨S2x4x128x128, .f32⟩
  | .local _ .vmem, ⟨8, _⟩ => ⟨S2x4x128, .f32⟩
  | .local _ .vmem, ⟨9, _⟩ => ⟨S2x4x128, .f32⟩
  | .local _ .vmem, ⟨10, _⟩ => ⟨S2x1x128, .f32⟩
  | .local _ .vmem, ⟨11, _⟩ => ⟨S2x1x128, .f32⟩
  | .local _ .vmem, ⟨12, _⟩ => ⟨S2x64x512, .bf16⟩
  | .local _ .vmem, ⟨13, _⟩ => ⟨S2x64x512, .bf16⟩
  | .local _ .vmem, ⟨14, _⟩ => ⟨S2x4x128x128, .f32⟩
  | .local _ .vmem, ⟨15, _⟩ => ⟨S2x4x128x128, .f32⟩
  | .local _ .vmem, ⟨16, _⟩ => ⟨S2x4x128, .f32⟩
  | .local _ .vmem, ⟨17, _⟩ => ⟨S2x4x128, .f32⟩
  | .local _ .vmem, ⟨18, _⟩ => ⟨S2x1x128, .f32⟩
  | .local _ .vmem, ⟨19, _⟩ => ⟨S2x1x128, .f32⟩
  | _, _ => ⟨S32x64x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c46_i32 : BitVec 32 := 46#32
  let c0_i32 : BitVec 32 := 0#32
  ![arg0.toNat, arg1.toNat, c46_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x4x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S32x64x6656 : Shape := ⟨3, ![32, 64, 6656]⟩
abbrev S1x128 : Shape := ⟨2, ![1, 128]⟩
abbrev S1x512 : Shape := ⟨2, ![1, 512]⟩
abbrev S32x4x128x128 : Shape := ⟨4, ![32, 4, 128, 128]⟩
abbrev S32x4x128 : Shape := ⟨3, ![32, 4, 128]⟩
abbrev S32x1x128 : Shape := ⟨3, ![32, 1, 128]⟩
abbrev S32x64x512 : Shape := ⟨3, ![32, 64, 512]⟩
abbrev S32x64x4x128 : Shape := ⟨4, ![32, 64, 4, 128]⟩
abbrev S32x64x4 : Shape := ⟨3, ![32, 64, 4]⟩
abbrev S1x4 : Shape := ⟨2, ![1, 4]⟩
abbrev S4 : Shape := ⟨1, ![4]⟩
abbrev S1x1x4 : Shape := ⟨3, ![1, 1, 4]⟩
abbrev S32x1x4 : Shape := ⟨3, ![32, 1, 4]⟩
abbrev S32x4 : Shape := ⟨2, ![32, 4]⟩
abbrev S_ : Shape := ⟨0, ![]⟩
abbrev S64x64 : Shape := ⟨2, ![64, 64]⟩
abbrev S32x4x64 : Shape := ⟨3, ![32, 4, 64]⟩
abbrev S32x4x64x1 : Shape := ⟨4, ![32, 4, 64, 1]⟩
abbrev S32x4x1x64 : Shape := ⟨4, ![32, 4, 1, 64]⟩
abbrev S32x4x64x64 : Shape := ⟨4, ![32, 4, 64, 64]⟩
abbrev S32x4x1 : Shape := ⟨3, ![32, 4, 1]⟩
abbrev S32x4x128x64 : Shape := ⟨4, ![32, 4, 128, 64]⟩
abbrev S32x64x4x1 : Shape := ⟨4, ![32, 64, 4, 1]⟩
abbrev S32x4x1x1 : Shape := ⟨4, ![32, 4, 1, 1]⟩
abbrev S512 : Shape := ⟨1, ![512]⟩
abbrev S1x1x512 : Shape := ⟨3, ![1, 1, 512]⟩
abbrev S32x1x124 : Shape := ⟨3, ![32, 1, 124]⟩
abbrev S32x124 : Shape := ⟨2, ![32, 124]⟩
abbrev S32x128 : Shape := ⟨2, ![32, 128]⟩

abbrev nBuf : Space → Nat
  | .hbm => 199
  | .vmem => 0
  | .smem => 0
  | _ => 0

abbrev hbmTy0_0 (i : Nat) : BufTy := match i % 128 with
  | 0 => ⟨S32x64x6656, .f32⟩
  | 1 => ⟨S1x128, .f32⟩
  | 2 => ⟨S1x512, .f32⟩
  | 3 => ⟨S32x4x128x128, .f32⟩
  | 4 => ⟨S32x4x128, .f32⟩
  | 5 => ⟨S32x1x128, .f32⟩
  | 6 => ⟨S32x64x512, .f32⟩
  | 7 => ⟨S32x64x4x128, .f32⟩
  | 8 => ⟨S32x64x512, .f32⟩
  | 9 => ⟨S32x64x4x128, .f32⟩
  | 10 => ⟨S32x64x512, .f32⟩
  | 11 => ⟨S32x64x4x128, .f32⟩
  | 12 => ⟨S32x64x512, .f32⟩
  | 13 => ⟨S32x64x4, .f32⟩
  | 14 => ⟨S1x4, .f32⟩
  | 15 => ⟨S4, .f32⟩
  | 16 => ⟨S1x1x4, .f32⟩
  | 17 => ⟨S32x64x4, .f32⟩
  | 18 => ⟨S32x64x4, .f32⟩
  | 19 => ⟨S32x64x4, .f32⟩
  | 20 => ⟨S1x4, .f32⟩
  | 21 => ⟨S4, .f32⟩
  | 22 => ⟨S1x1x4, .f32⟩
  | 23 => ⟨S32x64x4, .f32⟩
  | 24 => ⟨S32x64x4, .f32⟩
  | 25 => ⟨S32x1x4, .f32⟩
  | 26 => ⟨S32x4, .f32⟩
  | 27 => ⟨S_, .i1⟩
  | 28 => ⟨S64x64, .i1⟩
  | 29 => ⟨S64x64, .i32⟩
  | 30 => ⟨S_, .i32⟩
  | 31 => ⟨S64x64, .i32⟩
  | 32 => ⟨S64x64, .i32⟩
  | 33 => ⟨S64x64, .i32⟩
  | 34 => ⟨S64x64, .i1⟩
  | 35 => ⟨S_, .i1⟩
  | 36 => ⟨S64x64, .i1⟩
  | 37 => ⟨S64x64, .i1⟩
  | 38 => ⟨S_, .f32⟩
  | 39 => ⟨S32x64x4x128, .f32⟩
  | 40 => ⟨S32x64x4x128, .f32⟩
  | 41 => ⟨S32x64x4, .f32⟩
  | 42 => ⟨S_, .f32⟩
  | 43 => ⟨S32x64x4, .f32⟩
  | 44 => ⟨S32x64x4, .f32⟩
  | 45 => ⟨S32x64x4, .f32⟩
  | 46 => ⟨S32x64x4, .f32⟩
  | 47 => ⟨S32x64x4, .i1⟩
  | 48 => ⟨S32x64x4, .f32⟩
  | 49 => ⟨S32x64x4, .f32⟩
  | 50 => ⟨S32x64x4, .f32⟩
  | 51 => ⟨S32x64x4, .f32⟩
  | 52 => ⟨S32x64x4, .f32⟩
  | 53 => ⟨S32x64x4, .f32⟩
  | 54 => ⟨S32x64x4, .f32⟩
  | 55 => ⟨S32x64x4, .f32⟩
  | 56 => ⟨S32x64x4, .f32⟩
  | 57 => ⟨S32x4x64, .f32⟩
  | 58 => ⟨S_, .f32⟩
  | 59 => ⟨S_, .f32⟩
  | 60 => ⟨S32x4x64, .f32⟩
  | 61 => ⟨S32x4x64, .f32⟩
  | 62 => ⟨S32x4x64x1, .f32⟩
  | 63 => ⟨S32x4x1x64, .f32⟩
  | 64 => ⟨S32x4x64x64, .f32⟩
  | 65 => ⟨S32x4x64x64, .f32⟩
  | 66 => ⟨S32x4x64x64, .f32⟩
  | 67 => ⟨S32x4x1x64, .f32⟩
  | 68 => ⟨S32x4x64x64, .f32⟩
  | 69 => ⟨S32x4x64x64, .f32⟩
  | 70 => ⟨S_, .f32⟩
  | 71 => ⟨S_, .f32⟩
  | 72 => ⟨S32x4x64x64, .i1⟩
  | 73 => ⟨S32x4x64x64, .f32⟩
  | 74 => ⟨S32x4x64x64, .f32⟩
  | 75 => ⟨S32x4x1, .f32⟩
  | 76 => ⟨S32x4x64, .f32⟩
  | 77 => ⟨S32x4x64, .f32⟩
  | 78 => ⟨S_, .f32⟩
  | 79 => ⟨S32x4x64, .f32⟩
  | 80 => ⟨S32x4x64, .f32⟩
  | 81 => ⟨S32x4x64x64, .f32⟩
  | 82 => ⟨S32x4x64x1, .f32⟩
  | 83 => ⟨S32x4x64x64, .f32⟩
  | 84 => ⟨S32x4x64x64, .f32⟩
  | 85 => ⟨S32x4x64x64, .f32⟩
  | 86 => ⟨S32x4x64x64, .f32⟩
  | 87 => ⟨S32x4x64, .f32⟩
  | 88 => ⟨S32x4x64, .f32⟩
  | 89 => ⟨S32x4x128x64, .f32⟩
  | 90 => ⟨S32x64x4x128, .f32⟩
  | 91 => ⟨S32x4x128x64, .f32⟩
  | 92 => ⟨S32x64x4x128, .f32⟩
  | 93 => ⟨S32x64x4, .f32⟩
  | 94 => ⟨S32x64x4x1, .f32⟩
  | 95 => ⟨S32x64x4x128, .f32⟩
  | 96 => ⟨S32x64x4x128, .f32⟩
  | 97 => ⟨S32x64x4x128, .f32⟩
  | 98 => ⟨S_, .f32⟩
  | 99 => ⟨S32x4x64, .f32⟩
  | 100 => ⟨S32x4x64, .f32⟩
  | 101 => ⟨S32x4x64, .f32⟩
  | 102 => ⟨S32x4x64, .f32⟩
  | 103 => ⟨S32x4x64, .f32⟩
  | 104 => ⟨S32x4x64, .f32⟩
  | 105 => ⟨S32x4x64, .f32⟩
  | 106 => ⟨S32x4x64, .f32⟩
  | 107 => ⟨S32x64x4, .f32⟩
  | 108 => ⟨S32x64x4x1, .f32⟩
  | 109 => ⟨S32x64x4x128, .f32⟩
  | 110 => ⟨S32x64x4x128, .f32⟩
  | 111 => ⟨S32x4x1, .f32⟩
  | 112 => ⟨S32x4, .f32⟩
  | 113 => ⟨S32x4x1, .f32⟩
  | 114 => ⟨S32x4x64, .f32⟩
  | 115 => ⟨S32x4x64, .f32⟩
  | 116 => ⟨S32x4x64, .f32⟩
  | 117 => ⟨S32x4, .f32⟩
  | 118 => ⟨S_, .f32⟩
  | 119 => ⟨S32x4, .f32⟩
  | 120 => ⟨S32x4, .f32⟩
  | 121 => ⟨S32x4x1, .f32⟩
  | 122 => ⟨S32x4x64, .f32⟩
  | 123 => ⟨S32x4x64, .f32⟩
  | 124 => ⟨S32x4x64, .f32⟩
  | 125 => ⟨S32x4, .f32⟩
  | 126 => ⟨S32x4, .f32⟩
  | 127 => ⟨S32x4, .f32⟩
  | _ => ⟨S32x64x6656, .f32⟩

abbrev hbmTy0_1 (i : Nat) : BufTy := match i % 128 with
  | 0 => ⟨S32x4x1x1, .f32⟩
  | 1 => ⟨S32x4x128x128, .f32⟩
  | 2 => ⟨S32x4x128x128, .f32⟩
  | 3 => ⟨S32x64x4, .f32⟩
  | 4 => ⟨S32x64x4x1, .f32⟩
  | 5 => ⟨S32x64x4x128, .f32⟩
  | 6 => ⟨S32x64x4x128, .f32⟩
  | 7 => ⟨S32x4x128x128, .f32⟩
  | 8 => ⟨S32x4x128x128, .f32⟩
  | 9 => ⟨S32x4x1, .f32⟩
  | 10 => ⟨S32x4x128, .f32⟩
  | 11 => ⟨S32x4x128, .f32⟩
  | 12 => ⟨S32x4x128, .f32⟩
  | 13 => ⟨S32x4x128, .f32⟩
  | 14 => ⟨S_, .f32⟩
  | 15 => ⟨S32x64x4, .f32⟩
  | 16 => ⟨S32x64x4x1, .f32⟩
  | 17 => ⟨S_, .f32⟩
  | 18 => ⟨S32x64x4x1, .f32⟩
  | 19 => ⟨S32x64x4x1, .f32⟩
  | 20 => ⟨S32x64x4x128, .f32⟩
  | 21 => ⟨S32x64x4x128, .f32⟩
  | 22 => ⟨S_, .i32⟩
  | 23 => ⟨S_, .f32⟩
  | 24 => ⟨S32x64x4, .f32⟩
  | 25 => ⟨S32x64x4x1, .f32⟩
  | 26 => ⟨S_, .f32⟩
  | 27 => ⟨S32x64x4x1, .f32⟩
  | 28 => ⟨S32x64x4x1, .f32⟩
  | 29 => ⟨S32x64x4x128, .f32⟩
  | 30 => ⟨S32x64x4x128, .f32⟩
  | 31 => ⟨S32x64x4x128, .f32⟩
  | 32 => ⟨S_, .f32⟩
  | 33 => ⟨S_, .f32⟩
  | 34 => ⟨S_, .f32⟩
  | 35 => ⟨S_, .f32⟩
  | 36 => ⟨S32x64x4, .f32⟩
  | 37 => ⟨S32x64x4x1, .f32⟩
  | 38 => ⟨S32x64x4x1, .f32⟩
  | 39 => ⟨S32x64x4x1, .f32⟩
  | 40 => ⟨S_, .f32⟩
  | 41 => ⟨S_, .i1⟩
  | 42 => ⟨S_, .f32⟩
  | 43 => ⟨S_, .f32⟩
  | 44 => ⟨S32x64x4x1, .f32⟩
  | 45 => ⟨S32x64x4x1, .f32⟩
  | 46 => ⟨S_, .f32⟩
  | 47 => ⟨S32x64x4x1, .f32⟩
  | 48 => ⟨S32x64x4x1, .f32⟩
  | 49 => ⟨S32x64x4x1, .f32⟩
  | 50 => ⟨S32x64x4x128, .f32⟩
  | 51 => ⟨S32x64x4x128, .f32⟩
  | 52 => ⟨S32x64x512, .f32⟩
  | 53 => ⟨S32x64x512, .f32⟩
  | 54 => ⟨S_, .f32⟩
  | 55 => ⟨S32x64x512, .f32⟩
  | 56 => ⟨S32x64x512, .f32⟩
  | 57 => ⟨S_, .f32⟩
  | 58 => ⟨S32x64x512, .f32⟩
  | 59 => ⟨S32x64x512, .f32⟩
  | 60 => ⟨S32x64x512, .f32⟩
  | 61 => ⟨S512, .f32⟩
  | 62 => ⟨S1x1x512, .f32⟩
  | 63 => ⟨S32x64x512, .f32⟩
  | 64 => ⟨S32x64x512, .f32⟩
  | 65 => ⟨S32x64x512, .f32⟩
  | 66 => ⟨S32x1x124, .f32⟩
  | 67 => ⟨S32x124, .f32⟩
  | 68 => ⟨S32x128, .f32⟩
  | 69 => ⟨S32x1x128, .f32⟩
  | 70 => ⟨S32x64x512, .bf16⟩
  | _ => ⟨S32x64x6656, .f32⟩

abbrev hbmTy (i : Nat) : BufTy := match i / 128 with
  | 0 => hbmTy0_0 i
  | 1 => hbmTy0_1 i
  | _ => ⟨S32x64x6656, .f32⟩

abbrev bufTy : (tb : Table) → Fin (tcTables nBuf tb) → BufTy
  | .hbm, ⟨i, _⟩ => hbmTy i
  | _, _ => ⟨S32x64x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_v21 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_c_0 : Ref sig .tc := ⟨.hbm, 35, rfl⟩
abbrev main_call0_v5 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_v24 : Ref sig .tc := ⟨.hbm, 40, rfl⟩
abbrev main_call1_v0 : Ref sig .tc := ⟨.hbm, 41, rfl⟩
abbrev main_call1_call0_cst : Ref sig .tc := ⟨.hbm, 42, rfl⟩
abbrev main_call1_call0_v0 : Ref sig .tc := ⟨.hbm, 43, rfl⟩
abbrev main_call1_call0_v1 : Ref sig .tc := ⟨.hbm, 44, rfl⟩
abbrev main_call1_call0_v2 : Ref sig .tc := ⟨.hbm, 45, rfl⟩
abbrev main_call1_call0_v3 : Ref sig .tc := ⟨.hbm, 46, rfl⟩
abbrev main_call1_call0_v4 : Ref sig .tc := ⟨.hbm, 47, rfl⟩
abbrev main_call1_call0_v5 : Ref sig .tc := ⟨.hbm, 48, rfl⟩
abbrev main_call1_call0_v6 : Ref sig .tc := ⟨.hbm, 49, rfl⟩
abbrev main_call1_call0_v7 : Ref sig .tc := ⟨.hbm, 50, rfl⟩
abbrev main_call1_call0_v8 : Ref sig .tc := ⟨.hbm, 51, rfl⟩
abbrev main_call1_call0_v9 : Ref sig .tc := ⟨.hbm, 52, rfl⟩
abbrev main_call1_call0_v10 : Ref sig .tc := ⟨.hbm, 53, rfl⟩
abbrev main_call1_call0_v11 : Ref sig .tc := ⟨.hbm, 54, rfl⟩
abbrev main_call1_v1 : Ref sig .tc := ⟨.hbm, 55, rfl⟩
abbrev main_v25 : Ref sig .tc := ⟨.hbm, 56, rfl⟩
abbrev main_v26 : Ref sig .tc := ⟨.hbm, 57, rfl⟩
abbrev main_call2_call0_cst : Ref sig .tc := ⟨.hbm, 58, rfl⟩
abbrev main_call2_call0_v0 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_0 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_1 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_2 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_3 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_4 : Ref sig .tc := ⟨.hbm, 142, rfl⟩
abbrev main_v102 : Ref sig .tc := ⟨.hbm, 143, rfl⟩
abbrev main_v103 : Ref sig .tc := ⟨.hbm, 144, rfl⟩
abbrev main_cst_5 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_c_6 : Ref sig .tc := ⟨.hbm, 150, rfl⟩
abbrev main_call4_cst : Ref sig .tc := ⟨.hbm, 151, rfl⟩
abbrev main_call4_v0 : Ref sig .tc := ⟨.hbm, 152, rfl⟩
abbrev main_call4_v1 : Ref sig .tc := ⟨.hbm, 153, rfl⟩
abbrev main_call4_cst_0 : Ref sig .tc := ⟨.hbm, 154, rfl⟩
abbrev main_call4_v2 : Ref sig .tc := ⟨.hbm, 155, rfl⟩
abbrev main_call4_v3 : Ref sig .tc := ⟨.hbm, 156, rfl⟩
abbrev main_call4_v4 : Ref sig .tc := ⟨.hbm, 157, rfl⟩
abbrev main_call4_v5 : Ref sig .tc := ⟨.hbm, 158, rfl⟩
abbrev main_call4_v6 : Ref sig .tc := ⟨.hbm, 159, rfl⟩
abbrev main_call4_v7 : Ref sig .tc := ⟨.hbm, 160, rfl⟩
abbrev main_call4_cst_1 : Ref sig .tc := ⟨.hbm, 161, rfl⟩
abbrev main_call4_v8 : Ref sig .tc := ⟨.hbm, 162, rfl⟩
abbrev main_call4_cst_2 : Ref sig .tc := ⟨.hbm, 163, rfl⟩
abbrev main_call4_v9 : Ref sig .tc := ⟨.hbm, 164, rfl⟩
abbrev main_call4_v10 : Ref sig .tc := ⟨.hbm, 165, rfl⟩
abbrev main_call4_v11 : Ref sig .tc := ⟨.hbm, 166, rfl⟩
abbrev main_call4_v12 : Ref sig .tc := ⟨.hbm, 167, rfl⟩
abbrev main_call4_cst_3 : Ref sig .tc := ⟨.hbm, 168, rfl⟩
abbrev main_call4_v13 : Ref sig .tc := ⟨.hbm, 169, rfl⟩
abbrev main_call4_cst_4 : Ref sig .tc := ⟨.hbm, 170, rfl⟩
abbrev main_call4_call0_v0 : Ref sig .tc := ⟨.hbm, 171, rfl⟩
abbrev main_call4_call0_v1 : Ref sig .tc := ⟨.hbm, 172, rfl⟩
abbrev main_v108 : Ref sig .tc := ⟨.hbm, 173, rfl⟩
abbrev main_cst_7 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_cst_8 : Ref sig .tc := ⟨.hbm, 182, rfl⟩
abbrev main_v116 : Ref sig .tc := ⟨.hbm, 183, rfl⟩
abbrev main_v117 : Ref sig .tc := ⟨.hbm, 184, rfl⟩
abbrev main_cst_9 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩

abbrev nD : Nat := 1
abbrev τ : Topo := Topo.v7x

variable {F : FTy → Type} [FloatOps F]
-- ==== Kernel2.lean ====
abbrev S2048x2048 : Shape := ⟨2, ![2048, 2048]⟩
abbrev S2048x512 : Shape := ⟨2, ![2048, 512]⟩
abbrev S2048 : Shape := ⟨1, ![2048]⟩
abbrev S2048x5632 : Shape := ⟨2, ![2048, 5632]⟩
abbrev S5632x2048 : Shape := ⟨2, ![5632, 2048]⟩
abbrev S4x512x2048 : Shape := ⟨3, ![4, 512, 2048]⟩
abbrev S1x2048 : Shape := ⟨2, ![1, 2048]⟩
abbrev S512x2048 : Shape := ⟨2, ![512, 2048]⟩
abbrev S512x512 : Shape := ⟨2, ![512, 512]⟩
abbrev S1x512x2048 : Shape := ⟨3, ![1, 512, 2048]⟩
abbrev S512 : Shape := ⟨1, ![512]⟩
abbrev S512x1 : Shape := ⟨2, ![512, 1]⟩

abbrev nBuf : Space → Nat
  | .hbm => 21
  | .vmem => 24
  | .smem => 0
  | _ => 0

abbrev bufTy : (tb : Table) → Fin (tcTables nBuf tb) → BufTy
  | .hbm, ⟨0, _⟩ => ⟨S2048x2048, .f32⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S2048x5632, .f32⟩
  | .hbm, ⟨9, _⟩ => ⟨S2048x5632, .f32⟩
  | .hbm, ⟨10, _⟩ => ⟨S5632x2048, .f32⟩
  | .hbm, ⟨11, _⟩ => ⟨S2048, .f32⟩
  | .hbm, ⟨12, _⟩ => ⟨S2048x2048, .bf16⟩
  | .hbm, ⟨13, _⟩ => ⟨S4x512x2048, .bf16⟩
  | .hbm, ⟨14, _⟩ => ⟨S1x2048, .f32⟩
  | .hbm, ⟨15, _⟩ => ⟨S1x2048, .f32⟩
  | .hbm, ⟨16, _⟩ => ⟨S2048x5632, .bf16⟩
  | .hbm, ⟨17, _⟩ => ⟨S2048x5632, .bf16⟩
  | .hbm, ⟨18, _⟩ => ⟨S5632x2048, .bf16⟩
  | .hbm, ⟨19, _⟩ => ⟨S1x2048, .f32⟩
  | .hbm, ⟨20, _⟩ => ⟨S2048x2048, .f32⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S4x512x2048, .bf16⟩
  | .local _ .vmem, ⟨11, _⟩ => ⟨S1x2048, .f32⟩
  | .local _ .vmem, ⟨12, _⟩ => ⟨S1x2048, .f32⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S512x2048, .bf16⟩
  | .local _ .vmem, ⟨18, _⟩ => ⟨S512x2048, .bf16⟩
  | .local _ .vmem, ⟨19, _⟩ => ⟨S1x2048, .f32⟩
  | .local _ .vmem, ⟨20, _⟩ => ⟨S512x2048, .f32⟩
  | .local _ .vmem, ⟨21, _⟩ => ⟨S512x2048, .f32⟩
  | .local _ .vmem, ⟨22, _⟩ => ⟨S512x2048, .bf16⟩
  | .local _ .vmem, ⟨23, _⟩ => ⟨S512x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Kernel2Ideal.lean ====
abbrev S2048x2048 : Shape := ⟨2, ![2048, 2048]⟩
abbrev S2048x512 : Shape := ⟨2, ![2048, 512]⟩
abbrev S2048 : Shape := ⟨1, ![2048]⟩
abbrev S2048x5632 : Shape := ⟨2, ![2048, 5632]⟩
abbrev S5632x2048 : Shape := ⟨2, ![5632, 2048]⟩
abbrev S4x512x2048 : Shape := ⟨3, ![4, 512, 2048]⟩
abbrev S1x2048 : Shape := ⟨2, ![1, 2048]⟩
abbrev S512x2048 : Shape := ⟨2, ![512, 2048]⟩
abbrev S512x512 : Shape := ⟨2, ![512, 512]⟩
abbrev S1x512x2048 : Shape := ⟨3, ![1, 512, 2048]⟩
abbrev S512 : Shape := ⟨1, ![512]⟩
abbrev S512x1 : Shape := ⟨2, ![512, 1]⟩

abbrev nBuf : Space → Nat
  | .hbm => 21
  | .vmem => 24
  | .smem => 0
  | _ => 0

abbrev bufTy : (tb : Table) → Fin (tcTables nBuf tb) → BufTy
  | .hbm, ⟨0, _⟩ => ⟨S2048x2048, .f32⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S2048x5632, .f32⟩
  | .hbm, ⟨9, _⟩ => ⟨S2048x5632, .f32⟩
  | .hbm, ⟨10, _⟩ => ⟨S5632x2048, .f32⟩
  | .hbm, ⟨11, _⟩ => ⟨S2048, .f32⟩
  | .hbm, ⟨12, _⟩ => ⟨S2048x2048, .bf16⟩
  | .hbm, ⟨13, _⟩ => ⟨S4x512x2048, .bf16⟩
  | .hbm, ⟨14, _⟩ => ⟨S1x2048, .f32⟩
  | .hbm, ⟨15, _⟩ => ⟨S1x2048, .f32⟩
  | .hbm, ⟨16, _⟩ => ⟨S2048x5632, .bf16⟩
  | .hbm, ⟨17, _⟩ => ⟨S2048x5632, .bf16⟩
  | .hbm, ⟨18, _⟩ => ⟨S5632x2048, .bf16⟩
  | .hbm, ⟨19, _⟩ => ⟨S1x2048, .f32⟩
  | .hbm, ⟨20, _⟩ => ⟨S2048x2048, .f32⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S4x512x2048, .bf16⟩
  | .local _ .vmem, ⟨11, _⟩ => ⟨S1x2048, .f32⟩
  | .local _ .vmem, ⟨12, _⟩ => ⟨S1x2048, .f32⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S512x2048, .bf16⟩
  | .local _ .vmem, ⟨18, _⟩ => ⟨S512x2048, .bf16⟩
  | .local _ .vmem, ⟨19, _⟩ => ⟨S1x2048, .f32⟩
  | .local _ .vmem, ⟨20, _⟩ => ⟨S512x2048, .f32⟩
  | .local _ .vmem, ⟨21, _⟩ => ⟨S512x2048, .f32⟩
  | .local _ .vmem, ⟨22, _⟩ => ⟨S512x2048, .bf16⟩
  | .local _ .vmem, ⟨23, _⟩ => ⟨S512x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference2Ideal.lean ====
abbrev S2048x2048 : Shape := ⟨2, ![2048, 2048]⟩
abbrev S2048x512 : Shape := ⟨2, ![2048, 512]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S2048x1 : Shape := ⟨2, ![2048, 1]⟩
abbrev S1x2048 : Shape := ⟨2, ![1, 2048]⟩

abbrev nBuf : Space → Nat
  | .hbm => 81
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S2048x5632, .f32⟩
  | .hbm, ⟨9, _⟩ => ⟨S2048x5632, .f32⟩
  | .hbm, ⟨10, _⟩ => ⟨S5632x2048, .f32⟩
  | .hbm, ⟨11, _⟩ => ⟨S2048, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x2048, .f32⟩
  | .hbm, ⟨30, _⟩ => ⟨S2048x2048, .f32⟩
  | .hbm, ⟨31, _⟩ => ⟨S1x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S2048x1, .f32⟩
  | .hbm, ⟨46, _⟩ => ⟨S2048x2048, .f32⟩
  | .hbm, ⟨47, _⟩ => ⟨S2048x2048, .f32⟩
  | .hbm, ⟨48, _⟩ => ⟨S1x2048, .f32⟩
  | .hbm, ⟨49, _⟩ => ⟨S2048x2048, .f32⟩
  | .hbm, ⟨50, _⟩ => ⟨S2048x2048, .f32⟩
  | .hbm, ⟨51, _⟩ => ⟨S2048x5632, .f32⟩
  | .hbm, ⟨52, _⟩ => ⟨S2048x5632, .f32⟩
  | .hbm, ⟨53, _⟩ => ⟨S2048x5632, .f32⟩
  | .hbm, ⟨54, _⟩ => ⟨S_, .f32⟩
  | .hbm, ⟨55, _⟩ => ⟨S2048x5632, .f32⟩
  | .hbm, ⟨56, _⟩ => ⟨S2048x5632, .f32⟩
  | .hbm, ⟨57, _⟩ => ⟨S_, .f32⟩
  | .hbm, ⟨58, _⟩ => ⟨S2048x5632, .f32⟩
  | .hbm, ⟨59, _⟩ => ⟨S2048x5632, .f32⟩
  | .hbm, ⟨60, _⟩ => ⟨S2048x5632, .f32⟩
  | .hbm, ⟨61, _⟩ => ⟨S2048x5632, .f32⟩
  | .hbm, ⟨62, _⟩ => ⟨S2048x5632, .f32⟩
  | .hbm, ⟨63, _⟩ => ⟨S2048x2048, .f32⟩
  | .hbm, ⟨64, _⟩ => ⟨S2048x2048, .f32⟩
  | .hbm, ⟨65, _⟩ => ⟨S_, .f32⟩
  | .hbm, ⟨66, _⟩ => ⟨S2048, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S_, .f32⟩
  | .hbm, ⟨72, _⟩ => ⟨S2048x1, .f32⟩
  | .hbm, ⟨73, _⟩ => ⟨S2048x1, .f32⟩
  | .hbm, ⟨74, _⟩ => ⟨S2048x1, .f32⟩
  | .hbm, ⟨75, _⟩ => ⟨S2048x2048, .f32⟩
  | .hbm, ⟨76, _⟩ => ⟨S2048x2048, .f32⟩
  | .hbm, ⟨77, _⟩ => ⟨S1x2048, .f32⟩
  | .hbm, ⟨78, _⟩ => ⟨S2048x2048, .f32⟩
  | .hbm, ⟨79, _⟩ => ⟨S2048x2048, .f32⟩
  | .hbm, ⟨80, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_5 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_cst_7 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩

abbrev nD : Nat := 1
abbrev τ : Topo := Topo.v7x

variable {F : FTy → Type} [FloatOps F]
-- ==== Kernel3.lean ====
abbrev S2048x2048 : Shape := ⟨2, ![2048, 2048]⟩
abbrev S2048 : Shape := ⟨1, ![2048]⟩
abbrev S2048x6656 : Shape := ⟨2, ![2048, 6656]⟩
abbrev S1x2048 : Shape := ⟨2, ![1, 2048]⟩
abbrev S1024x2048 : Shape := ⟨2, ![1024, 2048]⟩
abbrev S2048x1664 : Shape := ⟨2, ![2048, 1664]⟩
abbrev S1024x1664 : Shape := ⟨2, ![1024, 1664]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x6656, .f32⟩
  | .hbm, ⟨3, _⟩ => ⟨S1x2048, .f32⟩
  | .hbm, ⟨4, _⟩ => ⟨S2048x6656, .bf16⟩
  | .hbm, ⟨5, _⟩ => ⟨S2048x6656, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1664, .bf16⟩
  | .local _ .vmem, ⟨4, _⟩ => ⟨S2048x1664, .bf16⟩
  | .local _ .vmem, ⟨5, _⟩ => ⟨S1024x1664, .f32⟩
  | .local _ .vmem, ⟨6, _⟩ => ⟨S1024x1664, .f32⟩
  | .local _ .vmem, ⟨7, _⟩ => ⟨S1024x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel3Ideal.lean ====
abbrev S2048x2048 : Shape := ⟨2, ![2048, 2048]⟩
abbrev S2048 : Shape := ⟨1, ![2048]⟩
abbrev S2048x6656 : Shape := ⟨2, ![2048, 6656]⟩
abbrev S1x2048 : Shape := ⟨2, ![1, 2048]⟩
abbrev S1024x2048 : Shape := ⟨2, ![1024, 2048]⟩
abbrev S2048x1664 : Shape := ⟨2, ![2048, 1664]⟩
abbrev S1024x1664 : Shape := ⟨2, ![1024, 1664]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x6656, .f32⟩
  | .hbm, ⟨3, _⟩ => ⟨S1x2048, .f32⟩
  | .hbm, ⟨4, _⟩ => ⟨S2048x6656, .bf16⟩
  | .hbm, ⟨5, _⟩ => ⟨S2048x6656, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1664, .bf16⟩
  | .local _ .vmem, ⟨4, _⟩ => ⟨S2048x1664, .bf16⟩
  | .local _ .vmem, ⟨5, _⟩ => ⟨S1024x1664, .f32⟩
  | .local _ .vmem, ⟨6, _⟩ => ⟨S1024x1664, .f32⟩
  | .local _ .vmem, ⟨7, _⟩ => ⟨S1024x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S2048x2048 : Shape := ⟨2, ![2048, 2048]⟩
abbrev S2048 : Shape := ⟨1, ![2048]⟩
abbrev S2048x6656 : Shape := ⟨2, ![2048, 6656]⟩
abbrev S_ : Shape := ⟨0, ![]⟩
abbrev S2048x1 : Shape := ⟨2, ![2048, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x6656, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x6656, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel4.lean ====
abbrev S32x64x6656 : Shape := ⟨3, ![32, 64, 6656]⟩
abbrev S4x128x1024 : Shape := ⟨3, ![4, 128, 1024]⟩
abbrev S4x2x512x128 : Shape := ⟨4, ![4, 2, 512, 128]⟩
abbrev S2048 : Shape := ⟨1, ![2048]⟩
abbrev S512 : Shape := ⟨1, ![512]⟩
abbrev S512x512 : Shape := ⟨2, ![512, 512]⟩
abbrev S32x1x2048 : Shape := ⟨3, ![32, 1, 2048]⟩
abbrev S1x2048 : Shape := ⟨2, ![1, 2048]⟩
abbrev S_ : Shape := ⟨0, ![]⟩
abbrev S2x2048 : Shape := ⟨2, ![2, 2048]⟩
abbrev S8x2048 : Shape := ⟨2, ![8, 2048]⟩
abbrev S16x2048 : Shape := ⟨2, ![16, 2048]⟩
abbrev S1x512 : Shape := ⟨2, ![1, 512]⟩
abbrev S32x64x512 : Shape := ⟨3, ![32, 64, 512]⟩
abbrev S1x64x512 : Shape := ⟨3, ![1, 64, 512]⟩
abbrev S1x1x2048 : Shape := ⟨3, ![1, 1, 2048]⟩
abbrev S64x2048 : Shape := ⟨2, ![64, 2048]⟩
abbrev S64x512 : Shape := ⟨2, ![64, 512]⟩
abbrev S64x128 : Shape := ⟨2, ![64, 128]⟩
abbrev S1x128x1024 : Shape := ⟨3, ![1, 128, 1024]⟩
abbrev S128x1024 : Shape := ⟨2, ![128, 1024]⟩
abbrev S64x1024 : Shape := ⟨2, ![64, 1024]⟩
abbrev S1x1x512x128 : Shape := ⟨4, ![1, 1, 512, 128]⟩
abbrev S512x128 : Shape := ⟨2, ![512, 128]⟩

abbrev nBuf : Space → Nat
  | .hbm => 206
  | .vmem => 21
  | .smem => 0
  | _ => 0

abbrev hbmTy0_0 (i : Nat) : BufTy := match i % 128 with
  | 0 => ⟨S32x64x6656, .f32⟩
  | 1 => ⟨S4x128x1024, .f32⟩
  | 2 => ⟨S4x2x512x128, .f32⟩
  | 3 => ⟨S2048, .f32⟩
  | 4 => ⟨S2048, .f32⟩
  | 5 => ⟨S512, .f32⟩
  | 6 => ⟨S512x512, .f32⟩
  | 7 => ⟨S512, .f32⟩
  | 8 => ⟨S32x1x2048, .f32⟩
  | 9 => ⟨S32x1x2048, .f32⟩
  | 10 => ⟨S1x2048, .f32⟩
  | 11 => ⟨S1x2048, .f32⟩
  | 12 => ⟨S1x2048, .f32⟩
  | 13 => ⟨S1x2048, .f32⟩
  | 14 => ⟨S1x2048, .f32⟩
  | 15 => ⟨S1x2048, .f32⟩
  | 16 => ⟨S1x2048, .f32⟩
  | 17 => ⟨S1x2048, .f32⟩
  | 18 => ⟨S1x2048, .f32⟩
  | 19 => ⟨S1x2048, .f32⟩
  | 20 => ⟨S1x2048, .f32⟩
  | 21 => ⟨S1x2048, .f32⟩
  | 22 => ⟨S1x2048, .f32⟩
  | 23 => ⟨S1x2048, .f32⟩
  | 24 => ⟨S1x2048, .f32⟩
  | 25 => ⟨S1x2048, .f32⟩
  | 26 => ⟨S1x2048, .f32⟩
  | 27 => ⟨S1x2048, .f32⟩
  | 28 => ⟨S1x2048, .f32⟩
  | 29 => ⟨S1x2048, .f32⟩
  | 30 => ⟨S1x2048, .f32⟩
  | 31 => ⟨S1x2048, .f32⟩
  | 32 => ⟨S1x2048, .f32⟩
  | 33 => ⟨S1x2048, .f32⟩
  | 34 => ⟨S1x2048, .f32⟩
  | 35 => ⟨S1x2048, .f32⟩
  | 36 => ⟨S1x2048, .f32⟩
  | 37 => ⟨S1x2048, .f32⟩
  | 38 => ⟨S1x2048, .f32⟩
  | 39 => ⟨S1x2048, .f32⟩
  | 40 => ⟨S1x2048, .f32⟩
  | 41 => ⟨S1x2048, .f32⟩
  | 42 => ⟨S1x2048, .f32⟩
  | 43 => ⟨S1x2048, .f32⟩
  | 44 => ⟨S1x2048, .f32⟩
  | 45 => ⟨S1x2048, .f32⟩
  | 46 => ⟨S1x2048, .f32⟩
  | 47 => ⟨S1x2048, .f32⟩
  | 48 => ⟨S1x2048, .f32⟩
  | 49 => ⟨S1x2048, .f32⟩
  | 50 => ⟨S1x2048, .f32⟩
  | 51 => ⟨S1x2048, .f32⟩
  | 52 => ⟨S1x2048, .f32⟩
  | 53 => ⟨S1x2048, .f32⟩
  | 54 => ⟨S1x2048, .f32⟩
  | 55 => ⟨S1x2048, .f32⟩
  | 56 => ⟨S1x2048, .f32⟩
  | 57 => ⟨S1x2048, .f32⟩
  | 58 => ⟨S1x2048, .f32⟩
  | 59 => ⟨S1x2048, .f32⟩
  | 60 => ⟨S1x2048, .f32⟩
  | 61 => ⟨S1x2048, .f32⟩
  | 62 => ⟨S1x2048, .f32⟩
  | 63 => ⟨S1x2048, .f32⟩
  | 64 => ⟨S1x2048, .f32⟩
  | 65 => ⟨S1x2048, .f32⟩
  | 66 => ⟨S1x2048, .f32⟩
  | 67 => ⟨S1x2048, .f32⟩
  | 68 => ⟨S1x2048, .f32⟩
  | 69 => ⟨S1x2048, .f32⟩
  | 70 => ⟨S1x2048, .f32⟩
  | 71 => ⟨S1x2048, .f32⟩
  | 72 => ⟨S1x2048, .f32⟩
  | 73 => ⟨S1x2048, .f32⟩
  | 74 => ⟨S1x2048, .f32⟩
  | 75 => ⟨S1x2048, .f32⟩
  | 76 => ⟨S1x2048, .f32⟩
  | 77 => ⟨S1x2048, .f32⟩
  | 78 => ⟨S1x2048, .f32⟩
  | 79 => ⟨S1x2048, .f32⟩
  | 80 => ⟨S1x2048, .f32⟩
  | 81 => ⟨S1x2048, .f32⟩
  | 82 => ⟨S1x2048, .f32⟩
  | 83 => ⟨S1x2048, .f32⟩
  | 84 => ⟨S1x2048, .f32⟩
  | 85 => ⟨S1x2048, .f32⟩
  | 86 => ⟨S1x2048, .f32⟩
  | 87 => ⟨S1x2048, .f32⟩
  | 88 => ⟨S1x2048, .f32⟩
  | 89 => ⟨S1x2048, .f32⟩
  | 90 => ⟨S1x2048, .f32⟩
  | 91 => ⟨S1x2048, .f32⟩
  | 92 => ⟨S1x2048, .f32⟩
  | 93 => ⟨S1x2048, .f32⟩
  | 94 => ⟨S1x2048, .f32⟩
  | 95 => ⟨S1x2048, .f32⟩
  | 96 => ⟨S1x2048, .f32⟩
  | 97 => ⟨S1x2048, .f32⟩
  | 98 => ⟨S1x2048, .f32⟩
  | 99 => ⟨S1x2048, .f32⟩
  | 100 => ⟨S1x2048, .f32⟩
  | 101 => ⟨S1x2048, .f32⟩
  | 102 => ⟨S1x2048, .f32⟩
  | 103 => ⟨S1x2048, .f32⟩
  | 104 => ⟨S1x2048, .f32⟩
  | 105 => ⟨S1x2048, .f32⟩
  | 106 => ⟨S1x2048, .f32⟩
  | 107 => ⟨S1x2048, .f32⟩
  | 108 => ⟨S1x2048, .f32⟩
  | 109 => ⟨S1x2048, .f32⟩
  | 110 => ⟨S1x2048, .f32⟩
  | 111 => ⟨S1x2048, .f32⟩
  | 112 => ⟨S1x2048, .f32⟩
  | 113 => ⟨S1x2048, .f32⟩
  | 114 => ⟨S1x2048, .f32⟩
  | 115 => ⟨S1x2048, .f32⟩
  | 116 => ⟨S1x2048, .f32⟩
  | 117 => ⟨S1x2048, .f32⟩
  | 118 => ⟨S1x2048, .f32⟩
  | 119 => ⟨S1x2048, .f32⟩
  | 120 => ⟨S1x2048, .f32⟩
  | 121 => ⟨S1x2048, .f32⟩
  | 122 => ⟨S1x2048, .f32⟩
  | 123 => ⟨S1x2048, .f32⟩
  | 124 => ⟨S1x2048, .f32⟩
  | 125 => ⟨S1x2048, .f32⟩
  | 126 => ⟨S1x2048, .f32⟩
  | 127 => ⟨S1x2048, .f32⟩
  | _ => ⟨S32x64x6656, .f32⟩

abbrev hbmTy0_1 (i : Nat) : BufTy := match i % 128 with
  | 0 => ⟨S1x2048, .f32⟩
  | 1 => ⟨S1x2048, .f32⟩
  | 2 => ⟨S1x2048, .f32⟩
  | 3 => ⟨S1x2048, .f32⟩
  | 4 => ⟨S1x2048, .f32⟩
  | 5 => ⟨S1x2048, .f32⟩
  | 6 => ⟨S1x2048, .f32⟩
  | 7 => ⟨S1x2048, .f32⟩
  | 8 => ⟨S1x2048, .f32⟩
  | 9 => ⟨S1x2048, .f32⟩
  | 10 => ⟨S1x2048, .f32⟩
  | 11 => ⟨S1x2048, .f32⟩
  | 12 => ⟨S1x2048, .f32⟩
  | 13 => ⟨S1x2048, .f32⟩
  | 14 => ⟨S1x2048, .f32⟩
  | 15 => ⟨S1x2048, .f32⟩
  | 16 => ⟨S1x2048, .f32⟩
  | 17 => ⟨S1x2048, .f32⟩
  | 18 => ⟨S1x2048, .f32⟩
  | 19 => ⟨S1x2048, .f32⟩
  | 20 => ⟨S1x2048, .f32⟩
  | 21 => ⟨S1x2048, .f32⟩
  | 22 => ⟨S1x2048, .f32⟩
  | 23 => ⟨S1x2048, .f32⟩
  | 24 => ⟨S1x2048, .f32⟩
  | 25 => ⟨S1x2048, .f32⟩
  | 26 => ⟨S1x2048, .f32⟩
  | 27 => ⟨S1x2048, .f32⟩
  | 28 => ⟨S1x2048, .f32⟩
  | 29 => ⟨S1x2048, .f32⟩
  | 30 => ⟨S1x2048, .f32⟩
  | 31 => ⟨S1x2048, .f32⟩
  | 32 => ⟨S1x2048, .f32⟩
  | 33 => ⟨S1x2048, .f32⟩
  | 34 => ⟨S1x2048, .f32⟩
  | 35 => ⟨S1x2048, .f32⟩
  | 36 => ⟨S1x2048, .f32⟩
  | 37 => ⟨S1x2048, .f32⟩
  | 38 => ⟨S1x2048, .f32⟩
  | 39 => ⟨S1x2048, .f32⟩
  | 40 => ⟨S1x2048, .f32⟩
  | 41 => ⟨S1x2048, .f32⟩
  | 42 => ⟨S1x2048, .f32⟩
  | 43 => ⟨S1x2048, .f32⟩
  | 44 => ⟨S1x2048, .f32⟩
  | 45 => ⟨S1x2048, .f32⟩
  | 46 => ⟨S1x2048, .f32⟩
  | 47 => ⟨S1x2048, .f32⟩
  | 48 => ⟨S1x2048, .f32⟩
  | 49 => ⟨S1x2048, .f32⟩
  | 50 => ⟨S1x2048, .f32⟩
  | 51 => ⟨S1x2048, .f32⟩
  | 52 => ⟨S1x2048, .f32⟩
  | 53 => ⟨S1x2048, .f32⟩
  | 54 => ⟨S1x2048, .f32⟩
  | 55 => ⟨S1x2048, .f32⟩
  | 56 => ⟨S1x2048, .f32⟩
  | 57 => ⟨S1x2048, .f32⟩
  | 58 => ⟨S1x2048, .f32⟩
  | 59 => ⟨S1x2048, .f32⟩
  | 60 => ⟨S1x2048, .f32⟩
  | 61 => ⟨S1x2048, .f32⟩
  | 62 => ⟨S1x2048, .f32⟩
  | 63 => ⟨S1x2048, .f32⟩
  | 64 => ⟨S1x2048, .f32⟩
  | 65 => ⟨S1x2048, .f32⟩
  | 66 => ⟨S_, .f32⟩
  | 67 => ⟨S2x2048, .f32⟩
  | 68 => ⟨S8x2048, .f32⟩
  | 69 => ⟨S16x2048, .f32⟩
  | 70 => ⟨S4x128x1024, .bf16⟩
  | 71 => ⟨S4x2x512x128, .bf16⟩
  | 72 => ⟨S1x512, .f32⟩
  | 73 => ⟨S512x512, .bf16⟩
  | 74 => ⟨S1x512, .f32⟩
  | 75 => ⟨S32x64x512, .bf16⟩
  | 76 => ⟨S32x1x2048, .f32⟩
  | 77 => ⟨S32x1x2048, .f32⟩
  | _ => ⟨S32x64x6656, .f32⟩

abbrev hbmTy (i : Nat) : BufTy := match i / 128 with
  | 0 => hbmTy0_0 i
  | 1 => hbmTy0_1 i
  | _ => ⟨S32x64x6656, .f32⟩

abbrev bufTy : (tb : Table) → Fin (tcTables nBuf tb) → BufTy
  | .hbm, ⟨i, _⟩ => hbmTy i
  | .local _ .vmem, ⟨0, _⟩ => ⟨S1x64x512, .f32⟩
  | .local _ .vmem, ⟨1, _⟩ => ⟨S1x64x512, .f32⟩
  | .local _ .vmem, ⟨2, _⟩ => ⟨S4x128x1024, .bf16⟩
  | .local _ .vmem, ⟨3, _⟩ => ⟨S4x2x512x128, .bf16⟩
  | .local _ .vmem, ⟨4, _⟩ => ⟨S8x2048, .f32⟩
  | .local _ .vmem, ⟨5, _⟩ => ⟨S16x2048, .f32⟩
  | .local _ .vmem, ⟨6, _⟩ => ⟨S1x512, .f32⟩
  | .local _ .vmem, ⟨7, _⟩ => ⟨S512x512, .bf16⟩
  | .local _ .vmem, ⟨8, _⟩ => ⟨S1x512, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x64x512, .bf16⟩
  | .local _ .vmem, ⟨14, _⟩ => ⟨S1x64x512, .bf16⟩
  | .local _ .vmem, ⟨15, _⟩ => ⟨S1x1x2048, .f32⟩
  | .local _ .vmem, ⟨16, _⟩ => ⟨S1x1x2048, .f32⟩
  | .local _ .vmem, ⟨17, _⟩ => ⟨S1x1x2048, .f32⟩
  | .local _ .vmem, ⟨18, _⟩ => ⟨S1x1x2048, .f32⟩
  | .local _ .vmem, ⟨19, _⟩ => ⟨S64x2048, .f32⟩
  | .local _ .vmem, ⟨20, _⟩ => ⟨S64x2048, .f32⟩
  | _, _ => ⟨S32x64x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_cst : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192_0 : Ref sig .tc := ⟨.hbm, 203, rfl⟩
abbrev main_v192_1 : Ref sig .tc := ⟨.hbm, 204, rfl⟩
abbrev main_v192_2 : Ref sig .tc := ⟨.hbm, 205, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![32, 1], ![false, false]⟩

@[reducible] def k0_t1_loop : Scf.Loop 32 :=
  let c0_i32_47 : BitVec 32 := 0#32
  let c8_i32 : BitVec 32 := 8#32
  let v78 : BitVec 32 := Scalar.addi c0_i32_47 c8_i32
  let c1_i32 : BitVec 32 := 1#32
  ⟨c0_i32_47, v78, c1_i32⟩
def k0_mult1 (k0_t1 : Fin k0_t1_loop.trips) : BitVec 32 :=
  let c0_i32_47 : BitVec 32 := 0#32
  let c1_i32 : BitVec 32 := 1#32
  let arg17 : BitVec 32 := Scf.iv c0_i32_47 c1_i32 k0_t1
  let c8_i32_128 : BitVec 32 := 8#32
  let v169 : BitVec 32 := Scalar.muli arg17 c8_i32_128
  v169
def k0_off1 (k0_t1 : Fin k0_t1_loop.trips) : Fin 2 → Nat :=
  let c0_i32_47 : BitVec 32 := 0#32
  let c1_i32 : BitVec 32 := 1#32
  let arg17 : BitVec 32 := Scf.iv c0_i32_47 c1_i32 k0_t1
  let c8_i32_128 : BitVec 32 := 8#32
  let v169 : BitVec 32 := Scalar.muli arg17 c8_i32_128
  let v170 : BitVec 32 := v169
  let v171 : Index := Scalar.indexCast v170
  let c0_129 : Index := 0#32
  ![v171.toNat, 0]
def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x2x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x64x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference4Ideal.lean ====
abbrev S32x64x6656 : Shape := ⟨3, ![32, 64, 6656]⟩
abbrev S4x128x1024 : Shape := ⟨3, ![4, 128, 1024]⟩
abbrev S4x2x512x128 : Shape := ⟨4, ![4, 2, 512, 128]⟩
abbrev S2048 : Shape := ⟨1, ![2048]⟩
abbrev S512 : Shape := ⟨1, ![512]⟩
abbrev S512x512 : Shape := ⟨2, ![512, 512]⟩
abbrev S32x1x2048 : Shape := ⟨3, ![32, 1, 2048]⟩
abbrev S32x64x512 : Shape := ⟨3, ![32, 64, 512]⟩
abbrev S32x64x4x128 : Shape := ⟨4, ![32, 64, 4, 128]⟩
abbrev S4x1024x32x64 : Shape := ⟨4, ![4, 1024, 32, 64]⟩
abbrev S32x64x4x1024 : Shape := ⟨4, ![32, 64, 4, 1024]⟩
abbrev S32x64x4x512 : Shape := ⟨4, ![32, 64, 4, 512]⟩
abbrev S32x64x2048 : Shape := ⟨3, ![32, 64, 2048]⟩
abbrev S32x2048 : Shape := ⟨2, ![32, 2048]⟩
abbrev S64x32x2048 : Shape := ⟨3, ![64, 32, 2048]⟩
abbrev S_ : Shape := ⟨0, ![]⟩
abbrev S1x32x2048 : Shape := ⟨3, ![1, 32, 2048]⟩
abbrev S1x2048 : Shape := ⟨2, ![1, 2048]⟩

abbrev nBuf : Space → Nat
  | .hbm => 60
  | .vmem => 0
  | .smem => 0
  | _ => 0

abbrev bufTy : (tb : Table) → Fin (tcTables nBuf tb) → BufTy
  | .hbm, ⟨0, _⟩ => ⟨S32x64x6656, .f32⟩
  | .hbm, ⟨1, _⟩ => ⟨S4x128x1024, .f32⟩
  | .hbm, ⟨2, _⟩ => ⟨S4x2x512x128, .f32⟩
  | .hbm, ⟨3, _⟩ => ⟨S2048, .f32⟩
  | .hbm, ⟨4, _⟩ => ⟨S2048, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S32x1x2048, .f32⟩
  | .hbm, ⟨9, _⟩ => ⟨S32x1x2048, .f32⟩
  | .hbm, ⟨10, _⟩ => ⟨S32x64x512, .f32⟩
  | .hbm, ⟨11, _⟩ => ⟨S32x64x4x128, .f32⟩
  | .hbm, ⟨12, _⟩ => ⟨S4x1024x32x64, .f32⟩
  | .hbm, ⟨13, _⟩ => ⟨S32x64x4x1024, .f32⟩
  | .hbm, ⟨14, _⟩ => ⟨S32x64x4x512, .f32⟩
  | .hbm, ⟨15, _⟩ => ⟨S32x64x2048, .f32⟩
  | .hbm, ⟨16, _⟩ => ⟨S32x64x4x512, .f32⟩
  | .hbm, ⟨17, _⟩ => ⟨S32x64x2048, .f32⟩
  | .hbm, ⟨18, _⟩ => ⟨S32x2048, .f32⟩
  | .hbm, ⟨19, _⟩ => ⟨S32x2048, .f32⟩
  | .hbm, ⟨20, _⟩ => ⟨S64x32x2048, .f32⟩
  | .hbm, ⟨21, _⟩ => ⟨S64x32x2048, .f32⟩
  | .hbm, ⟨22, _⟩ => ⟨S_, .i32⟩
  | .hbm, ⟨23, _⟩ => ⟨S64x32x2048, .f32⟩
  | .hbm, ⟨24, _⟩ => ⟨S64x32x2048, .f32⟩
  | .hbm, ⟨25, _⟩ => ⟨S2048, .f32⟩
  | .hbm, ⟨26, _⟩ => ⟨S2048, .f32⟩
  | .hbm, ⟨27, _⟩ => ⟨S_, .i32⟩
  | .hbm, ⟨28, _⟩ => ⟨S32x2048, .f32⟩
  | .hbm, ⟨29, _⟩ => ⟨S32x2048, .f32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S1x32x2048, .f32⟩
  | .hbm, ⟨35, _⟩ => ⟨S32x2048, .f32⟩
  | .hbm, ⟨36, _⟩ => ⟨S_, .i32⟩
  | .hbm, ⟨37, _⟩ => ⟨S_, .i32⟩
  | .hbm, ⟨38, _⟩ => ⟨S1x32x2048, .f32⟩
  | .hbm, ⟨39, _⟩ => ⟨S32x2048, .f32⟩
  | .hbm, ⟨40, _⟩ => ⟨S1x2048, .f32⟩
  | .hbm, ⟨41, _⟩ => ⟨S32x2048, .f32⟩
  | .hbm, ⟨42, _⟩ => ⟨S32x2048, .f32⟩
  | .hbm, ⟨43, _⟩ => ⟨S1x2048, .f32⟩
  | .hbm, ⟨44, _⟩ => ⟨S32x2048, .f32⟩
  | .hbm, ⟨45, _⟩ => ⟨S32x2048, .f32⟩
  | .hbm, ⟨46, _⟩ => ⟨S32x2048, .f32⟩
  | .hbm, ⟨47, _⟩ => ⟨S32x2048, .f32⟩
  | .hbm, ⟨48, _⟩ => ⟨S1x2048, .f32⟩
  | .hbm, ⟨49, _⟩ => ⟨S32x2048, .f32⟩
  | .hbm, ⟨50, _⟩ => ⟨S32x2048, .f32⟩
  | .hbm, ⟨51, _⟩ => ⟨S1x2048, .f32⟩
  | .hbm, ⟨52, _⟩ => ⟨S32x2048, .f32⟩
  | .hbm, ⟨53, _⟩ => ⟨S32x2048, .f32⟩
  | .hbm, ⟨54, _⟩ => ⟨S32x2048, .f32⟩
  | .hbm, ⟨55, _⟩ => ⟨S32x2048, .f32⟩
  | .hbm, ⟨56, _⟩ => ⟨S_, .i32⟩
  | .hbm, ⟨57, _⟩ => ⟨S_, .i32⟩
  | .hbm, ⟨58, _⟩ => ⟨S32x1x2048, .f32⟩
  | .hbm, ⟨59, _⟩ => ⟨S32x1x2048, .f32⟩
  | _, _ => ⟨S32x64x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev main_v12_4 : Ref sig .tc := ⟨.hbm, 27, rfl⟩
abbrev main_v12_5 : Ref sig .tc := ⟨.hbm, 28, rfl⟩
abbrev main_v12_6 : Ref sig .tc := ⟨.hbm, 29, rfl⟩
abbrev main_while0c_c_6 : Ref sig .tc := ⟨.hbm, 30, rfl⟩
abbrev main_while0c_v15 : Ref sig .tc := ⟨.hbm, 31, rfl⟩
abbrev main_while0b_call0_c : Ref sig .tc := ⟨.hbm, 32, rfl⟩
abbrev main_while0b_call0_c_0 : Ref sig .tc := ⟨.hbm, 33, rfl⟩
abbrev main_while0b_call0_v0 : Ref sig .tc := ⟨.hbm, 34, rfl⟩
abbrev main_while0b_v15 : Ref sig .tc := ⟨.hbm, 35, rfl⟩
abbrev main_while0b_call1_c : Ref sig .tc := ⟨.hbm, 36, rfl⟩
abbrev main_while0b_call1_c_0 : Ref sig .tc := ⟨.hbm, 37, rfl⟩
abbrev main_while0b_call1_v0 : Ref sig .tc := ⟨.hbm, 38, rfl⟩
abbrev main_while0b_v16 : Ref sig .tc := ⟨.hbm, 39, rfl⟩
abbrev main_while0b_v17 : Ref sig .tc := ⟨.hbm, 40, rfl⟩
abbrev main_while0b_v18 : Ref sig .tc := ⟨.hbm, 41, rfl⟩
abbrev main_while0b_v19 : Ref sig .tc := ⟨.hbm, 42, rfl⟩
abbrev main_while0b_v20 : Ref sig .tc := ⟨.hbm, 43, rfl⟩
abbrev main_while0b_v21 : Ref sig .tc := ⟨.hbm, 44, rfl⟩
abbrev main_while0b_v22 : Ref sig .tc := ⟨.hbm, 45, rfl⟩
abbrev main_while0b_v23 : Ref sig .tc := ⟨.hbm, 46, rfl⟩
abbrev main_while0b_v24 : Ref sig .tc := ⟨.hbm, 47, rfl⟩
abbrev main_while0b_v25 : Ref sig .tc := ⟨.hbm, 48, rfl⟩
abbrev main_while0b_v26 : Ref sig .tc := ⟨.hbm, 49, rfl⟩
abbrev main_while0b_v27 : Ref sig .tc := ⟨.hbm, 50, rfl⟩
abbrev main_while0b_v28 : Ref sig .tc := ⟨.hbm, 51, rfl⟩
abbrev main_while0b_v29 : Ref sig .tc := ⟨.hbm, 52, rfl⟩
abbrev main_while0b_v30 : Ref sig .tc := ⟨.hbm, 53, rfl⟩
abbrev main_while0b_v31 : Ref sig .tc := ⟨.hbm, 54, rfl⟩
abbrev main_while0b_v32 : Ref sig .tc := ⟨.hbm, 55, rfl⟩
abbrev main_while0b_c_6 : Ref sig .tc := ⟨.hbm, 56, rfl⟩
abbrev main_while0b_v33 : Ref sig .tc := ⟨.hbm, 57, rfl⟩
abbrev main_v13 : Ref sig .tc := ⟨.hbm, 58, rfl⟩
abbrev main_v14 : Ref sig .tc := ⟨.hbm, 59, rfl⟩

abbrev nD : Nat := 1
abbrev τ : Topo := Topo.v7x

variable {F : FTy → Type} [FloatOps F]

abbrev main_while0_count : Scf.Loop 32 := ⟨0#32, 64#32, 1#32⟩
-- ==== Kernel5.lean ====
abbrev S32x64x6656 : Shape := ⟨3, ![32, 64, 6656]⟩
abbrev S1x128 : Shape := ⟨2, ![1, 128]⟩
abbrev S4x1536 : Shape := ⟨2, ![4, 1536]⟩
abbrev S32x4x128x128 : Shape := ⟨4, ![32, 4, 128, 128]⟩
abbrev S32x3x1536 : Shape := ⟨3, ![32, 3, 1536]⟩
abbrev S32x64x512 : Shape := ⟨3, ![32, 64, 512]⟩
abbrev S2x64x2048 : Shape := ⟨3, ![2, 64, 2048]⟩
abbrev S2x64x128 : Shape := ⟨3, ![2, 64, 128]⟩
abbrev S2x4x128x128 : Shape := ⟨4, ![2, 4, 128, 128]⟩
abbrev S2x3x1536 : Shape := ⟨3, ![2, 3, 1536]⟩
abbrev S2x64x512 : Shape := ⟨3, ![2, 64, 512]⟩
abbrev S2x72x1536 : Shape := ⟨3, ![2, 72, 1536]⟩
abbrev S64x64 : Shape := ⟨2, ![64, 64]⟩
abbrev S256x256 : Shape := ⟨2, ![256, 256]⟩
abbrev S8x128 : Shape := ⟨2, ![8, 128]⟩
abbrev S1x64x1536 : Shape := ⟨3, ![1, 64, 1536]⟩
abbrev S64x1536 : Shape := ⟨2, ![64, 1536]⟩
abbrev S1x1536 : Shape := ⟨2, ![1, 1536]⟩
abbrev S1x3x1536 : Shape := ⟨3, ![1, 3, 1536]⟩
abbrev S3x1536 : Shape := ⟨2, ![3, 1536]⟩
abbrev S1x64x128 : Shape := ⟨3, ![1, 64, 128]⟩
abbrev S64x128 : Shape := ⟨2, ![64, 128]⟩
abbrev S64 : Shape := ⟨1, ![64]⟩
abbrev S64x1 : Shape := ⟨2, ![64, 1]⟩
abbrev S256x128 : Shape := ⟨2, ![256, 128]⟩
abbrev S256x1 : Shape := ⟨2, ![256, 1]⟩
abbrev S8x256 : Shape := ⟨2, ![8, 256]⟩
abbrev S1x256 : Shape := ⟨2, ![1, 256]⟩
abbrev S1x1x128x128 : Shape := ⟨4, ![1, 1, 128, 128]⟩
abbrev S128x128 : Shape := ⟨2, ![128, 128]⟩
abbrev S64x256 : Shape := ⟨2, ![64, 256]⟩
abbrev S1x1 : Shape := ⟨2, ![1, 1]⟩

abbrev nBuf : Space → Nat
  | .hbm => 10
  | .vmem => 19
  | .smem => 0
  | _ => 0

abbrev bufTy : (tb : Table) → Fin (tcTables nBuf tb) → BufTy
  | .hbm, ⟨0, _⟩ => ⟨S32x64x6656, .f32⟩
  | .hbm, ⟨1, _⟩ => ⟨S1x128, .f32⟩
  | .hbm, ⟨2, _⟩ => ⟨S1x128, .f32⟩
  | .hbm, ⟨3, _⟩ => ⟨S4x1536, .f32⟩
  | .hbm, ⟨4, _⟩ => ⟨S1x128, .f32⟩
  | .hbm, ⟨5, _⟩ => ⟨S32x4x128x128, .f32⟩
  | .hbm, ⟨6, _⟩ => ⟨S32x3x1536, .f32⟩
  | .hbm, ⟨7, _⟩ => ⟨S32x64x512, .bf16⟩
  | .hbm, ⟨8, _⟩ => ⟨S32x4x128x128, .f32⟩
  | .hbm, ⟨9, _⟩ => ⟨S32x3x1536, .f32⟩
  | .local _ .vmem, ⟨0, _⟩ => ⟨S2x64x2048, .f32⟩
  | .local _ .vmem, ⟨1, _⟩ => ⟨S2x64x2048, .f32⟩
  | .local _ .vmem, ⟨2, _⟩ => ⟨S2x64x128, .f32⟩
  | .local _ .vmem, ⟨3, _⟩ => ⟨S2x64x128, .f32⟩
  | .local _ .vmem, ⟨4, _⟩ => ⟨S1x128, .f32⟩
  | .local _ .vmem, ⟨5, _⟩ => ⟨S1x128, .f32⟩
  | .local _ .vmem, ⟨6, _⟩ => ⟨S4x1536, .f32⟩
  | .local _ .vmem, ⟨7, _⟩ => ⟨S1x128, .f32⟩
  | .local _ .vmem, ⟨8, _⟩ => ⟨S2x4x128x128, .f32⟩
  | .local _ .vmem, ⟨9, _⟩ => ⟨S2x4x128x128, .f32⟩
  | .local _ .vmem, ⟨10, _⟩ => ⟨S2x3x1536, .f32⟩
  | .local _ .vmem, ⟨11, _⟩ => ⟨S2x3x1536, .f32⟩
  | .local _ .vmem, ⟨12, _⟩ => ⟨S2x64x512, .bf16⟩
  | .local _ .vmem, ⟨13, _⟩ => ⟨S2x64x512, .bf16⟩
  | .local _ .vmem, ⟨14, _⟩ => ⟨S2x4x128x128, .f32⟩
  | .local _ .vmem, ⟨15, _⟩ => ⟨S2x4x128x128, .f32⟩
  | .local _ .vmem, ⟨16, _⟩ => ⟨S2x3x1536, .f32⟩
  | .local _ .vmem, ⟨17, _⟩ => ⟨S2x3x1536, .f32⟩
  | .local _ .vmem, ⟨18, _⟩ => ⟨S2x72x1536, .f32⟩
  | _, _ => ⟨S32x64x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c46_i32 : BitVec 32 := 46#32
  let c0_i32 : BitVec 32 := 0#32
  ![arg0.toNat, arg1.toNat, c46_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x3x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x64x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2x3x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference5Ideal.lean ====
abbrev S32x64x6656 : Shape := ⟨3, ![32, 64, 6656]⟩
abbrev S1x128 : Shape := ⟨2, ![1, 128]⟩
abbrev S4x1536 : Shape := ⟨2, ![4, 1536]⟩
abbrev S32x4x128x128 : Shape := ⟨4, ![32, 4, 128, 128]⟩
abbrev S32x3x1536 : Shape := ⟨3, ![32, 3, 1536]⟩

abbrev nBuf : Space → Nat
  | .hbm => 8
  | .vmem => 0
  | .smem => 0
  | _ => 0

abbrev bufTy : (tb : Table) → Fin (tcTables nBuf tb) → BufTy
  | .hbm, ⟨0, _⟩ => ⟨S32x64x6656, .f32⟩
  | .hbm, ⟨1, _⟩ => ⟨S1x128, .f32⟩
  | .hbm, ⟨2, _⟩ => ⟨S1x128, .f32⟩
  | .hbm, ⟨3, _⟩ => ⟨S4x1536, .f32⟩
  | .hbm, ⟨4, _⟩ => ⟨S1x128, .f32⟩
  | .hbm, ⟨5, _⟩ => ⟨S32x4x128x128, .f32⟩
  | .hbm, ⟨6, _⟩ => ⟨S32x3x1536, .f32⟩
  | .hbm, ⟨7, _⟩ => ⟨S32x3x1536, .f32⟩
  | _, _ => ⟨S32x64x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩

abbrev nD : Nat := 1
abbrev τ : Topo := Topo.v7x

variable {F : FTy → Type} [FloatOps F]
-- ==== Kernel6.lean ====
abbrev S32x64x6656 : Shape := ⟨3, ![32, 64, 6656]⟩
abbrev S1x1792 : Shape := ⟨2, ![1, 1792]⟩
abbrev S128x1024 : Shape := ⟨2, ![128, 1024]⟩
abbrev S1x512 : Shape := ⟨2, ![1, 512]⟩
abbrev S128x512 : Shape := ⟨2, ![128, 512]⟩
abbrev S32x4x128x128 : Shape := ⟨4, ![32, 4, 128, 128]⟩
abbrev S32x1x1792 : Shape := ⟨3, ![32, 1, 1792]⟩
abbrev S32x64x512 : Shape := ⟨3, ![32, 64, 512]⟩
abbrev S2x64x2048 : Shape := ⟨3, ![2, 64, 2048]⟩
abbrev S2x4x128x128 : Shape := ⟨4, ![2, 4, 128, 128]⟩
abbrev S2x1x1792 : Shape := ⟨3, ![2, 1, 1792]⟩
abbrev S2x64x512 : Shape := ⟨3, ![2, 64, 512]⟩
abbrev S2x72x1792 : Shape := ⟨3, ![2, 72, 1792]⟩
abbrev S64x64 : Shape := ⟨2, ![64, 64]⟩
abbrev S256x256 : Shape := ⟨2, ![256, 256]⟩
abbrev S1x128 : Shape := ⟨2, ![1, 128]⟩
abbrev S128x128 : Shape := ⟨2, ![128, 128]⟩
abbrev S1x64x1792 : Shape := ⟨3, ![1, 64, 1792]⟩
abbrev S64x1792 : Shape := ⟨2, ![64, 1792]⟩
abbrev S1x1x1792 : Shape := ⟨3, ![1, 1, 1792]⟩
abbrev S64x512 : Shape := ⟨2, ![64, 512]⟩
abbrev S64x128 : Shape := ⟨2, ![64, 128]⟩
abbrev S64x1024 : Shape := ⟨2, ![64, 1024]⟩
abbrev S1x1x128x128 : Shape := ⟨4, ![1, 1, 128, 128]⟩
abbrev S256x128 : Shape := ⟨2, ![256, 128]⟩
abbrev S1x64x128 : Shape := ⟨3, ![1, 64, 128]⟩

abbrev nBuf : Space → Nat
  | .hbm => 16
  | .vmem => 23
  | .smem => 0
  | _ => 0

abbrev bufTy : (tb : Table) → Fin (tcTables nBuf tb) → BufTy
  | .hbm, ⟨0, _⟩ => ⟨S32x64x6656, .f32⟩
  | .hbm, ⟨1, _⟩ => ⟨S1x1792, .f32⟩
  | .hbm, ⟨2, _⟩ => ⟨S128x1024, .bf16⟩
  | .hbm, ⟨3, _⟩ => ⟨S1x512, .f32⟩
  | .hbm, ⟨4, _⟩ => ⟨S1x512, .f32⟩
  | .hbm, ⟨5, _⟩ => ⟨S128x512, .bf16⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S32x4x128x128, .f32⟩
  | .hbm, ⟨12, _⟩ => ⟨S32x1x1792, .f32⟩
  | .hbm, ⟨13, _⟩ => ⟨S32x64x512, .bf16⟩
  | .hbm, ⟨14, _⟩ => ⟨S32x4x128x128, .f32⟩
  | .hbm, ⟨15, _⟩ => ⟨S32x1x1792, .f32⟩
  | .local _ .vmem, ⟨0, _⟩ => ⟨S2x64x2048, .f32⟩
  | .local _ .vmem, ⟨1, _⟩ => ⟨S2x64x2048, .f32⟩
  | .local _ .vmem, ⟨2, _⟩ => ⟨S1x1792, .f32⟩
  | .local _ .vmem, ⟨3, _⟩ => ⟨S128x1024, .bf16⟩
  | .local _ .vmem, ⟨4, _⟩ => ⟨S1x512, .f32⟩
  | .local _ .vmem, ⟨5, _⟩ => ⟨S1x512, .f32⟩
  | .local _ .vmem, ⟨6, _⟩ => ⟨S128x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S2x4x128x128, .f32⟩
  | .local _ .vmem, ⟨13, _⟩ => ⟨S2x4x128x128, .f32⟩
  | .local _ .vmem, ⟨14, _⟩ => ⟨S2x1x1792, .f32⟩
  | .local _ .vmem, ⟨15, _⟩ => ⟨S2x1x1792, .f32⟩
  | .local _ .vmem, ⟨16, _⟩ => ⟨S2x64x512, .bf16⟩
  | .local _ .vmem, ⟨17, _⟩ => ⟨S2x64x512, .bf16⟩
  | .local _ .vmem, ⟨18, _⟩ => ⟨S2x4x128x128, .f32⟩
  | .local _ .vmem, ⟨19, _⟩ => ⟨S2x4x128x128, .f32⟩
  | .local _ .vmem, ⟨20, _⟩ => ⟨S2x1x1792, .f32⟩
  | .local _ .vmem, ⟨21, _⟩ => ⟨S2x1x1792, .f32⟩
  | .local _ .vmem, ⟨22, _⟩ => ⟨S2x72x1792, .f32⟩
  | _, _ => ⟨S32x64x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S2x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S2x1x1792 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S2x64x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2x4x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S2x1x1792 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== Reference6Ideal.lean ====
abbrev S32x64x6656 : Shape := ⟨3, ![32, 64, 6656]⟩
abbrev S1x1792 : Shape := ⟨2, ![1, 1792]⟩
abbrev S128x1024 : Shape := ⟨2, ![128, 1024]⟩
abbrev S1x512 : Shape := ⟨2, ![1, 512]⟩
abbrev S128x512 : Shape := ⟨2, ![128, 512]⟩
abbrev S32x4x128x128 : Shape := ⟨4, ![32, 4, 128, 128]⟩
abbrev S32x1x1792 : Shape := ⟨3, ![32, 1, 1792]⟩

abbrev nBuf : Space → Nat
  | .hbm => 14
  | .vmem => 0
  | .smem => 0
  | _ => 0

abbrev bufTy : (tb : Table) → Fin (tcTables nBuf tb) → BufTy
  | .hbm, ⟨0, _⟩ => ⟨S32x64x6656, .f32⟩
  | .hbm, ⟨1, _⟩ => ⟨S1x1792, .f32⟩
  | .hbm, ⟨2, _⟩ => ⟨S128x1024, .bf16⟩
  | .hbm, ⟨3, _⟩ => ⟨S1x512, .f32⟩
  | .hbm, ⟨4, _⟩ => ⟨S1x512, .f32⟩
  | .hbm, ⟨5, _⟩ => ⟨S128x512, .bf16⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S32x4x128x128, .f32⟩
  | .hbm, ⟨12, _⟩ => ⟨S32x1x1792, .f32⟩
  | .hbm, ⟨13, _⟩ => ⟨S32x1x1792, .f32⟩
  | _, _ => ⟨S32x64x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩

abbrev nD : Nat := 1
abbrev τ : Topo := Topo.v7x

variable {F : FTy → Type} [FloatOps F]
-- ==== Kernel7.lean ====
abbrev S32768x2048 : Shape := ⟨2, ![32768, 2048]⟩
abbrev S32768x512 : Shape := ⟨2, ![32768, 512]⟩
abbrev S2048x2048 : Shape := ⟨2, ![2048, 2048]⟩
abbrev S2048 : Shape := ⟨1, ![2048]⟩
abbrev S2048x5632 : Shape := ⟨2, ![2048, 5632]⟩
abbrev S5632x2048 : Shape := ⟨2, ![5632, 2048]⟩
abbrev S4x512x2048 : Shape := ⟨3, ![4, 512, 2048]⟩
abbrev S1x2048 : Shape := ⟨2, ![1, 2048]⟩
abbrev S512x2048 : Shape := ⟨2, ![512, 2048]⟩
abbrev S512x512 : Shape := ⟨2, ![512, 512]⟩
abbrev S2048x512 : Shape := ⟨2, ![2048, 512]⟩
abbrev S1x512x2048 : Shape := ⟨3, ![1, 512, 2048]⟩
abbrev S512 : Shape := ⟨1, ![512]⟩
abbrev S512x1 : Shape := ⟨2, ![512, 1]⟩

abbrev nBuf : Space → Nat
  | .hbm => 21
  | .vmem => 24
  | .smem => 0
  | _ => 0

abbrev bufTy : (tb : Table) → Fin (tcTables nBuf tb) → BufTy
  | .hbm, ⟨0, _⟩ => ⟨S32768x2048, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S2048x5632, .f32⟩
  | .hbm, ⟨9, _⟩ => ⟨S2048x5632, .f32⟩
  | .hbm, ⟨10, _⟩ => ⟨S5632x2048, .f32⟩
  | .hbm, ⟨11, _⟩ => ⟨S2048, .f32⟩
  | .hbm, ⟨12, _⟩ => ⟨S2048x2048, .bf16⟩
  | .hbm, ⟨13, _⟩ => ⟨S4x512x2048, .bf16⟩
  | .hbm, ⟨14, _⟩ => ⟨S1x2048, .f32⟩
  | .hbm, ⟨15, _⟩ => ⟨S1x2048, .f32⟩
  | .hbm, ⟨16, _⟩ => ⟨S2048x5632, .bf16⟩
  | .hbm, ⟨17, _⟩ => ⟨S2048x5632, .bf16⟩
  | .hbm, ⟨18, _⟩ => ⟨S5632x2048, .bf16⟩
  | .hbm, ⟨19, _⟩ => ⟨S1x2048, .f32⟩
  | .hbm, ⟨20, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S4x512x2048, .bf16⟩
  | .local _ .vmem, ⟨11, _⟩ => ⟨S1x2048, .f32⟩
  | .local _ .vmem, ⟨12, _⟩ => ⟨S1x2048, .f32⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S512x2048, .bf16⟩
  | .local _ .vmem, ⟨18, _⟩ => ⟨S512x2048, .bf16⟩
  | .local _ .vmem, ⟨19, _⟩ => ⟨S1x2048, .f32⟩
  | .local _ .vmem, ⟨20, _⟩ => ⟨S512x2048, .f32⟩
  | .local _ .vmem, ⟨21, _⟩ => ⟨S512x2048, .f32⟩
  | .local _ .vmem, ⟨22, _⟩ => ⟨S512x2048, .bf16⟩
  | .local _ .vmem, ⟨23, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![64, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference7Ideal.lean ====
abbrev S32768x2048 : Shape := ⟨2, ![32768, 2048]⟩
abbrev S32768x512 : Shape := ⟨2, ![32768, 512]⟩
abbrev S2048x2048 : Shape := ⟨2, ![2048, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x5632 : Shape := ⟨2, ![32768, 5632]⟩

abbrev nBuf : Space → Nat
  | .hbm => 81
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S2048x5632, .f32⟩
  | .hbm, ⟨9, _⟩ => ⟨S2048x5632, .f32⟩
  | .hbm, ⟨10, _⟩ => ⟨S5632x2048, .f32⟩
  | .hbm, ⟨11, _⟩ => ⟨S2048, .f32⟩
  | .hbm, ⟨12, _⟩ => ⟨S32768x512, .f32⟩
  | .hbm, ⟨13, _⟩ => ⟨S32768x512, .f32⟩
  | .hbm, ⟨14, _⟩ => ⟨S32768x512, .f32⟩
  | .hbm, ⟨15, _⟩ => ⟨S32768x512, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x1, .f32⟩
  | .hbm, ⟨29, _⟩ => ⟨S32768x2048, .f32⟩
  | .hbm, ⟨30, _⟩ => ⟨S32768x2048, .f32⟩
  | .hbm, ⟨31, _⟩ => ⟨S1x2048, .f32⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S32768x2048, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x2048, .f32⟩
  | .hbm, ⟨47, _⟩ => ⟨S32768x2048, .f32⟩
  | .hbm, ⟨48, _⟩ => ⟨S1x2048, .f32⟩
  | .hbm, ⟨49, _⟩ => ⟨S32768x2048, .f32⟩
  | .hbm, ⟨50, _⟩ => ⟨S32768x2048, .f32⟩
  | .hbm, ⟨51, _⟩ => ⟨S32768x5632, .f32⟩
  | .hbm, ⟨52, _⟩ => ⟨S32768x5632, .f32⟩
  | .hbm, ⟨53, _⟩ => ⟨S32768x5632, .f32⟩
  | .hbm, ⟨54, _⟩ => ⟨S_, .f32⟩
  | .hbm, ⟨55, _⟩ => ⟨S32768x5632, .f32⟩
  | .hbm, ⟨56, _⟩ => ⟨S32768x5632, .f32⟩
  | .hbm, ⟨57, _⟩ => ⟨S_, .f32⟩
  | .hbm, ⟨58, _⟩ => ⟨S32768x5632, .f32⟩
  | .hbm, ⟨59, _⟩ => ⟨S32768x5632, .f32⟩
  | .hbm, ⟨60, _⟩ => ⟨S32768x5632, .f32⟩
  | .hbm, ⟨61, _⟩ => ⟨S32768x5632, .f32⟩
  | .hbm, ⟨62, _⟩ => ⟨S32768x5632, .f32⟩
  | .hbm, ⟨63, _⟩ => ⟨S32768x2048, .f32⟩
  | .hbm, ⟨64, _⟩ => ⟨S32768x2048, .f32⟩
  | .hbm, ⟨65, _⟩ => ⟨S_, .f32⟩
  | .hbm, ⟨66, _⟩ => ⟨S32768, .f32⟩
  | .hbm, ⟨67, _⟩ => ⟨S32768x1, .f32⟩
  | .hbm, ⟨68, _⟩ => ⟨S_, .f32⟩
  | .hbm, ⟨69, _⟩ => ⟨S32768x1, .f32⟩
  | .hbm, ⟨70, _⟩ => ⟨S32768x1, .f32⟩
  | .hbm, ⟨71, _⟩ => ⟨S_, .f32⟩
  | .hbm, ⟨72, _⟩ => ⟨S32768x1, .f32⟩
  | .hbm, ⟨73, _⟩ => ⟨S32768x1, .f32⟩
  | .hbm, ⟨74, _⟩ => ⟨S32768x1, .f32⟩
  | .hbm, ⟨75, _⟩ => ⟨S32768x2048, .f32⟩
  | .hbm, ⟨76, _⟩ => ⟨S32768x2048, .f32⟩
  | .hbm, ⟨77, _⟩ => ⟨S1x2048, .f32⟩
  | .hbm, ⟨78, _⟩ => ⟨S32768x2048, .f32⟩
  | .hbm, ⟨79, _⟩ => ⟨S32768x2048, .f32⟩
  | .hbm, ⟨80, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_5 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_cst_7 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩

abbrev nD : Nat := 1
abbrev τ : Topo := Topo.v7x

variable {F : FTy → Type} [FloatOps F]
-- ==== Kernel8.lean ====
abbrev S32768x2048 : Shape := ⟨2, ![32768, 2048]⟩
abbrev S2048 : Shape := ⟨1, ![2048]⟩
abbrev S2048x6656 : Shape := ⟨2, ![2048, 6656]⟩
abbrev S1x2048 : Shape := ⟨2, ![1, 2048]⟩
abbrev S32768x6656 : Shape := ⟨2, ![32768, 6656]⟩
abbrev S1024x2048 : Shape := ⟨2, ![1024, 2048]⟩
abbrev S2048x1664 : Shape := ⟨2, ![2048, 1664]⟩
abbrev S1024x1664 : Shape := ⟨2, ![1024, 1664]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x6656, .f32⟩
  | .hbm, ⟨3, _⟩ => ⟨S1x2048, .f32⟩
  | .hbm, ⟨4, _⟩ => ⟨S2048x6656, .bf16⟩
  | .hbm, ⟨5, _⟩ => ⟨S32768x6656, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1664, .bf16⟩
  | .local _ .vmem, ⟨4, _⟩ => ⟨S2048x1664, .bf16⟩
  | .local _ .vmem, ⟨5, _⟩ => ⟨S1024x1664, .f32⟩
  | .local _ .vmem, ⟨6, _⟩ => ⟨S1024x1664, .f32⟩
  | .local _ .vmem, ⟨7, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S32768x2048 : Shape := ⟨2, ![32768, 2048]⟩
abbrev S2048 : Shape := ⟨1, ![2048]⟩
abbrev S2048x6656 : Shape := ⟨2, ![2048, 6656]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x6656 : Shape := ⟨2, ![32768, 6656]⟩

abbrev nBuf : Space → Nat
  | .hbm => 20
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x6656, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S32768x6656, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Spec.lean ====
module
public import Idealize.ShloMosaic.PureOps
public import Idealize.ShloMosaic.Lib.Pointwise
@[expose] public section
set_option maxRecDepth 16384
noncomputable section

/-! The mLSTM recurrence of one head over one chunk of 64 steps, as plain functions over the extended reals.  `b` are
the running sums of the log forget gates, `li` the input gates, `M` the stabiliser carried in. -/
namespace Mlstm
open Idealize.ShloMosaic Idealize.ShloMosaic.TcCoe

/-- The constant the maxima start from. -/
def ninf : EReal := Ideal.ofBits .f32 0xFF800000#32

/-- Log of the logistic function. -/
def lsig (x : EReal) : EReal :=
  0 - (max (0 - x) 0 + Ideal.log (1 + Ideal.exp (0 - FloatOps.absf (F := Ideal) (φ := .f32) (0 - x))))

/-- Running sums. -/
def bs (f : Fin 64 → EReal) (t : Fin 64) : EReal := ∑ s : Fin 64, if s ≤ t then f s else 0

/-- The log decay from step `s` to step `t`, input gate of `s` included. -/
def logD (b li : Fin 64 → EReal) (t s : Fin 64) : EReal := if s ≤ t then b t - b s + li s else ninf

/-- The stabiliser of step `t`. -/
def mt (b li : Fin 64 → EReal) (M : EReal) (t : Fin 64) : EReal :=
  max (b t + M) (Finset.univ.fold max ninf fun s => logD b li t s)

/-- The weights of the steps within the chunk. -/
def ss (q k : Fin 64 → Fin 128 → EReal) (b li : Fin 64 → EReal) (M : EReal) (t s : Fin 64) : EReal :=
  (∑ d, q t d * k s d) * Ideal.exp (logD b li t s - mt b li M t)

/-- The weight of the carried state. -/
def wc (b li : Fin 64 → EReal) (M : EReal) (t : Fin 64) : EReal := Ideal.exp (b t + M - mt b li M t)

/-- The head's output before normalisation. -/
def hh (q k v : Fin 64 → Fin 128 → EReal) (C : Fin 128 → Fin 128 → EReal) (n : Fin 128 → EReal)
    (b li : Fin 64 → EReal) (M : EReal) (t : Fin 64) (e : Fin 128) : EReal :=
  Ideal.div (∑ s, ss q k b li M t s * v s e + (∑ d, q t d * C d e) * wc b li M t)
    (max (FloatOps.absf (F := Ideal) (φ := .f32) (∑ s, ss q k b li M t s + wc b li M t * ∑ d, q t d * n d))
      (Ideal.exp (0 - mt b li M t)))

/-- The log decay from step `s` to the end of the chunk, input gate included. -/
def tl (b li : Fin 64 → EReal) (s : Fin 64) : EReal := b 63 - b s + li s

/-- The stabiliser carried out. -/
def mnew (b li : Fin 64 → EReal) (M : EReal) : EReal :=
  max (b 63 + M) (Finset.univ.fold max ninf fun s => tl b li s)

/-- The weight of step `s` in the carried state. -/
def wk (b li : Fin 64 → EReal) (M : EReal) (s : Fin 64) : EReal := Ideal.exp (tl b li s - mnew b li M)

/-- The decay of the carried state. -/
def sc (b li : Fin 64 → EReal) (M : EReal) : EReal := Ideal.exp (b 63 + M - mnew b li M)

/-- The matrix state carried out. -/
def cNew (k v : Fin 64 → Fin 128 → EReal) (C : Fin 128 → Fin 128 → EReal) (b li : Fin 64 → EReal) (M : EReal)
    (d e : Fin 128) : EReal :=
  sc b li M * C d e + ∑ s, k s d * (wk b li M s * v s e)

/-- The normaliser state carried out. -/
def nNew (k : Fin 64 → Fin 128 → EReal) (n : Fin 128 → EReal) (b li : Fin 64 → EReal) (M : EReal) (d : Fin 128) : EReal :=
  sc b li M * n d + ∑ s, wk b li M s * k s d

/-- A row minus its mean. -/
def ctr (h : Fin 128 → EReal) (e : Fin 128) : EReal := h e - Ideal.div (∑ d, h d) (Ideal.ofBits .f32 0x43000000#32)

/-- The row normalised, scaled by `g` and gated by the logistic function of `o`. -/
def gated (h o g : Fin 128 → EReal) (e : Fin 128) : EReal :=
  Ideal.div 1 (1 + Ideal.exp (0 - o e)) *
    (ctr h e * Ideal.rsqrt (Ideal.div (∑ d, ctr h d * ctr h d) (Ideal.ofBits .f32 0x43000000#32)
      + Ideal.ofBits .f32 0x358637BD#32) * g e)

/-! ### The layer's arrays: batch element `b`, head `h` -/
section
variable (P : FVec Ideal ⟨3, ![32, 64, 6656]⟩ .f32) (gb : FVec Ideal ⟨2, ![1, 128]⟩ .f32) (g : FVec Ideal ⟨2, ![1, 512]⟩ .f32)
variable (C0 : FVec Ideal ⟨4, ![32, 4, 128, 128]⟩ .f32) (N0 : FVec Ideal ⟨3, ![32, 4, 128]⟩ .f32)
variable (M0 : FVec Ideal ⟨3, ![32, 1, 128]⟩ .f32) (b : Fin 32) (h : Fin 4)

/-- The queries, scaled. -/
def qOf (s : Fin 64) (d : Fin 128) : EReal := P (ix3 b s ⟨128 * h + d, by omega⟩) * Ideal.ofBits .f32 0x3DB504F3#32
/-- The keys. -/
def kOf (s : Fin 64) (d : Fin 128) : EReal := P (ix3 b s ⟨512 + 128 * h + d, by omega⟩)
/-- The values. -/
def vOf (s : Fin 64) (d : Fin 128) : EReal := P (ix3 b s ⟨1024 + 128 * h + d, by omega⟩)
/-- The output gates. -/
def oOf (s : Fin 64) (d : Fin 128) : EReal := P (ix3 b s ⟨1536 + 128 * h + d, by omega⟩)
/-- The input gates. -/
def iOf (s : Fin 64) : EReal := P (ix3 b s ⟨5888 + h, by omega⟩) + gb (ix2 0 ⟨h, by omega⟩)
/-- The running sums of the log forget gates. -/
def bOf : Fin 64 → EReal := bs fun s => lsig (P (ix3 b s ⟨5892 + h, by omega⟩) + gb (ix2 0 ⟨4 + h, by omega⟩))
/-- The stabiliser carried in. -/
def mOf : EReal := M0 (ix3 b 0 ⟨h, by omega⟩)

/-- The matrix states carried out. -/
def arrC : FVec Ideal ⟨4, ![32, 4, 128, 128]⟩ .f32 := fun i =>
  cNew (kOf P (i 0) (i 1)) (vOf P (i 0) (i 1)) (fun d e => C0 (ix4 (i 0) (i 1) d e)) (bOf P gb (i 0) (i 1))
    (iOf P gb (i 0) (i 1)) (mOf M0 (i 0) (i 1)) (i 2) (i 3)

/-- The normaliser states carried out. -/
def arrN : FVec Ideal ⟨3, ![32, 4, 128]⟩ .f32 := fun i =>
  nNew (kOf P (i 0) (i 1)) (fun d => N0 (ix3 (i 0) (i 1) d)) (bOf P gb (i 0) (i 1))
    (iOf P gb (i 0) (i 1)) (mOf M0 (i 0) (i 1)) (i 2)

/-- The stabilisers carried out in the first four lanes; the other lanes as they came in. -/
def arrM : FVec Ideal ⟨3, ![32, 1, 128]⟩ .f32 := fun i =>
  if h : (i 2 : ℕ) < 4 then mnew (bOf P gb (i 0) ⟨i 2, h⟩) (iOf P gb (i 0) ⟨i 2, h⟩) (mOf M0 (i 0) ⟨i 2, h⟩) else M0 i

/-- One head's outputs. -/
def rowY (t : Fin 64) (e : Fin 128) : EReal :=
  gated (hh (qOf P b h) (kOf P b h) (vOf P b h) (fun d e => C0 (ix4 b h d e)) (fun d => N0 (ix3 b h d))
      (bOf P gb b h) (iOf P gb b h) (mOf M0 b h) t) (oOf P b h t) (fun e => g (ix2 0 ⟨128 * h + e, by omega⟩)) e

/-- The outputs, the heads side by side. -/
def arrY : FVec Ideal ⟨3, ![32, 64, 512]⟩ .bf16 := fun i =>
  rowY P gb g C0 N0 M0 (i 0) ⟨(i 2 : ℕ) / 128, by have := (i 2).isLt; simp at this; omega⟩ (i 1) ⟨(i 2 : ℕ) % 128, by omega⟩
end

theorem cNew_congr {k k' v v' : Fin 64 → Fin 128 → EReal} {C C' : Fin 128 → Fin 128 → EReal} {b b' li li' : Fin 64 → EReal}
    {M M' : EReal} (hk : ∀ s d, k s d = k' s d) (hv : ∀ s d, v s d = v' s d) (hC : ∀ d e, C d e = C' d e)
    (hb : ∀ s, b s = b' s) (hl : ∀ s, li s = li' s) (hM : M = M') {d d' e e' : Fin 128} (hd : d = d') (he : e = e') :
    cNew k v C b li M d e = cNew k' v' C' b' li' M' d' e' := by
  obtain rfl : k = k' := funext₂ hk
  obtain rfl : v = v' := funext₂ hv
  obtain rfl : C = C' := funext₂ hC
  obtain rfl : b = b' := funext hb
  obtain rfl : li = li' := funext hl
  rw [hM, hd, he]

theorem nNew_congr {k k' : Fin 64 → Fin 128 → EReal} {n n' : Fin 128 → EReal} {b b' li li' : Fin 64 → EReal}
    {M M' : EReal} (hk : ∀ s d, k s d = k' s d) (hn : ∀ d, n d = n' d)
    (hb : ∀ s, b s = b' s) (hl : ∀ s, li s = li' s) (hM : M = M') {d d' : Fin 128} (hd : d = d') :
    nNew k n b li M d = nNew k' n' b' li' M' d' := by
  obtain rfl : k = k' := funext₂ hk
  obtain rfl : n = n' := funext hn
  obtain rfl : b = b' := funext hb
  obtain rfl : li = li' := funext hl
  rw [hM, hd]

theorem mnew_congr {b b' li li' : Fin 64 → EReal} {M M' : EReal} (hb : ∀ s, b s = b' s) (hl : ∀ s, li s = li' s)
    (hM : M = M') : mnew b li M = mnew b' li' M' := by
  obtain rfl : b = b' := funext hb
  obtain rfl : li = li' := funext hl
  rw [hM]

theorem gated_congr {q q' k k' v v' : Fin 64 → Fin 128 → EReal} {C C' : Fin 128 → Fin 128 → EReal} {n n' o o' g g' : Fin 128 → EReal}
    {b b' li li' : Fin 64 → EReal} {M M' : EReal} (hq : ∀ s d, q s d = q' s d) (hk : ∀ s d, k s d = k' s d)
    (hv : ∀ s d, v s d = v' s d) (hC : ∀ d e, C d e = C' d e) (hn : ∀ d, n d = n' d)
    (hb : ∀ s, b s = b' s) (hl : ∀ s, li s = li' s) (hM : M = M') (ho : ∀ d, o d = o' d) (hg : ∀ d, g d = g' d)
    {t t' : Fin 64} {e e' : Fin 128} (ht : t = t') (he : e = e') :
    gated (hh q k v C n b li M t) o g e = gated (hh q' k' v' C' n' b' li' M' t') o' g' e' := by
  obtain rfl : q = q' := funext₂ hq
  obtain rfl : k = k' := funext₂ hk
  obtain rfl : v = v' := funext₂ hv
  obtain rfl : C = C' := funext₂ hC
  obtain rfl : n = n' := funext hn
  obtain rfl : b = b' := funext hb
  obtain rfl : li = li' := funext hl
  obtain rfl : o = o' := funext ho
  obtain rfl : g = g' := funext hg
  rw [hM, ht, he]

/-! ### Facts of the extended reals -/

theorem split3 {x : EReal} (h : x ≠ ⊤) : x + (x - x) + ((x - x) - (x - x)) = x := by
  induction x using EReal.rec with
  | bot => rfl
  | coe r => norm_cast; simp
  | top => exact absurd rfl h

theorem log_ge {x : EReal} (h : 0 ≤ x) : Ideal.log (1 + x) ≠ ⊥ := by
  induction x using EReal.rec with
  | bot => simp at h
  | top =>
    rw [EReal.add_top_of_ne_bot (by exact EReal.coe_ne_bot 1)]
    exact fun h => by cases h
  | coe r =>
    have hr : 0 ≤ r := by exact_mod_cast h
    have h1 : ((1 : EReal) + (r : EReal)) = ((1 + r : ℝ) : EReal) := by norm_cast
    rw [h1]
    show (if 1 + r ≤ 0 then (⊥ : EReal) else (Real.log (1 + r) : EReal)) ≠ ⊥
    rw [if_neg (by linarith)]
    exact EReal.coe_ne_bot _

theorem exp_nonneg (x : EReal) : 0 ≤ Ideal.exp x := by
  induction x using EReal.rec with
  | bot => exact le_refl _
  | top => exact le_top
  | coe r =>
    show (0 : EReal) ≤ ((Real.exp r : ℝ) : EReal)
    exact_mod_cast (Real.exp_pos r).le

/-- The log forget gate is never plus infinity. -/
theorem lsig_ne_top (x : EReal) : lsig x ≠ ⊤ := by
  unfold lsig
  intro h
  rw [sub_eq_add_neg, zero_add, EReal.neg_eq_top_iff] at h
  rcases EReal.add_eq_bot_iff.1 h with h | h
  · exact absurd h (ne_of_gt (lt_of_lt_of_le EReal.bot_lt_zero (le_max_right _ _)))
  · exact log_ge (exp_nonneg _) h

end Mlstm
-- ==== Proof.Head.lean ====
module
public import proofs.«01_k».proof.Proof.Gen.KernelIdeal.Skeleton
public import proofs.«01_k».proof.Proof.Spec
public import Idealize.ShloMosaic.Lib.WordCmp
public import Idealize.ShloMosaic.Lib.Pipeline.ReadBack
@[expose] public section
set_option maxRecDepth 16384
noncomputable section

/-! What the kernel's values are at an index: one lemma per stage, at variable operands. -/
namespace Cert.KernelIdeal.Mlstm
open Cert.KernelIdeal Cert.KernelIdeal.Gen Idealize.ShloMosaic Idealize.ShloMosaic.TcCoe Idealize.SL.Sem

/-- The lane numbers, as the kernel builds them. -/
abbrev lanes : IVec S1x128 32 := iota .tc S1x128 32 [1] iota_S1x128_d1_w32

theorem sel_val {c : BitVec 1} {p : Prop} [Decidable p] (h : c = 1#1 ↔ p) (a b : EReal) :
    Scalar.select c a b = if p then a else b := by
  by_cases hp : p
  · rw [if_pos hp, h.2 hp]; rfl
  · rw [if_neg hp]
    have hc : c ≠ 1#1 := fun e => hp (h.1 e)
    have : c = 0#1 := (by decide : ∀ c : BitVec 1, c ≠ 1#1 → c = 0#1) c hc
    rw [this]; rfl

theorem sge_val (t s : Fin 64) (a b : EReal) :
    Scalar.select (IntOp.cmpi CmpIPredicate.sge (BitVec.ofNat 32 ↑t) (BitVec.ofNat 32 ↑s)) a b = if s ≤ t then a else b :=
  sel_val (by rw [Fin.le_def]; word_cmp) a b

theorem sle_val (t s : Fin 64) (a b : EReal) :
    Scalar.select (IntOp.cmpi CmpIPredicate.sle (BitVec.ofNat 32 ↑t) (BitVec.ofNat 32 ↑s)) a b = if t ≤ s then a else b :=
  sel_val (by rw [Fin.le_def]; word_cmp) a b

theorem eq_val (t : Fin 8) (s : Fin 128) (a b : EReal) :
    Scalar.select (IntOp.cmpi CmpIPredicate.eq (BitVec.ofNat 32 ↑t) (BitVec.ofNat 32 ↑s)) a b
      = if s = ⟨t, by omega⟩ then a else b :=
  sel_val (by rw [Fin.ext_iff]; word_cmp) a b

theorem lt4_val (s : Fin 128) (a b : EReal) :
    Scalar.select (IntOp.cmpi CmpIPredicate.slt (BitVec.ofNat 32 ↑s) 4#32) a b = if (s : ℕ) < 4 then a else b :=
  sel_val (by word_cmp) a b

/-- Three partial sums of a value cut in three, under a mask, are the masked sum of the value. -/
theorem sum3 {n : ℕ} (p : Fin n → Prop) [DecidablePred p] (x : Fin n → EReal) (hx : ∀ i, p i → x i ≠ ⊤) :
    ∑ i, (if p i then x i else 0) + ∑ i, (if p i then x i - x i else 0)
        + ∑ i, (if p i then x i - x i - (x i - x i) else 0)
      = ∑ i, if p i then x i else 0 := by
  rw [← Finset.sum_add_distrib, ← Finset.sum_add_distrib]
  refine Finset.sum_congr rfl fun i _ => ?_
  by_cases h : p i
  · simp only [if_pos h]; exact Mlstm.split3 (hx i h)
  · simp only [if_neg h, add_zero]

section
variable (G : FVec Ideal S1x64x128 .f32) (gb : FVec Ideal S1x128 .f32)

/-- The log forget gates. -/
theorem lf_at (t : Fin 64) (l : Fin 128) :
    k0_pay10 (F := Ideal) (k0_pay8 G gb) (k0_pay9 G gb) (ix2 t l) = Mlstm.lsig (G (ix3 0 t l) + gb (ix2 0 l)) := by
  pointwise [k0_pay10, k0_pay8, k0_pay9, k0_pay7, k0_pay6, Mlstm.lsig]

/-- Their running sums down the rows. -/
theorem bcol_at (t : Fin 64) (l : Fin 128) :
    k0_pay11 (F := Ideal) k0_pay3 (k0_pay8 G gb) (k0_pay9 G gb) (ix2 t l)
      = Mlstm.bs (fun s => Mlstm.lsig (G (ix3 0 s l) + gb (ix2 0 l))) t := by
  pointwise [k0_pay11, k0_pay3, k0_pay2, lf_at]
  simp only [sge_val]
  exact sum3 (fun s => s ≤ t) (fun s => Mlstm.lsig (G (ix3 0 s l) + gb (ix2 0 l))) fun _ _ => Mlstm.lsig_ne_top _

/-- The same, as the second batch element of a grid point computes it. -/
theorem bcol1_at (t : Fin 64) (l : Fin 128) :
    k0_pay17 (F := Ideal) k0_pay3 G gb (ix2 t l)
      = Mlstm.bs (fun s => Mlstm.lsig (G (ix3 0 s l) + gb (ix2 0 l))) t := bcol_at G gb t l

theorem gate_at (t : Fin 64) (l : Fin 128) : k0_pay6 (F := Ideal) G gb (ix2 t l) = G (ix3 0 t l) + gb (ix2 0 l) := by
  pointwise [k0_pay6]

theorem gate1_at (t : Fin 64) (l : Fin 128) : k0_pay15 (F := Ideal) G gb (ix2 t l) = G (ix3 0 t l) + gb (ix2 0 l) := by
  pointwise [k0_pay15]

/-- What row `r` of the transposed first eight lanes holds: four input gates, four log forget gates. -/
def rowV (l : Fin 128) (s : Fin 64) : EReal :=
  if (l : ℕ) < 4 then G (ix3 0 s l) + gb (ix2 0 l) else Mlstm.lsig (G (ix3 0 s l) + gb (ix2 0 l))

variable (hG : ∀ (s : Fin 64) (l : Fin 128), (l : ℕ) < 4 → G (ix3 0 s l) + gb (ix2 0 l) ≠ ⊤)
include hG

theorem rowV_ne_top (l : Fin 128) (s : Fin 64) : rowV G gb l s ≠ ⊤ := by
  unfold rowV
  by_cases h : (l : ℕ) < 4
  · rw [if_pos h]; exact hG s l h
  · rw [if_neg h]; exact Mlstm.lsig_ne_top _

/-- The first eight lanes, transposed. -/
theorem rows_at (r : Fin 8) (s : Fin 64) :
    k0_pay12 (F := Ideal) k0_pay5 lanes (k0_pay6 G gb) (k0_pay8 G gb) (k0_pay9 G gb) (ix2 r s)
      = rowV G gb ⟨r, by omega⟩ s := by
  have h6 : ∀ l, k0_pay6 (F := Ideal) G gb (ix2 s l) = G (ix3 0 s l) + gb (ix2 0 l) := fun l => by pointwise [k0_pay6]
  pointwise [k0_pay12, k0_pay5, lf_at, h6]
  simp only [eq_val, lt4_val]
  refine (sum3 (fun l => l = ⟨r, by omega⟩) (fun l => rowV G gb l s) fun l _ => rowV_ne_top G gb hG l s).trans ?_
  rw [Finset.sum_ite_eq' Finset.univ _ fun l => rowV G gb l s, if_pos (Finset.mem_univ _)]

/-- Their running sums along the rows. -/
theorem brow_at (r : Fin 8) (hr : ¬ (r : ℕ) < 4) (t : Fin 64) :
    k0_pay13 (F := Ideal) k0_pay4 k0_pay5 lanes (k0_pay6 G gb) (k0_pay8 G gb) (k0_pay9 G gb) (ix2 r t)
      = Mlstm.bs (fun s => Mlstm.lsig (G (ix3 0 s ⟨r, by omega⟩) + gb (ix2 0 ⟨r, by omega⟩))) t := by
  pointwise [k0_pay13, k0_pay4, rows_at G gb hG]
  simp only [sle_val]
  refine (sum3 (fun s => s ≤ t) (fun s => rowV G gb ⟨r, by omega⟩ s) fun s _ => rowV_ne_top G gb hG _ s).trans ?_
  unfold Mlstm.bs rowV
  simp only [if_neg hr]

/-- The same, as the second batch element of a grid point computes it. -/
theorem brow1_at (r : Fin 8) (hr : ¬ (r : ℕ) < 4) (t : Fin 64) :
    k0_pay25 (F := Ideal) k0_pay4 k0_pay5 (k0_pay21 lanes G gb) (k0_pay22 lanes G gb) (k0_pay23 k0_pay5 lanes G gb) (ix2 r t)
      = Mlstm.bs (fun s => Mlstm.lsig (G (ix3 0 s ⟨r, by omega⟩) + gb (ix2 0 ⟨r, by omega⟩))) t := brow_at G gb hG r hr t

theorem irow_at (r : Fin 8) (hr : (r : ℕ) < 4) (s : Fin 64) :
    k0_pay12 (F := Ideal) k0_pay5 lanes (k0_pay6 G gb) (k0_pay8 G gb) (k0_pay9 G gb) (ix2 r s)
      = G (ix3 0 s ⟨r, by omega⟩) + gb (ix2 0 ⟨r, by omega⟩) := by
  rw [rows_at G gb hG r s]
  exact if_pos hr

theorem irow1_at (r : Fin 8) (hr : (r : ℕ) < 4) (s : Fin 64) :
    k0_pay24 (F := Ideal) k0_pay5 (k0_pay21 lanes G gb) (k0_pay22 lanes G gb) (k0_pay23 k0_pay5 lanes G gb) (ix2 r s)
      = G (ix3 0 s ⟨r, by omega⟩) + gb (ix2 0 ⟨r, by omega⟩) := irow_at G gb hG r hr s
end

/-- Where the `n` last stores cover an index, the earlier stores do not matter there. -/
theorem canon_take {Val : EltTy → Type} [∀ e, Nonempty (Val e)] {S : Shape} {e : EltTy} (n : ℕ) (y : S.Idx) :
    ∀ (L : List (View.Piece Val S e)), (∃ p ∈ L.take n, y ∈ p.1.set) → View.canon L y = View.canon (L.take n) y := by
  induction n with
  | zero => rintro L ⟨p, hp, _⟩; simp at hp
  | succ n ih =>
    rintro (_ | ⟨p, L⟩) ⟨q, hq, hy⟩
    · simp at hq
    · rw [List.take_succ_cons] at hq ⊢
      by_cases hm : y ∈ p.1.set
      · obtain ⟨x, rfl⟩ := p.1.exists_idx_of_mem hm
        rw [show p.1.idx x = p.1.emb x from rfl, View.canon_cons_emb, View.canon_cons_emb]
      · rw [View.canon_cons_of_not_mem _ _ hm, View.canon_cons_of_not_mem _ _ hm]
        refine ih L ?_
        rcases List.mem_cons.mp hq with rfl | hq'
        · exact absurd hy hm
        · exact ⟨q, hq', hy⟩

/-- A value picked out of its lane: the sum over the lanes of the values under the mask. -/
theorem pick_at (f : Fin 128 → EReal) (h : ℕ) (hh : h < 128) (w : BitVec 32) (hw : w = BitVec.ofNat 32 h) :
    ∑ x : Fin 128, Scalar.select (IntOp.cmpi CmpIPredicate.eq (BitVec.ofNat 32 ↑x) w) (f x) (0 : EReal) = f ⟨h, hh⟩ := by
  subst hw
  have : ∀ x : Fin 128, Scalar.select (IntOp.cmpi CmpIPredicate.eq (BitVec.ofNat 32 ↑x) (BitVec.ofNat 32 h)) (f x) (0 : EReal)
      = if x = ⟨h, hh⟩ then f x else 0 := fun x => sel_val (by rw [Fin.ext_iff]; word_cmp) _ _
  simp only [this]
  rw [Finset.sum_ite_eq' Finset.univ _ f, if_pos (Finset.mem_univ _)]

theorem lane_val (l h : ℕ) (hl : l < 128) (hh : h < 128) (a b : EReal) :
    Scalar.select (IntOp.cmpi CmpIPredicate.eq (BitVec.ofNat 32 l) (BitVec.ofNat 32 h)) a b = if l = h then a else b :=
  sel_val (by word_cmp) _ _

/-- Four values written in the first four lanes of a row. -/
theorem m_at (r : FVec Ideal S1x128 .f32) (f0 f1 f2 f3 : FVec Ideal S1x1 .f32) (z w : Fin 1) (l : Fin 128)
    (R : Fin 4 → EReal) (h0 : f0 (ix2 0 0) = R 0) (h1 : f1 (ix2 0 0) = R 1) (h2 : f2 (ix2 0 0) = R 2) (h3 : f3 (ix2 0 0) = R 3) :
    k0_pay261 (F := Ideal) lanes r f0 f1 f2 f3 (ix3 z w l)
      = if h : (l : ℕ) < 4 then R ⟨l, h⟩ else r (ix2 0 l) := by
  have hl := l.isLt
  pointwise [k0_pay261]
  rw [lane_val l 3 hl (by omega), lane_val l 2 hl (by omega), lane_val l 1 hl (by omega), lane_val l 0 hl (by omega), h0, h1, h2, h3]
  by_cases h : (l : ℕ) < 4
  · rw [dif_pos h]
    obtain ⟨l, hl'⟩ := l
    simp only at h ⊢
    interval_cases l <;> rfl
  · rw [dif_neg h, if_neg (by omega), if_neg (by omega), if_neg (by omega), if_neg (by omega)]

/-- Reads of an array at equal positions are equal. -/
theorem at2 {α : Type} {n0 n1 : ℕ} (X : Shape.Idx ⟨2, ![n0, n1]⟩ → α) {a a' : Fin n0} {b b' : Fin n1}
    (h0 : a.val = a'.val) (h1 : b.val = b'.val) : X (ix2 a b) = X (ix2 a' b') := by
  rw [Fin.ext h0, Fin.ext h1]

theorem at3 {α : Type} {n0 n1 n2 : ℕ} (X : Shape.Idx ⟨3, ![n0, n1, n2]⟩ → α) {a a' : Fin n0} {b b' : Fin n1} {c c' : Fin n2}
    (h0 : a.val = a'.val) (h1 : b.val = b'.val) (h2 : c.val = c'.val) : X (ix3 a b c) = X (ix3 a' b' c') := by
  rw [Fin.ext h0, Fin.ext h1, Fin.ext h2]

theorem at4 {α : Type} {n0 n1 n2 n3 : ℕ} (X : Shape.Idx ⟨4, ![n0, n1, n2, n3]⟩ → α) {a a' : Fin n0} {b b' : Fin n1} {c c' : Fin n2}
    {d d' : Fin n3} (h0 : a.val = a'.val) (h1 : b.val = b'.val) (h2 : c.val = c'.val) (h3 : d.val = d'.val) :
    X (ix4 a b c d) = X (ix4 a' b' c' d') := by
  rw [Fin.ext h0, Fin.ext h1, Fin.ext h2, Fin.ext h3]

section
variable (q k v : FVec Ideal S64x128 .f32) (C : FVec Ideal S128x128 .f32) (n : FVec Ideal S1x128 .f32)
variable (lic bc : FVec Ideal S64x1 .f32) (lir br : FVec Ideal S1x64 .f32) (mp : FVec Ideal S1x1 .f32)

/-- The stabiliser carried out. -/
theorem mnew_at :
    k0_pay182 (F := Ideal) lic bc mp (ix2 0 0)
      = Mlstm.mnew (fun s => bc (ix2 s 0)) (fun s => lic (ix2 s 0)) (mp (ix2 0 0)) := by
  pointwise [k0_pay182, k0_pay181, k0_pay180, Mlstm.mnew, Mlstm.tl, Mlstm.ninf]

theorem wk_at (s : Fin 64) :
    k0_pay183 (F := Ideal) lic bc mp (ix2 s 0)
      = Mlstm.wk (fun s => bc (ix2 s 0)) (fun s => lic (ix2 s 0)) (mp (ix2 0 0)) s := by
  pointwise [k0_pay183, k0_pay181, k0_pay180, mnew_at, Mlstm.wk, Mlstm.tl]

theorem sc_at :
    Ideal.exp (k0_pay184 (F := Ideal) lic bc mp (ix2 0 0))
      = Mlstm.sc (fun s => bc (ix2 s 0)) (fun s => lic (ix2 s 0)) (mp (ix2 0 0)) := by
  pointwise [k0_pay184, k0_pay180, mnew_at, Mlstm.sc]

/-- The matrix state carried out. -/
theorem c_at (z w : Fin 1) (d e : Fin 128) :
    k0_pay186 (F := Ideal) k v C (k0_pay183 lic bc mp) (k0_pay184 lic bc mp) (ix4 z w d e)
      = Mlstm.cNew (fun s d => k (ix2 s d)) (fun s d => v (ix2 s d)) (fun d e => C (ix2 d e))
          (fun s => bc (ix2 s 0)) (fun s => lic (ix2 s 0)) (mp (ix2 0 0)) d e := by
  pointwise [k0_pay186, k0_pay185, wk_at, sc_at, Mlstm.cNew]

/-- The normaliser state carried out. -/
theorem n_at (z w : Fin 1) (d : Fin 128) :
    k0_pay233 (F := Ideal) k n (k0_pay183 lic bc mp) (k0_pay185 (k0_pay184 lic bc mp)) (ix3 z w d)
      = Mlstm.nNew (fun s d => k (ix2 s d)) (fun d => n (ix2 0 d))
          (fun s => bc (ix2 s 0)) (fun s => lic (ix2 s 0)) (mp (ix2 0 0)) d := by
  pointwise [k0_pay233, k0_pay185, wk_at, sc_at, Mlstm.nNew]

variable (mv : FVec Ideal S1x128 .f32)
variable (hb : ∀ t : Fin 64, br (ix2 0 t) = bc (ix2 t 0)) (hl : ∀ t : Fin 64, lir (ix2 0 t) = lic (ix2 t 0))
include hb hl

theorem logD_at (t s : Fin 64) :
    k0_pay39 (F := Ideal) k0_pay2 bc lir br (ix2 t s)
      = Mlstm.logD (fun s => bc (ix2 s 0)) (fun s => lic (ix2 s 0)) t s := by
  pointwise [k0_pay39, k0_pay2, hb, hl, Mlstm.logD, Mlstm.ninf]
  exact sge_val _ _ _ _

/-- The stabiliser of step `t`. -/
theorem mt_at (t : Fin 64) :
    k0_pay41 (F := Ideal) k0_pay2 bc lir br mv (ix2 t 0)
      = Mlstm.mt (fun s => bc (ix2 s 0)) (fun s => lic (ix2 s 0)) (k0_pay36 (F := Ideal) mv (ix2 0 0)) t := by
  pointwise [k0_pay41, k0_pay40, logD_at lic bc lir br hb hl, Mlstm.mt, Mlstm.ninf]

theorem wc_at (t : Fin 64) :
    k0_pay147 (F := Ideal) (k0_pay40 bc mv) (k0_pay41 k0_pay2 bc lir br mv) (ix2 t 0)
      = Mlstm.wc (fun s => bc (ix2 s 0)) (fun s => lic (ix2 s 0)) (k0_pay36 (F := Ideal) mv (ix2 0 0)) t := by
  pointwise [k0_pay147, k0_pay40, mt_at lic bc lir br mv hb hl, Mlstm.wc]

/-- The weights of the steps within the chunk. -/
theorem ss_at (t s : Fin 64) :
    k0_pay146 (F := Ideal) q k (k0_pay39 k0_pay2 bc lir br) (k0_pay41 k0_pay2 bc lir br mv) (ix2 t s)
      = Mlstm.ss (fun s d => q (ix2 s d)) (fun s d => k (ix2 s d)) (fun s => bc (ix2 s 0)) (fun s => lic (ix2 s 0))
          (k0_pay36 (F := Ideal) mv (ix2 0 0)) t s := by
  pointwise [k0_pay146, logD_at lic bc lir br hb hl, mt_at lic bc lir br mv hb hl, Mlstm.ss]

/-- The head's output before normalisation. -/
theorem hh_at (t : Fin 64) (d : Fin 128) :
    k0_pay167 (F := Ideal) q n (k0_pay41 k0_pay2 bc lir br mv)
        (k0_pay146 q k (k0_pay39 k0_pay2 bc lir br) (k0_pay41 k0_pay2 bc lir br mv))
        (k0_pay147 (k0_pay40 bc mv) (k0_pay41 k0_pay2 bc lir br mv))
        (k0_pay164 v (k0_pay146 q k (k0_pay39 k0_pay2 bc lir br) (k0_pay41 k0_pay2 bc lir br mv)))
        (k0_pay165 q) (k0_pay166 C) (ix2 t d)
      = Mlstm.hh (fun s d => q (ix2 s d)) (fun s d => k (ix2 s d)) (fun s d => v (ix2 s d)) (fun d e => C (ix2 d e))
          (fun d => n (ix2 0 d)) (fun s => bc (ix2 s 0)) (fun s => lic (ix2 s 0)) (k0_pay36 (F := Ideal) mv (ix2 0 0)) t d := by
  pointwise [k0_pay167, k0_pay164, k0_pay165, k0_pay166, ss_at q k lic bc lir br mv hb hl,
    mt_at lic bc lir br mv hb hl, wc_at lic bc lir br mv hb hl, Mlstm.hh]

/-- The result of the head: normalised, scaled and gated. -/
theorem y_at (o : FVec Ideal S64x128 .f32) (g : FVec Ideal S1x128 .f32) (z : Fin 1) (t : Fin 64) (e : Fin 128) :
    k0_pay243 (F := Ideal) o (k0_pay167 (F := Ideal) q n (k0_pay41 k0_pay2 bc lir br mv)
        (k0_pay146 q k (k0_pay39 k0_pay2 bc lir br) (k0_pay41 k0_pay2 bc lir br mv))
        (k0_pay147 (k0_pay40 bc mv) (k0_pay41 k0_pay2 bc lir br mv))
        (k0_pay164 v (k0_pay146 q k (k0_pay39 k0_pay2 bc lir br) (k0_pay41 k0_pay2 bc lir br mv)))
        (k0_pay165 q) (k0_pay166 C)) g (ix3 z t e)
      = Mlstm.gated (Mlstm.hh (fun s d => q (ix2 s d)) (fun s d => k (ix2 s d)) (fun s d => v (ix2 s d)) (fun d e => C (ix2 d e))
          (fun d => n (ix2 0 d)) (fun s => bc (ix2 s 0)) (fun s => lic (ix2 s 0)) (k0_pay36 (F := Ideal) mv (ix2 0 0)) t)
          (fun e => o (ix2 t e)) (fun e => g (ix2 0 e)) e := by
  pointwise [k0_pay243, hh_at q k v C n lic bc lir br mv hb hl, Mlstm.gated, Mlstm.ctr]
omit hl in
/-- The same with the input gates read along the row. -/
theorem y_row (o : FVec Ideal S64x128 .f32) (g : FVec Ideal S1x128 .f32) (z : Fin 1) (t : Fin 64) (e : Fin 128) :
    k0_pay243 (F := Ideal) o (k0_pay167 (F := Ideal) q n (k0_pay41 k0_pay2 bc lir br mv)
        (k0_pay146 q k (k0_pay39 k0_pay2 bc lir br) (k0_pay41 k0_pay2 bc lir br mv))
        (k0_pay147 (k0_pay40 bc mv) (k0_pay41 k0_pay2 bc lir br mv))
        (k0_pay164 v (k0_pay146 q k (k0_pay39 k0_pay2 bc lir br) (k0_pay41 k0_pay2 bc lir br mv)))
        (k0_pay165 q) (k0_pay166 C)) g (ix3 z t e)
      = Mlstm.gated (Mlstm.hh (fun s d => q (ix2 s d)) (fun s d => k (ix2 s d)) (fun s d => v (ix2 s d)) (fun d e => C (ix2 d e))
          (fun d => n (ix2 0 d)) (fun s => bc (ix2 s 0)) (fun s => lir (ix2 0 s)) (k0_pay36 (F := Ideal) mv (ix2 0 0)) t)
          (fun e => o (ix2 t e)) (fun e => g (ix2 0 e)) e :=
  y_at q k v C n (fun i => lir (ix2 0 (i 0))) bc lir br mv hb (fun _ => rfl) o g z t e
end
end Cert.KernelIdeal.Mlstm
-- ==== Proof.Blocks.lean ====
module
public import proofs.«01_k».proof.Proof.Gen.KernelIdeal.Value
public import proofs.«01_k».proof.Proof.Head
public import Idealize.ShloMosaic.Lib.Pipeline.ValueKit
public import Idealize.ShloMosaic.Lib.Pointwise
@[expose] public section
set_option maxRecDepth 16384
noncomputable section
namespace Cert.KernelIdeal.Mlstm
open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ)

theorem idx : ∀ t : Fin cfg0.N, win0_0.index t = ![t.val, 0, 0] ∧ win0_1.index t = ![t.val, 0, 46] ∧ win0_2.index t = ![0, 0]
    ∧ win0_3.index t = ![0, 0] ∧ win0_4.index t = ![t.val, 0, 0, 0] ∧ win0_5.index t = ![t.val, 0, 0]
    ∧ win0_6.index t = ![t.val, 0, 0] ∧ win0_7.index t = ![t.val, 0, 0] ∧ win0_8.index t = ![t.val, 0, 0, 0]
    ∧ win0_9.index t = ![t.val, 0, 0] ∧ win0_10.index t = ![t.val, 0, 0] :=
  (by decide +kernel : ∀ t : Fin grid0.N, _)

theorem N16 : cfg0.N = 16 := by decide +kernel

/-! What each staged block holds of its array, at point `t`. -/
theorem blk1 (c : Dev nD) (t : Fin cfg0.N) (z : Fin 2) (s : Fin 64) (l : Fin 128) :
    (iblk m c 1 t : FVec Ideal S2x64x128 .f32) (ix3 z s l)
      = (m ((c.tc : Thread nD τ).loc main_arg0) : FVec Ideal S32x64x6656 .f32) (ix3 ⟨2 * t.val + z, by have := t.isLt; have := N16; omega⟩ s ⟨5888 + l, by omega⟩) := by
  blk_point [iblk, V, idx t]
theorem blk2 (c : Dev nD) (t : Fin cfg0.N) (z : Fin 1) (l : Fin 128) :
    (iblk m c 2 t : FVec Ideal S1x128 .f32) (ix2 z l)
      = (m ((c.tc : Thread nD τ).loc main_arg1) : FVec Ideal S1x128 .f32) (ix2 0 l) := by
  blk_point [iblk, V, idx t]
theorem blk0 (c : Dev nD) (t : Fin cfg0.N) (z : Fin 2) (s : Fin 64) (l : Fin 2048) :
    (X0_0 m c t : FVec Ideal S2x64x2048 .f32) (ix3 z s l)
      = (m ((c.tc : Thread nD τ).loc main_arg0) : FVec Ideal S32x64x6656 .f32) (ix3 ⟨2 * t.val + z, by have := t.isLt; have := N16; omega⟩ s ⟨l, by omega⟩) := by
  unfold X0_0 Pipeline.Window.fill
  rw [dif_pos (moved0_0 t _)]
  blk_point [iblk, V, idx t]
theorem blk3 (c : Dev nD) (t : Fin cfg0.N) (z : Fin 1) (l : Fin 512) :
    (iblk m c 3 t : FVec Ideal S1x512 .f32) (ix2 z l)
      = (m ((c.tc : Thread nD τ).loc main_arg2) : FVec Ideal S1x512 .f32) (ix2 0 l) := by
  blk_point [iblk, V, idx t]
theorem blk4 (c : Dev nD) (t : Fin cfg0.N) (z : Fin 2) (h : Fin 4) (d e : Fin 128) :
    (iblk m c 4 t : FVec Ideal S2x4x128x128 .f32) (ix4 z h d e)
      = (m ((c.tc : Thread nD τ).loc main_arg3) : FVec Ideal S32x4x128x128 .f32) (ix4 ⟨2 * t.val + z, by have := t.isLt; have := N16; omega⟩ h d e) := by
  blk_point [iblk, V, idx t]
theorem blk5 (c : Dev nD) (t : Fin cfg0.N) (z : Fin 2) (h : Fin 4) (d : Fin 128) :
    (iblk m c 5 t : FVec Ideal S2x4x128 .f32) (ix3 z h d)
      = (m ((c.tc : Thread nD τ).loc main_arg4) : FVec Ideal S32x4x128 .f32) (ix3 ⟨2 * t.val + z, by have := t.isLt; have := N16; omega⟩ h d) := by
  blk_point [iblk, V, idx t]
theorem blk6 (c : Dev nD) (t : Fin cfg0.N) (z : Fin 2) (w : Fin 1) (d : Fin 128) :
    (iblk m c 6 t : FVec Ideal S2x1x128 .f32) (ix3 z w d)
      = (m ((c.tc : Thread nD τ).loc main_arg5) : FVec Ideal S32x1x128 .f32) (ix3 ⟨2 * t.val + z, by have := t.isLt; have := N16; omega⟩ 0 d) := by
  blk_point [iblk, V, idx t]

end Cert.KernelIdeal.Mlstm
-- ==== Proof.PointC.lean ====
module
public import proofs.«01_k».proof.Proof.Gen.KernelIdeal.Value
public import proofs.«01_k».proof.Proof.Head
public import proofs.«01_k».proof.Proof.Blocks
public import Idealize.ShloMosaic.Lib.Pipeline.ValueKit
public import Idealize.ShloMosaic.Lib.Pointwise
@[expose] public section
set_option maxRecDepth 16384
noncomputable section
namespace Cert.KernelIdeal.Mlstm
open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ)

/-- The matrix states after the run. -/
theorem finalC (c : Dev nD) : (dats m 0 c).arrAt 8 cfg0.N
    = Mlstm.arrC (m ((c.tc : Thread nD τ).loc main_arg0)) (m ((c.tc : Thread nD τ).loc main_arg1)) (m ((c.tc : Thread nD τ).loc main_arg3)) (m ((c.tc : Thread nD τ).loc main_arg5)) := by
  refine (dats m 0 c).arrAt_eq_of_covers 8 _ (by decide +kernel) fun t _ y => ?_
  have ht : t.val < 16 := lt_of_lt_of_eq t.isLt N16
  have hy0 : (y 0 : ℕ) < 2 := (y 0).isLt
  have hy1 : (y 1 : ℕ) < 4 := (y 1).isLt
  have e : ((View.whole main_v0_1).slice (win0_8.rect t)).emb y
      = (ix4 ⟨2 * t.val + (y 0 : ℕ), by omega⟩ ⟨(y 1 : ℕ), by omega⟩ (y 2) (y 3) : S32x4x128x128.Idx) := by
    blk_ext [idx t]
  blk_simp
  rw [after0_8]
  unfold outsAt0
  frame_out
  refine (canon_take (S := S2x4x128x128) 8 y _ ?_).trans ?_
  case refine_1 =>
    set_option maxRecDepth 1000000 in exact View.cover_of_tiled (s := S2x4x128x128) _ ![1, 1, 128, 128] (by rfl) y
  dsimp only [List.take]
  canon_tiles x h
  all_goals (
    simp (disch := decide) only [View.readCov_fill]
    idx_vars x
    refine (c_at _ _ _ _ _ _ _ _ _ _).trans (.trans ?_ (congrArg _ e.symm))
    refine Mlstm.cNew_congr (fun s d => ?_) (fun s d => ?_) (fun d e => ?_) (fun s => ?_) (fun s => ?_) ?_ (Fin.ext h2.symm) (Fin.ext h3.symm)
    · pointwise [k0_pay28, k0_pay44, k0_pay59, k0_pay74, k0_pay89, k0_pay90, k0_pay43, k0_pay58, k0_pay104, k0_pay105, k0_pay119, k0_pay120, k0_pay133, k0_pay134, k0_pay29, k0_pay75, k0_pay37, k0_pay38, k0_pay45, k0_pay52, k0_pay53, k0_pay60, k0_pay68, k0_pay69, k0_pay76, k0_pay83, k0_pay84, k0_pay91, k0_pay98, k0_pay99, k0_pay106, k0_pay113, k0_pay114, k0_pay121, k0_pay127, k0_pay128, k0_pay135, k0_pay30, k0_pay141, k0_pay142, blk0, Mlstm.kOf]
      exact at3 _ (by first | omega | (simp <;> omega) | rfl) rfl (by first | omega | (simp <;> omega) | rfl)
    · pointwise [k0_pay28, k0_pay44, k0_pay59, k0_pay74, k0_pay89, k0_pay90, k0_pay43, k0_pay58, k0_pay104, k0_pay105, k0_pay119, k0_pay120, k0_pay133, k0_pay134, k0_pay29, k0_pay75, k0_pay37, k0_pay38, k0_pay45, k0_pay52, k0_pay53, k0_pay60, k0_pay68, k0_pay69, k0_pay76, k0_pay83, k0_pay84, k0_pay91, k0_pay98, k0_pay99, k0_pay106, k0_pay113, k0_pay114, k0_pay121, k0_pay127, k0_pay128, k0_pay135, k0_pay30, k0_pay141, k0_pay142, blk0, Mlstm.vOf]
      exact at3 _ (by first | omega | (simp <;> omega) | rfl) rfl (by first | omega | (simp <;> omega) | rfl)
    · pointwise [k0_pay28, k0_pay44, k0_pay59, k0_pay74, k0_pay89, k0_pay90, k0_pay43, k0_pay58, k0_pay104, k0_pay105, k0_pay119, k0_pay120, k0_pay133, k0_pay134, k0_pay29, k0_pay75, k0_pay37, k0_pay38, k0_pay45, k0_pay52, k0_pay53, k0_pay60, k0_pay68, k0_pay69, k0_pay76, k0_pay83, k0_pay84, k0_pay91, k0_pay98, k0_pay99, k0_pay106, k0_pay113, k0_pay114, k0_pay121, k0_pay127, k0_pay128, k0_pay135, k0_pay30, k0_pay141, k0_pay142, blk4]
      exact at4 _ (by first | omega | (simp <;> omega) | rfl) (by first | omega | (simp <;> omega) | rfl) rfl rfl
    · pointwise [k0_pay31, k0_pay32, k0_pay33, k0_pay34, k0_pay46, k0_pay47, k0_pay48, k0_pay49, k0_pay61, k0_pay62, k0_pay63, k0_pay64, k0_pay77, k0_pay78, k0_pay79, k0_pay80, k0_pay92, k0_pay93, k0_pay94, k0_pay95, k0_pay107, k0_pay108, k0_pay109, k0_pay110, k0_pay122, k0_pay123, k0_pay124, k0_pay125, k0_pay136, k0_pay137, k0_pay138, k0_pay139, bcol_at, bcol1_at, blk1, blk2, Mlstm.bOf]
      refine congrArg (fun f => Mlstm.bs f s) (funext fun s => congrArg Mlstm.lsig ?_)
      exact congrArg₂ (· + ·) (at3 _ (by first | omega | (simp <;> omega) | rfl) rfl (by first | omega | (simp <;> omega) | rfl)) (at2 _ rfl (by first | omega | (simp <;> omega) | rfl))
    · pointwise [k0_pay31, k0_pay32, k0_pay33, k0_pay34, k0_pay46, k0_pay47, k0_pay48, k0_pay49, k0_pay61, k0_pay62, k0_pay63, k0_pay64, k0_pay77, k0_pay78, k0_pay79, k0_pay80, k0_pay92, k0_pay93, k0_pay94, k0_pay95, k0_pay107, k0_pay108, k0_pay109, k0_pay110, k0_pay122, k0_pay123, k0_pay124, k0_pay125, k0_pay136, k0_pay137, k0_pay138, k0_pay139, gate_at, gate1_at, blk1, blk2, Mlstm.iOf]
      exact congrArg₂ (· + ·) (at3 _ (by first | omega | (simp <;> omega) | rfl) rfl (by first | omega | (simp <;> omega) | rfl)) (at2 _ rfl (by first | omega | (simp <;> omega) | rfl))
    · pointwise [k0_pay14, k0_pay26, k0_pay35, k0_pay36, k0_pay50, k0_pay51, k0_pay65, k0_pay66, k0_pay67, k0_pay81, k0_pay82, k0_pay96, k0_pay97, k0_pay111, k0_pay112, k0_pay126, k0_pay140, blk6, Mlstm.mOf]
      refine (pick_at _ (y 1 : ℕ) (by omega) _ (congrArg (BitVec.ofNat 32) (by omega))).trans ?_
      exact at3 _ (by first | omega | (simp <;> omega) | rfl) rfl rfl)

end Cert.KernelIdeal.Mlstm
-- ==== Proof.PointN.lean ====
module
public import proofs.«01_k».proof.Proof.Gen.KernelIdeal.Value
public import proofs.«01_k».proof.Proof.Head
public import proofs.«01_k».proof.Proof.Blocks
public import Idealize.ShloMosaic.Lib.Pipeline.ValueKit
public import Idealize.ShloMosaic.Lib.Pointwise
@[expose] public section
set_option maxRecDepth 16384
noncomputable section
namespace Cert.KernelIdeal.Mlstm
open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ)

/-- The normaliser states after the run. -/
theorem finalN (c : Dev nD) : (dats m 0 c).arrAt 9 cfg0.N
    = Mlstm.arrN (m ((c.tc : Thread nD τ).loc main_arg0)) (m ((c.tc : Thread nD τ).loc main_arg1)) (m ((c.tc : Thread nD τ).loc main_arg4)) (m ((c.tc : Thread nD τ).loc main_arg5)) := by
  refine (dats m 0 c).arrAt_eq_of_covers 9 _ (by decide +kernel) fun t _ y => ?_
  have ht : t.val < 16 := lt_of_lt_of_eq t.isLt N16
  have hy0 : (y 0 : ℕ) < 2 := (y 0).isLt
  have hy1 : (y 1 : ℕ) < 4 := (y 1).isLt
  have e : ((View.whole main_v0_2).slice (win0_9.rect t)).emb y
      = (ix3 ⟨2 * t.val + (y 0 : ℕ), by omega⟩ ⟨(y 1 : ℕ), by omega⟩ (y 2) : S32x4x128.Idx) := by
    blk_ext [idx t]
  blk_simp
  rw [after0_9]
  unfold outsAt0
  frame_out
  refine (canon_take (S := S2x4x128) 8 y _ ?_).trans ?_
  case refine_1 =>
    set_option maxRecDepth 1000000 in exact View.cover_of_tiled (s := S2x4x128) _ ![1, 1, 128] (by rfl) y
  dsimp only [List.take]
  canon_tiles x h
  all_goals (
    simp (disch := decide) only [View.readCov_fill]
    idx_vars x
    refine (n_at _ _ _ _ _ _ _ _).trans (.trans ?_ (congrArg _ e.symm))
    refine Mlstm.nNew_congr (fun s d => ?_) (fun d => ?_) (fun s => ?_) (fun s => ?_) ?_ (Fin.ext h2.symm)
    · pointwise [k0_pay28, k0_pay44, k0_pay59, k0_pay74, k0_pay89, k0_pay90, k0_pay43, k0_pay58, k0_pay104, k0_pay105, k0_pay119, k0_pay120, k0_pay133, k0_pay134, k0_pay29, k0_pay75, k0_pay37, k0_pay38, k0_pay45, k0_pay52, k0_pay53, k0_pay60, k0_pay68, k0_pay69, k0_pay76, k0_pay83, k0_pay84, k0_pay91, k0_pay98, k0_pay99, k0_pay106, k0_pay113, k0_pay114, k0_pay121, k0_pay127, k0_pay128, k0_pay135, k0_pay30, k0_pay141, k0_pay142, blk0, Mlstm.kOf]
      exact at3 _ (by first | omega | (simp <;> omega) | rfl) rfl (by first | omega | (simp <;> omega) | rfl)
    · pointwise [k0_pay28, k0_pay44, k0_pay59, k0_pay74, k0_pay89, k0_pay90, k0_pay43, k0_pay58, k0_pay104, k0_pay105, k0_pay119, k0_pay120, k0_pay133, k0_pay134, k0_pay29, k0_pay75, k0_pay37, k0_pay38, k0_pay45, k0_pay52, k0_pay53, k0_pay60, k0_pay68, k0_pay69, k0_pay76, k0_pay83, k0_pay84, k0_pay91, k0_pay98, k0_pay99, k0_pay106, k0_pay113, k0_pay114, k0_pay121, k0_pay127, k0_pay128, k0_pay135, k0_pay30, k0_pay141, k0_pay142, blk5]
      exact at3 _ (by first | omega | (simp <;> omega) | rfl) (by first | omega | (simp <;> omega) | rfl) rfl
    · pointwise [k0_pay31, k0_pay32, k0_pay33, k0_pay34, k0_pay46, k0_pay47, k0_pay48, k0_pay49, k0_pay61, k0_pay62, k0_pay63, k0_pay64, k0_pay77, k0_pay78, k0_pay79, k0_pay80, k0_pay92, k0_pay93, k0_pay94, k0_pay95, k0_pay107, k0_pay108, k0_pay109, k0_pay110, k0_pay122, k0_pay123, k0_pay124, k0_pay125, k0_pay136, k0_pay137, k0_pay138, k0_pay139, bcol_at, bcol1_at, blk1, blk2, Mlstm.bOf]
      refine congrArg (fun f => Mlstm.bs f s) (funext fun s => congrArg Mlstm.lsig ?_)
      exact congrArg₂ (· + ·) (at3 _ (by first | omega | (simp <;> omega) | rfl) rfl (by first | omega | (simp <;> omega) | rfl)) (at2 _ rfl (by first | omega | (simp <;> omega) | rfl))
    · pointwise [k0_pay31, k0_pay32, k0_pay33, k0_pay34, k0_pay46, k0_pay47, k0_pay48, k0_pay49, k0_pay61, k0_pay62, k0_pay63, k0_pay64, k0_pay77, k0_pay78, k0_pay79, k0_pay80, k0_pay92, k0_pay93, k0_pay94, k0_pay95, k0_pay107, k0_pay108, k0_pay109, k0_pay110, k0_pay122, k0_pay123, k0_pay124, k0_pay125, k0_pay136, k0_pay137, k0_pay138, k0_pay139, gate_at, gate1_at, blk1, blk2, Mlstm.iOf]
      exact congrArg₂ (· + ·) (at3 _ (by first | omega | (simp <;> omega) | rfl) rfl (by first | omega | (simp <;> omega) | rfl)) (at2 _ rfl (by first | omega | (simp <;> omega) | rfl))
    · pointwise [k0_pay14, k0_pay26, k0_pay35, k0_pay36, k0_pay50, k0_pay51, k0_pay65, k0_pay66, k0_pay67, k0_pay81, k0_pay82, k0_pay96, k0_pay97, k0_pay111, k0_pay112, k0_pay126, k0_pay140, blk6, Mlstm.mOf]
      refine (pick_at _ (y 1 : ℕ) (by omega) _ (congrArg (BitVec.ofNat 32) (by omega))).trans ?_
      exact at3 _ (by first | omega | (simp <;> omega) | rfl) rfl rfl)

end Cert.KernelIdeal.Mlstm
-- ==== Proof.PointM.lean ====
module
public import proofs.«01_k».proof.Proof.Gen.KernelIdeal.Value
public import proofs.«01_k».proof.Proof.Head
public import proofs.«01_k».proof.Proof.Blocks
public import Idealize.ShloMosaic.Lib.Pipeline.ValueKit
public import Idealize.ShloMosaic.Lib.Pointwise
@[expose] public section
set_option maxRecDepth 16384
noncomputable section
namespace Cert.KernelIdeal.Mlstm
open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ)

/-- The stabilisers after the run. -/
theorem finalM (c : Dev nD) : (dats m 0 c).arrAt 10 cfg0.N
    = Mlstm.arrM (m ((c.tc : Thread nD τ).loc main_arg0)) (m ((c.tc : Thread nD τ).loc main_arg1)) (m ((c.tc : Thread nD τ).loc main_arg5)) := by
  refine (dats m 0 c).arrAt_eq_of_covers 10 _ (by decide +kernel) fun t _ y => ?_
  have ht : t.val < 16 := lt_of_lt_of_eq t.isLt N16
  have hy0 : (y 0 : ℕ) < 2 := (y 0).isLt
  have e : ((View.whole main_v0_3).slice (win0_10.rect t)).emb y
      = (ix3 ⟨2 * t.val + (y 0 : ℕ), by omega⟩ (y 1) (y 2) : S32x1x128.Idx) := by
    blk_ext [idx t]
  blk_simp
  rw [after0_10]
  unfold outsAt0
  frame_out
  refine (canon_take (S := S2x1x128) 2 y _ ?_).trans ?_
  case refine_1 =>
    set_option maxRecDepth 1000000 in exact View.cover_of_tiled (s := S2x1x128) _ ![1, 1, 128] (by rfl) y
  dsimp only [List.take]
  canon_tiles x h
  all_goals (
    simp (disch := decide) only [View.readCov_fill]
    idx_vars x
    refine (m_at _ _ _ _ _ _ _ _ (fun h => Mlstm.mnew (Mlstm.bOf (m ((c.tc : Thread nD τ).loc main_arg0)) (m ((c.tc : Thread nD τ).loc main_arg1)) ⟨2 * t.val + (y 0 : ℕ), by omega⟩ h)
      (Mlstm.iOf (m ((c.tc : Thread nD τ).loc main_arg0)) (m ((c.tc : Thread nD τ).loc main_arg1)) ⟨2 * t.val + (y 0 : ℕ), by omega⟩ h)
      (Mlstm.mOf (m ((c.tc : Thread nD τ).loc main_arg5)) ⟨2 * t.val + (y 0 : ℕ), by omega⟩ h)) ?_ ?_ ?_ ?_).trans (.trans ?_ (congrArg _ e.symm))
    rotate_right
    · obtain rfl : y 2 = x2 := Fin.ext h2
      refine dite_congr rfl (fun _ => rfl) fun _ => ?_
      pointwise [k0_pay14, k0_pay26, k0_pay35, k0_pay36, k0_pay50, k0_pay51, k0_pay65, k0_pay66, k0_pay67, k0_pay81, k0_pay82, k0_pay96, k0_pay97, k0_pay111, k0_pay112, k0_pay126, k0_pay140, blk6]
      exact at3 _ (by first | omega | (simp <;> omega) | rfl) (by first | omega | (simp <;> omega) | rfl) rfl
    all_goals
      refine (mnew_at _ _ _).trans (Mlstm.mnew_congr (fun s => ?_) (fun s => ?_) ?_)
      · pointwise [k0_pay31, k0_pay32, k0_pay33, k0_pay34, k0_pay46, k0_pay47, k0_pay48, k0_pay49, k0_pay61, k0_pay62, k0_pay63, k0_pay64, k0_pay77, k0_pay78, k0_pay79, k0_pay80, k0_pay92, k0_pay93, k0_pay94, k0_pay95, k0_pay107, k0_pay108, k0_pay109, k0_pay110, k0_pay122, k0_pay123, k0_pay124, k0_pay125, k0_pay136, k0_pay137, k0_pay138, k0_pay139, bcol_at, bcol1_at, blk1, blk2, Mlstm.bOf]
        refine congrArg (fun f => Mlstm.bs f s) (funext fun s => congrArg Mlstm.lsig ?_)
        exact congrArg₂ (· + ·) (at3 _ (by first | omega | (simp <;> omega) | rfl) rfl (by first | omega | (simp <;> omega) | rfl)) (at2 _ rfl (by first | omega | (simp <;> omega) | rfl))
      · pointwise [k0_pay31, k0_pay32, k0_pay33, k0_pay34, k0_pay46, k0_pay47, k0_pay48, k0_pay49, k0_pay61, k0_pay62, k0_pay63, k0_pay64, k0_pay77, k0_pay78, k0_pay79, k0_pay80, k0_pay92, k0_pay93, k0_pay94, k0_pay95, k0_pay107, k0_pay108, k0_pay109, k0_pay110, k0_pay122, k0_pay123, k0_pay124, k0_pay125, k0_pay136, k0_pay137, k0_pay138, k0_pay139, gate_at, gate1_at, blk1, blk2, Mlstm.iOf]
        exact congrArg₂ (· + ·) (at3 _ (by first | omega | (simp <;> omega) | rfl) rfl (by first | omega | (simp <;> omega) | rfl)) (at2 _ rfl (by first | omega | (simp <;> omega) | rfl))
      · pointwise [k0_pay14, k0_pay26, k0_pay35, k0_pay36, k0_pay50, k0_pay51, k0_pay65, k0_pay66, k0_pay67, k0_pay81, k0_pay82, k0_pay96, k0_pay97, k0_pay111, k0_pay112, k0_pay126, k0_pay140, blk6, Mlstm.mOf]
        refine (pick_at _ _ (by omega) _ rfl).trans ?_
        exact at3 _ (by first | omega | (simp <;> omega) | rfl) rfl rfl)

end Cert.KernelIdeal.Mlstm
-- ==== Proof.PointY.lean ====
module
public import proofs.«01_k».proof.Proof.Gen.KernelIdeal.Value
public import proofs.«01_k».proof.Proof.Head
public import proofs.«01_k».proof.Proof.Blocks
public import Idealize.ShloMosaic.Lib.Pipeline.ValueKit
public import Idealize.ShloMosaic.Lib.Pointwise
@[expose] public section
set_option maxRecDepth 16384
noncomputable section
namespace Cert.KernelIdeal.Mlstm
open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ)

set_option maxHeartbeats 4000000 in
/-- The outputs after the run. -/
theorem finalY (c : Dev nD)
    (hpre : ∀ (b : Fin 32) (s : Fin 64) (h : Fin 4), Mlstm.iOf (m ((c.tc : Thread nD τ).loc main_arg0)) (m ((c.tc : Thread nD τ).loc main_arg1)) b h s ≠ ⊤) : (dats m 0 c).arrAt 7 cfg0.N
    = Mlstm.arrY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 7 _ (by decide +kernel) fun t _ y => ?_
  have ht : t.val < 16 := lt_of_lt_of_eq t.isLt N16
  have hy0 : (y 0 : ℕ) < 2 := (y 0).isLt
  have hy2 : (y 2 : ℕ) < 512 := (y 2).isLt
  have e : ((View.whole main_v0_0).slice (win0_7.rect t)).emb y
      = (ix3 ⟨2 * t.val + (y 0 : ℕ), by omega⟩ (y 1) (y 2) : S32x64x512.Idx) := by
    blk_ext [idx t]
  blk_simp
  rw [after0_7]
  unfold outsAt0
  frame_out
  canon_tiles x h
  all_goals (
    simp (disch := decide) only [View.readCov_fill]
    idx_vars x
    refine (y_row _ _ _ _ _ _ _ _ _ (fun s => ?_) _ _ _ _ _).trans (.trans ?_ (congrArg _ e.symm))
    · pointwise [k0_pay31, k0_pay32, k0_pay33, k0_pay34, k0_pay46, k0_pay47, k0_pay48, k0_pay49, k0_pay61, k0_pay62, k0_pay63, k0_pay64, k0_pay77, k0_pay78, k0_pay79, k0_pay80, k0_pay92, k0_pay93, k0_pay94, k0_pay95, k0_pay107, k0_pay108, k0_pay109, k0_pay110, k0_pay122, k0_pay123, k0_pay124, k0_pay125, k0_pay136, k0_pay137, k0_pay138, k0_pay139]
      first
      | refine (brow_at _ _ (fun s l hl => ?_) _ (by decide) _).trans (bcol_at _ _ _ _).symm
      | refine (brow1_at _ _ (fun s l hl => ?_) _ (by decide) _).trans (bcol1_at _ _ _ _).symm
      pointwise [blk1, blk2]
      exact fun h => hpre ⟨_, _⟩ s ⟨l, hl⟩ h
    have he : x2 = ⟨(y 2 : ℕ) % 128, Nat.mod_lt _ (by decide)⟩ := Fin.ext (show (x2 : ℕ) = (y 2 : ℕ) % 128 by omega)
    unfold Mlstm.arrY Mlstm.rowY
    refine Mlstm.gated_congr (fun s d => ?_) (fun s d => ?_) (fun s d => ?_) (fun d e => ?_) (fun d => ?_) (fun s => ?_) (fun s => ?_) ?_
      (fun d => ?_) (fun d => ?_) (Fin.ext h1.symm) he
    · pointwise [k0_pay27, k0_pay42, k0_pay57, k0_pay73, k0_pay88, k0_pay103, k0_pay118, k0_pay132, blk0, Mlstm.qOf]
      exact congrArg (· * _) (at3 _ (by first | omega | (simp <;> omega) | rfl) rfl (by first | omega | (simp <;> omega) | rfl))
    · pointwise [k0_pay28, k0_pay44, k0_pay59, k0_pay74, k0_pay89, k0_pay90, k0_pay43, k0_pay58, k0_pay104, k0_pay105, k0_pay119, k0_pay120, k0_pay133, k0_pay134, k0_pay29, k0_pay75, k0_pay37, k0_pay38, k0_pay45, k0_pay52, k0_pay53, k0_pay60, k0_pay68, k0_pay69, k0_pay76, k0_pay83, k0_pay84, k0_pay91, k0_pay98, k0_pay99, k0_pay106, k0_pay113, k0_pay114, k0_pay121, k0_pay127, k0_pay128, k0_pay135, k0_pay30, k0_pay141, k0_pay142, blk0, Mlstm.kOf]
      exact at3 _ (by first | omega | (simp <;> omega) | rfl) rfl (by first | omega | (simp <;> omega) | rfl)
    · pointwise [k0_pay28, k0_pay44, k0_pay59, k0_pay74, k0_pay89, k0_pay90, k0_pay43, k0_pay58, k0_pay104, k0_pay105, k0_pay119, k0_pay120, k0_pay133, k0_pay134, k0_pay29, k0_pay75, k0_pay37, k0_pay38, k0_pay45, k0_pay52, k0_pay53, k0_pay60, k0_pay68, k0_pay69, k0_pay76, k0_pay83, k0_pay84, k0_pay91, k0_pay98, k0_pay99, k0_pay106, k0_pay113, k0_pay114, k0_pay121, k0_pay127, k0_pay128, k0_pay135, k0_pay30, k0_pay141, k0_pay142, blk0, Mlstm.vOf]
      exact at3 _ (by first | omega | (simp <;> omega) | rfl) rfl (by first | omega | (simp <;> omega) | rfl)
    · pointwise [k0_pay28, k0_pay44, k0_pay59, k0_pay74, k0_pay89, k0_pay90, k0_pay43, k0_pay58, k0_pay104, k0_pay105, k0_pay119, k0_pay120, k0_pay133, k0_pay134, k0_pay29, k0_pay75, k0_pay37, k0_pay38, k0_pay45, k0_pay52, k0_pay53, k0_pay60, k0_pay68, k0_pay69, k0_pay76, k0_pay83, k0_pay84, k0_pay91, k0_pay98, k0_pay99, k0_pay106, k0_pay113, k0_pay114, k0_pay121, k0_pay127, k0_pay128, k0_pay135, k0_pay30, k0_pay141, k0_pay142, blk4]
      exact at4 _ (by first | omega | (simp <;> omega) | rfl) (by first | omega | (simp <;> omega) | rfl) rfl rfl
    · pointwise [k0_pay28, k0_pay44, k0_pay59, k0_pay74, k0_pay89, k0_pay90, k0_pay43, k0_pay58, k0_pay104, k0_pay105, k0_pay119, k0_pay120, k0_pay133, k0_pay134, k0_pay29, k0_pay75, k0_pay37, k0_pay38, k0_pay45, k0_pay52, k0_pay53, k0_pay60, k0_pay68, k0_pay69, k0_pay76, k0_pay83, k0_pay84, k0_pay91, k0_pay98, k0_pay99, k0_pay106, k0_pay113, k0_pay114, k0_pay121, k0_pay127, k0_pay128, k0_pay135, k0_pay30, k0_pay141, k0_pay142, blk5]
      exact at3 _ (by first | omega | (simp <;> omega) | rfl) (by first | omega | (simp <;> omega) | rfl) rfl
    · pointwise [k0_pay31, k0_pay32, k0_pay33, k0_pay34, k0_pay46, k0_pay47, k0_pay48, k0_pay49, k0_pay61, k0_pay62, k0_pay63, k0_pay64, k0_pay77, k0_pay78, k0_pay79, k0_pay80, k0_pay92, k0_pay93, k0_pay94, k0_pay95, k0_pay107, k0_pay108, k0_pay109, k0_pay110, k0_pay122, k0_pay123, k0_pay124, k0_pay125, k0_pay136, k0_pay137, k0_pay138, k0_pay139, bcol_at, bcol1_at, blk1, blk2, Mlstm.bOf]
      refine congrArg (fun f => Mlstm.bs f s) (funext fun s => congrArg Mlstm.lsig ?_)
      exact congrArg₂ (· + ·) (at3 _ (by first | omega | (simp <;> omega) | rfl) rfl (by first | omega | (simp <;> omega) | rfl)) (at2 _ rfl (by first | omega | (simp <;> omega) | rfl))
    · pointwise [k0_pay31, k0_pay32, k0_pay33, k0_pay34, k0_pay46, k0_pay47, k0_pay48, k0_pay49, k0_pay61, k0_pay62, k0_pay63, k0_pay64, k0_pay77, k0_pay78, k0_pay79, k0_pay80, k0_pay92, k0_pay93, k0_pay94, k0_pay95, k0_pay107, k0_pay108, k0_pay109, k0_pay110, k0_pay122, k0_pay123, k0_pay124, k0_pay125, k0_pay136, k0_pay137, k0_pay138, k0_pay139]
      first
      | refine (irow_at _ _ (fun s l hl => ?_) _ (by decide) _).trans ?_
      | refine (irow1_at _ _ (fun s l hl => ?_) _ (by decide) _).trans ?_
      · pointwise [blk1, blk2]
        exact fun h => hpre ⟨_, _⟩ s ⟨l, hl⟩ h
      pointwise [blk1, blk2, Mlstm.iOf]
      exact congrArg₂ (· + ·) (at3 _ (by first | omega | (simp <;> omega) | rfl) rfl (by first | omega | (simp <;> omega) | rfl)) (at2 _ rfl (by first | omega | (simp <;> omega) | rfl))
    · pointwise [k0_pay14, k0_pay26, k0_pay35, k0_pay36, k0_pay50, k0_pay51, k0_pay65, k0_pay66, k0_pay67, k0_pay81, k0_pay82, k0_pay96, k0_pay97, k0_pay111, k0_pay112, k0_pay126, k0_pay140, blk6, Mlstm.mOf]
      refine (pick_at _ ((y 2 : ℕ) / 128) (by omega) _ (congrArg (BitVec.ofNat 32) (by omega))).trans ?_
      exact at3 _ (by first | omega | (simp <;> omega) | rfl) rfl rfl
    · pointwise [k0_pay28, k0_pay44, k0_pay59, k0_pay74, k0_pay89, k0_pay90, k0_pay43, k0_pay58, k0_pay104, k0_pay105, k0_pay119, k0_pay120, k0_pay133, k0_pay134, k0_pay29, k0_pay75, k0_pay37, k0_pay38, k0_pay45, k0_pay52, k0_pay53, k0_pay60, k0_pay68, k0_pay69, k0_pay76, k0_pay83, k0_pay84, k0_pay91, k0_pay98, k0_pay99, k0_pay106, k0_pay113, k0_pay114, k0_pay121, k0_pay127, k0_pay128, k0_pay135, k0_pay30, k0_pay141, k0_pay142, blk0, Mlstm.oOf]
      exact at3 _ (by first | omega | (simp <;> omega) | rfl) h1.symm (by first | omega | (simp <;> omega) | rfl)
    · pointwise [blk3]
      exact at2 _ rfl (by first | omega | (simp <;> omega) | rfl))

end Cert.KernelIdeal.Mlstm
-- ==== Proof.Ref.lean ====
module
public import proofs.«01_k».proof.Proof.Gen.ReferenceIdeal.Read
public import proofs.«01_k».proof.Proof.Spec
public import Idealize.ShloMosaic.Lib.Pointwise
public import Idealize.ShloMosaic.Lib.WordCmp
@[expose] public section
set_option maxRecDepth 16384
noncomputable section

/-! What the reference computes, stage by stage, in terms of the recurrence's functions. -/
namespace Cert.ReferenceIdeal.Mlstm
open Idealize.ShloMosaic Idealize.ShloMosaic.TcCoe Idealize.SL.Sem Cert.ReferenceIdeal Cert.ReferenceIdeal.Read

/-- A left fold that adds is a sum. -/
theorem foldl_sum {α : Type} (l : List α) (f : α → EReal) (v : EReal) : l.foldl (fun r n => r + f n) v = v + (l.map f).sum := by
  induction l generalizing v with
  | nil => simp
  | cons a l ih => rw [List.foldl_cons, ih, List.map_cons, List.sum_cons, add_assoc]

/-- A window that ends at `t` and starts at or before zero holds the entries up to `t`. -/
theorem window_sum (f : Fin 64 → EReal) (t : Fin 64) :
    (∑ w : Fin 64, if h : 63 ≤ (t : ℕ) + (w : ℕ) then f ⟨(t : ℕ) + (w : ℕ) - 63, by omega⟩ else 0) = ∑ s : Fin 64, if s ≤ t then f s else 0 := by
  rw [← Finset.sum_filter]
  have e : ∀ w : Fin 64, (if h : 63 ≤ (t : ℕ) + (w : ℕ) then f ⟨(t : ℕ) + (w : ℕ) - 63, by omega⟩ else 0)
      = if 63 ≤ (t : ℕ) + (w : ℕ) then f ⟨((t : ℕ) + (w : ℕ) - 63) % 64, by omega⟩ else 0 := fun w => by
    split
    · exact congrArg f (Fin.ext (Nat.mod_eq_of_lt (by omega)).symm)
    · rfl
  simp only [e]
  rw [← Finset.sum_filter]
  refine Finset.sum_bij' (fun w _ => ⟨((t : ℕ) + (w : ℕ) - 63) % 64, by omega⟩) (fun s _ => ⟨(63 + (s : ℕ) - (t : ℕ)) % 64, by omega⟩) ?_ ?_ ?_ ?_ ?_
  · intro w hw
    have := (Finset.mem_filter.1 hw).2
    refine Finset.mem_filter.2 ⟨Finset.mem_univ _, ?_⟩
    rw [Fin.le_def]
    simp only
    omega
  · intro s hs
    have := (Finset.mem_filter.1 hs).2
    rw [Fin.le_def] at this
    refine Finset.mem_filter.2 ⟨Finset.mem_univ _, ?_⟩
    simp only
    omega
  · intro w hw
    have := (Finset.mem_filter.1 hw).2
    apply Fin.ext
    simp only
    omega
  · intro s hs
    have := (Finset.mem_filter.1 hs).2
    rw [Fin.le_def] at this
    apply Fin.ext
    simp only
    omega
  · intro w hw
    rfl

/-- The running sum along the last axis. -/
theorem cumsum_at (x : FVec Ideal S32x4x64 .f32) (init : FVec Ideal S_ .f32) (hi : ∀ i, init i = (0 : EReal)) (b : Fin 32) (h : Fin 4) (t : Fin 64)
    (hw : S32x4x64.ReduceWindows ![1, 1, 64] ![1, 1, 1] ![0, 0, 63] ![0, 0, 0] S32x4x64) (hu : 0 < S_.numel) :
    Host.reduceWindowAdd (F := Ideal) (φ := .f32) ![1, 1, 64] ![1, 1, 1] ![0, 0, 63] ![0, 0, 0] x init hw hu (ix3 b h t)
      = _root_.Mlstm.bs (fun s => x (ix3 b h s)) t := by
  show Host.reduceWindow (fun a b : EReal => a + b) ![1, 1, 64] ![1, 1, 1] ![0, 0, 63] ![0, 0, 0] x (fun _ : S_.Idx => init (Shape.Idx.first hu)) hw hu (ix3 b h t) = _
  rw [hi]
  unfold Host.reduceWindow
  refine (foldl_sum _ _ _).trans ?_
  rw [zero_add, ← Fin.sum_univ_def]
  let G : (⟨3, ![1, 1, 64]⟩ : Shape).Idx → EReal := fun w =>
    if h' : 63 ≤ (t : ℕ) + (w 2 : ℕ) then x (ix3 b h ⟨(t : ℕ) + (w 2 : ℕ) - 63, by have : (w 2 : ℕ) < 64 := (w 2).isLt; omega⟩) else 0
  refine (Finset.sum_congr rfl (g := fun n => G ((Shape.rowMajor ⟨3, ![1, 1, 64]⟩).symm n)) fun n _ => ?_).trans
    ((Equiv.sum_comp (Shape.rowMajor ⟨3, ![1, 1, 64]⟩).symm G).trans ?_)
  · obtain ⟨w, hw⟩ : ∃ w, w = (Shape.rowMajor ⟨3, ![1, 1, 64]⟩).symm n := ⟨_, rfl⟩
    have e0 : ((Shape.rowMajor ⟨3, ![1, 1, 64]⟩).symm n 0 : ℕ) = 0 := by
      have : ((Shape.rowMajor ⟨3, ![1, 1, 64]⟩).symm n 0 : ℕ) < 1 := ((Shape.rowMajor ⟨3, ![1, 1, 64]⟩).symm n 0).isLt
      omega
    have e1 : ((Shape.rowMajor ⟨3, ![1, 1, 64]⟩).symm n 1 : ℕ) = 0 := by
      have : ((Shape.rowMajor ⟨3, ![1, 1, 64]⟩).symm n 1 : ℕ) < 1 := ((Shape.rowMajor ⟨3, ![1, 1, 64]⟩).symm n 1).isLt
      omega
    have e2 : ((Shape.rowMajor ⟨3, ![1, 1, 64]⟩).symm n 2 : ℕ) < 64 := ((Shape.rowMajor ⟨3, ![1, 1, 64]⟩).symm n 2).isLt
    have hb := b.isLt
    have hh := h.isLt
    have ht := t.isLt
    by_cases h' : 63 ≤ (t : ℕ) + ((Shape.rowMajor ⟨3, ![1, 1, 64]⟩).symm n 2 : ℕ)
    · refine (dif_pos fun a => ?_).trans (.trans ?_ (dif_pos h').symm)
      · match a with
        | ⟨0, _⟩ => exact ⟨Nat.zero_le _, show (b : ℕ) * 1 + ((Shape.rowMajor ⟨3, ![1, 1, 64]⟩).symm n 0 : ℕ) - 0 < 32 by omega⟩
        | ⟨1, _⟩ => exact ⟨Nat.zero_le _, show (h : ℕ) * 1 + ((Shape.rowMajor ⟨3, ![1, 1, 64]⟩).symm n 1 : ℕ) - 0 < 4 by omega⟩
        | ⟨2, _⟩ => exact ⟨show 63 ≤ (t : ℕ) * 1 + ((Shape.rowMajor ⟨3, ![1, 1, 64]⟩).symm n 2 : ℕ) by omega,
            show (t : ℕ) * 1 + ((Shape.rowMajor ⟨3, ![1, 1, 64]⟩).symm n 2 : ℕ) - 63 < 64 by omega⟩
      · refine congrArg x (funext fun a => Fin.ext ?_)
        match a with
        | ⟨0, _⟩ => exact show (b : ℕ) * 1 + ((Shape.rowMajor ⟨3, ![1, 1, 64]⟩).symm n 0 : ℕ) - 0 = b by omega
        | ⟨1, _⟩ => exact show (h : ℕ) * 1 + ((Shape.rowMajor ⟨3, ![1, 1, 64]⟩).symm n 1 : ℕ) - 0 = h by omega
        | ⟨2, _⟩ => exact show (t : ℕ) * 1 + ((Shape.rowMajor ⟨3, ![1, 1, 64]⟩).symm n 2 : ℕ) - 63 = (t : ℕ) + ((Shape.rowMajor ⟨3, ![1, 1, 64]⟩).symm n 2 : ℕ) - 63 by omega
    · refine (dif_neg fun hin => h' ?_).trans (show G ((Shape.rowMajor ⟨3, ![1, 1, 64]⟩).symm n) = 0 from dif_neg h').symm
      have := (show 63 ≤ (t : ℕ) * 1 + ((Shape.rowMajor ⟨3, ![1, 1, 64]⟩).symm n 2 : ℕ) from (hin 2).1)
      omega
  · rw [sum_idx3, Fin.sum_univ_one, Fin.sum_univ_one]
    exact window_sum (fun s => x (ix3 b h s)) t

theorem zero_minus (x : EReal) : 0 - x = -x := by rw [sub_eq_add_neg, zero_add]

/-- The divisor of the variance. -/
theorem divisor : Ideal.ofBits .f32 0x43000000#32 - FloatOps.sitofp (F := Ideal) .f32 0#32 = Ideal.ofBits .f32 0x43000000#32 := by
  show Ideal.ofBits .f32 0x43000000#32 - (((0#32 : BitVec 32).toInt : ℝ) : EReal) = _
  simp

theorem divisor_pos : 0 < Ideal.ofBits .f32 0x43000000#32 := by
  simp [Ideal.ofBits, Ideal.ieee]
  exact_mod_cast (by positivity : (0 : ℝ) < 8388608 * (2 ^ 16)⁻¹)

section
variable (P : FVec Ideal S32x64x6656 .f32) (gb : FVec Ideal S1x128 .f32) (g : FVec Ideal S1x512 .f32)
variable (C0 : FVec Ideal S32x4x128x128 .f32) (N0 : FVec Ideal S32x4x128 .f32) (M0 : FVec Ideal S32x1x128 .f32)
variable (b : Fin 32) (h : Fin 4)

theorem i_at (s : Fin 64) : val_main_v28 (F := Ideal) P gb (ix3 b h s) = _root_.Mlstm.iOf P gb b h s := by
  pointwise [val_main_v28, val_main_v12, val_main_v7, val_main_v11, val_main_v10, val_main_v9, val_main_v8, _root_.Mlstm.iOf]

theorem f_at (s : Fin 64) : val_main_v26 (F := Ideal) P gb (ix3 b h s)
    = _root_.Mlstm.lsig (P (ix3 b s ⟨5892 + h, by omega⟩) + gb (ix2 0 ⟨4 + h, by omega⟩)) := by
  pointwise [val_main_v26, val_main_v25, val_main_call1_v1, val_main_call1_call0_v4, val_main_call1_call0_v6, val_main_call1_call0_v11,
    val_main_call1_call0_v1, val_main_call1_call0_v10, val_main_call1_call0_v9, val_main_call1_call0_v8, val_main_call1_call0_v7,
    val_main_call1_call0_v3, val_main_call1_v0, val_main_call1_call0_v5, val_main_call1_call0_v2, val_main_call1_call0_v0, val_main_call1_call0_cst,
    val_main_v18, val_main_v13, val_main_v17, val_main_v16, val_main_v15, val_main_v14, _root_.Mlstm.lsig]
  rw [if_neg (fun h => h rfl)]
  simp only [zero_minus]
  rfl

theorem b_at (t : Fin 64) : val_main_v27 (F := Ideal) P gb (ix3 b h t) = _root_.Mlstm.bOf P gb b h t := by
  refine (cumsum_at _ _ (fun i => ?_) b h t _ _).trans ?_
  · pointwise [val_main_call2_call0_v0, val_main_call2_call0_cst]
  · exact congrArg (fun f => _root_.Mlstm.bs f t) (funext fun s => f_at P gb b h s)

theorem m_at : val_main_v20 (F := Ideal) M0 (ix2 b h) = _root_.Mlstm.mOf M0 b h := by
  pointwise [val_main_v20, val_main_v19, _root_.Mlstm.mOf]

theorem logD_at (t s : Fin 64) : val_main_v37 (F := Ideal) P gb (ix4 b h t s)
    = _root_.Mlstm.logD (_root_.Mlstm.bOf P gb b h) (_root_.Mlstm.iOf P gb b h) t s := by
  pointwise [val_main_v37, val_main_call3_v1, val_main_v22, val_main_call0_v4, val_main_call0_v2, val_main_call0_v0, val_main_call0_v1,
    val_main_call0_c, val_main_call0_v3, val_main_v21, val_main_c, val_main_call0_v5, val_main_call0_c_0, val_main_v36, val_main_v33,
    val_main_v31, val_main_v29, val_main_v32, val_main_v30, val_main_v35, val_main_v34, val_main_call3_v2, val_main_call3_v0, val_main_cst_0,
    b_at, i_at, _root_.Mlstm.logD, _root_.Mlstm.ninf]
  have ha : ∀ x : BitVec 32, IntOp.addi x 0#32 = x := fun x => BitVec.add_zero x
  rw [ha]
  by_cases hs : s ≤ t
  · rw [if_pos hs, show IntOp.cmpi CmpIPredicate.sge (BitVec.ofNat 32 ↑t) (BitVec.ofNat 32 ↑s) = 1#1 from by
      rw [Fin.le_def] at hs; word_cmp]
    rfl
  · rw [if_neg hs, show IntOp.cmpi CmpIPredicate.sge (BitVec.ofNat 32 ↑t) (BitVec.ofNat 32 ↑s) = 0#1 from by
      rw [Fin.le_def] at hs; word_cmp]
    rfl

theorem mt_at (t : Fin 64) : val_main_v42 (F := Ideal) P gb M0 (ix3 b h t)
    = _root_.Mlstm.mt (_root_.Mlstm.bOf P gb b h) (_root_.Mlstm.iOf P gb b h) (_root_.Mlstm.mOf M0 b h) t := by
  pointwise [val_main_v42, val_main_v40, val_main_v39, val_main_v38, val_main_v41, val_main_cst_1, b_at, m_at, logD_at, _root_.Mlstm.mt, _root_.Mlstm.ninf]

theorem q_at (s : Fin 64) (d : Fin 128) : val_main_v24 (F := Ideal) P (ix4 b s h d) = _root_.Mlstm.qOf P b h s d := by
  pointwise [val_main_v24, val_main_v1, val_main_v0, val_main_v23, val_main_cst, _root_.Mlstm.qOf]
  exact congrArg (fun x => P (ix3 b s x) * _) (Fin.ext (show (h : ℕ) * 128 + d = 128 * h + d by omega))

theorem k_at (s : Fin 64) (d : Fin 128) : val_main_v3 (F := Ideal) P (ix4 b s h d) = _root_.Mlstm.kOf P b h s d := by
  pointwise [val_main_v3, val_main_v2, _root_.Mlstm.kOf]
  exact congrArg (fun x => P (ix3 b s x)) (Fin.ext (show 512 + ((h : ℕ) * 128 + d) = 512 + 128 * h + d by omega))

theorem v_at (s : Fin 64) (d : Fin 128) : val_main_v5 (F := Ideal) P (ix4 b s h d) = _root_.Mlstm.vOf P b h s d := by
  pointwise [val_main_v5, val_main_v4, _root_.Mlstm.vOf]
  exact congrArg (fun x => P (ix3 b s x)) (Fin.ext (show 1024 + ((h : ℕ) * 128 + d) = 1024 + 128 * h + d by omega))

theorem ss_at (t s : Fin 64) : val_main_v48 (F := Ideal) P gb M0 (ix4 b h t s)
    = _root_.Mlstm.ss (_root_.Mlstm.qOf P b h) (_root_.Mlstm.kOf P b h) (_root_.Mlstm.bOf P gb b h) (_root_.Mlstm.iOf P gb b h) (_root_.Mlstm.mOf M0 b h) t s := by
  pointwise [val_main_v48, val_main_v43, val_main_v47, val_main_v46, val_main_v45, val_main_v44, q_at, k_at, logD_at, mt_at, _root_.Mlstm.ss]

theorem wc_at (t : Fin 64) : val_main_v50 (F := Ideal) P gb M0 (ix3 b h t)
    = _root_.Mlstm.wc (_root_.Mlstm.bOf P gb b h) (_root_.Mlstm.iOf P gb b h) (_root_.Mlstm.mOf M0 b h) t := by
  pointwise [val_main_v50, val_main_v49, val_main_v40, val_main_v39, val_main_v38, b_at, m_at, mt_at, _root_.Mlstm.wc]

/-- One head of the recurrence, before normalisation. -/
theorem hh_at (t : Fin 64) (e : Fin 128) : val_main_v71 (F := Ideal) P gb C0 N0 M0 (ix4 b t h e)
    = _root_.Mlstm.hh (_root_.Mlstm.qOf P b h) (_root_.Mlstm.kOf P b h) (_root_.Mlstm.vOf P b h) (fun d e => C0 (ix4 b h d e)) (fun d => N0 (ix3 b h d))
      (_root_.Mlstm.bOf P gb b h) (_root_.Mlstm.iOf P gb b h) (_root_.Mlstm.mOf M0 b h) t e := by
  pointwise [val_main_v71, val_main_v59, val_main_v52, val_main_v51, val_main_v58, val_main_v54, val_main_v53, val_main_v57, val_main_v56, val_main_v55,
    val_main_v70, val_main_v69, val_main_v68, val_main_v67, val_main_v64, val_main_v63, val_main_v60, val_main_cst_2, val_main_v62, val_main_v61,
    val_main_v66, val_main_v65, q_at, v_at, ss_at, wc_at, mt_at, _root_.Mlstm.hh]
  rw [zero_minus]
  simp only [mul_comm (_root_.Mlstm.vOf _ _ _ _ _), mul_comm (C0 _)]

theorem bl_at : val_main_v73 (F := Ideal) P gb (ix2 b h) = _root_.Mlstm.bOf P gb b h 63 := by
  pointwise [val_main_v73, val_main_v72, b_at]

theorem tl_at (s : Fin 64) : val_main_v77 (F := Ideal) P gb (ix3 b h s) = _root_.Mlstm.tl (_root_.Mlstm.bOf P gb b h) (_root_.Mlstm.iOf P gb b h) s := by
  pointwise [val_main_v77, val_main_v76, val_main_v75, val_main_v74, bl_at, b_at, i_at, _root_.Mlstm.tl]

theorem mnew_at : val_main_v80 (F := Ideal) P gb M0 (ix2 b h)
    = _root_.Mlstm.mnew (_root_.Mlstm.bOf P gb b h) (_root_.Mlstm.iOf P gb b h) (_root_.Mlstm.mOf M0 b h) := by
  pointwise [val_main_v80, val_main_v78, val_main_v79, val_main_cst_3, bl_at, m_at, tl_at, _root_.Mlstm.mnew, _root_.Mlstm.ninf]

theorem wk_at (s : Fin 64) : val_main_v84 (F := Ideal) P gb M0 (ix3 b h s)
    = _root_.Mlstm.wk (_root_.Mlstm.bOf P gb b h) (_root_.Mlstm.iOf P gb b h) (_root_.Mlstm.mOf M0 b h) s := by
  pointwise [val_main_v84, val_main_v83, val_main_v82, val_main_v81, tl_at, mnew_at, _root_.Mlstm.wk]

theorem sc_at : val_main_v87 (F := Ideal) P gb M0 (ix2 b h)
    = _root_.Mlstm.sc (_root_.Mlstm.bOf P gb b h) (_root_.Mlstm.iOf P gb b h) (_root_.Mlstm.mOf M0 b h) := by
  pointwise [val_main_v87, val_main_v86, val_main_v85, bl_at, m_at, mnew_at, _root_.Mlstm.sc]

/-- The reference's matrix states. -/
theorem refC : val_main_v96 (F := Ideal) P gb C0 M0 = _root_.Mlstm.arrC P gb C0 M0 := by
  funext i
  idx_vars i
  pointwise [val_main_v96, val_main_v90, val_main_v89, val_main_v88, val_main_v95, val_main_v94, val_main_v93, val_main_v92, val_main_v91,
    sc_at, wk_at, k_at, v_at, _root_.Mlstm.arrC, _root_.Mlstm.cNew]
  exact congrArg _ (Finset.sum_congr rfl fun s _ => by rw [mul_comm (_root_.Mlstm.wk _ _ _ _), mul_assoc])

/-- The reference's normaliser states. -/
theorem refN : val_main_v101 (F := Ideal) P gb N0 M0 = _root_.Mlstm.arrN P gb N0 M0 := by
  funext i
  idx_vars i
  pointwise [val_main_v101, val_main_v99, val_main_v98, val_main_v97, val_main_v100, sc_at, wk_at, k_at, _root_.Mlstm.arrN, _root_.Mlstm.nNew]

/-- The reference's stabilisers. -/
theorem refM : val_main_v129 (F := Ideal) P gb M0 = _root_.Mlstm.arrM P gb M0 := by
  funext i
  idx_vars i
  pointwise [val_main_v129, val_main_v128, val_main_v127, val_main_v126, mnew_at, _root_.Mlstm.arrM]
  split
  · rfl
  · obtain rfl : i1 = 0 := Subsingleton.elim _ _
    exact congrArg M0 (congrArg (ix3 i0 0) (Fin.ext (show 4 + ((i2 : ℕ) - 4) = i2 by omega)))

theorem ctr_at (t : Fin 64) (e : Fin 128) : val_main_v107 (F := Ideal) P gb C0 N0 M0 (ix4 b t h e)
    = _root_.Mlstm.ctr (_root_.Mlstm.hh (_root_.Mlstm.qOf P b h) (_root_.Mlstm.kOf P b h) (_root_.Mlstm.vOf P b h) (fun d e => C0 (ix4 b h d e)) (fun d => N0 (ix3 b h d))
      (_root_.Mlstm.bOf P gb b h) (_root_.Mlstm.iOf P gb b h) (_root_.Mlstm.mOf M0 b h) t) e := by
  pointwise [val_main_v107, val_main_v106, val_main_v105, val_main_v104, val_main_v103, val_main_v102, val_main_cst_4, val_main_cst_5, hh_at, _root_.Mlstm.ctr]

theorem ctr1_at (t : Fin 64) (e : Fin 128) : val_main_call4_v5 (F := Ideal) P gb C0 N0 M0 (ix4 b t h e)
    = val_main_v107 (F := Ideal) P gb C0 N0 M0 (ix4 b t h e) := rfl

theorem var_at (t : Fin 64) : val_main_v108 (F := Ideal) P gb C0 N0 M0 (ix4 b t h 0)
    = Ideal.div (∑ d, val_main_v107 (F := Ideal) P gb C0 N0 M0 (ix4 b t h d) * val_main_v107 (F := Ideal) P gb C0 N0 M0 (ix4 b t h d))
      (Ideal.ofBits .f32 0x43000000#32) := by
  pointwise [val_main_v108, val_main_call4_v13, val_main_call4_v12, val_main_call4_v8, val_main_call4_v7, val_main_c_6, val_main_call4_cst_1, val_main_call4_cst_3,
    val_main_call4_v10, val_main_call4_v9, val_main_call4_v6, ctr1_at, val_main_call4_cst_2, val_main_call4_v11, val_main_call4_call0_v1, val_main_call4_call0_v0, val_main_call4_cst_4]
  rw [divisor, if_pos divisor_pos]

/-- The reference's outputs. -/
theorem refY : val_main_v130 (F := Ideal) P gb g C0 N0 M0 = _root_.Mlstm.arrY P gb g C0 N0 M0 := by
  funext i
  idx_vars i
  pointwise [val_main_v130, val_main_v125, val_main_v124, val_main_v123, val_main_v122, val_main_v121, val_main_v120, val_main_v113, val_main_v112, val_main_v111,
    val_main_v110, val_main_v109, val_main_cst_7, val_main_v119, val_main_v118, val_main_cst_9, val_main_v117, val_main_v116, val_main_cst_8, val_main_v115, val_main_v114,
    val_main_v6, var_at, ctr_at, _root_.Mlstm.arrY, _root_.Mlstm.rowY, _root_.Mlstm.gated, _root_.Mlstm.oOf]
  have e : 128 * ((i2 : ℕ) / 128) + (i2 : ℕ) % 128 = i2 := Nat.div_add_mod _ _
  refine congrArg₂ (· * ·) (congrArg (fun x => Ideal.div 1 (1 + Ideal.exp x)) ?_) (congrArg (_ * ·) (congrArg g (congrArg (ix2 0) (Fin.ext e.symm))))
  rw [sub_eq_add_neg, zero_add]
  exact congrArg (fun x => -P x) (congrArg (ix3 i0 i1) (Fin.ext (show 1536 + (i2 : ℕ) = 1536 + 128 * ((i2 : ℕ) / 128) + (i2 : ℕ) % 128 by omega)))
end

end Cert.ReferenceIdeal.Mlstm
-- ==== Proof.Alg1.lean ====
module
public import proofs.«01_k».proof.Defs
public import proofs.«01_k».proof.Proof.PointC
public import proofs.«01_k».proof.Proof.PointN
public import proofs.«01_k».proof.Proof.PointM
public import proofs.«01_k».proof.Proof.PointY
public import proofs.«01_k».proof.Proof.Ref
public import proofs.«01_k».proof.Proof.Gen.KernelIdeal
public import proofs.«01_k».proof.Proof.Gen.ReferenceIdeal
public import Idealize.ShloMosaic.Lib.Claim
public import Idealize.ShloMosaic.Lib.Pointwise
@[expose] public section
set_option maxRecDepth 16384
noncomputable section

/-! The recurrence: kernel and reference end with the same arrays. -/
namespace Cert.Proof
open Idealize.ShloMosaic Idealize.ShloMosaic.TcCoe Idealize.SL.Sem

/-- The side conditions of the precondition's operations. -/
theorem preFacts : Cert.Pre_gates_ok.Facts := by
  constructor <;> decide

/-- What the precondition says: no input gate is plus infinity. -/
theorem gates_of_pre (m : (ℓ : Loc Cert.KernelIdeal.nD Cert.KernelIdeal.τ Cert.KernelIdeal.sig) → Buf (Elt Ideal) ℓ)
    (hp : letI := preFacts; Pre_KernelIdeal_gates_ok m) (c : Dev Cert.KernelIdeal.nD) (b : Fin 32) (s : Fin 64) (h : Fin 4) :
    Mlstm.iOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) b h s ≠ ⊤ := by
  have := congrFun (hp c) (ix3 b s h)
  pointwise [Cert.Pre_gates_ok.fn] at this
  intro he
  change BitVec.ofBool (decide (Mlstm.iOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) b h s < Ideal.ofBits .f32 0x7F800000#32)) = 1#1 at this
  rw [he, decide_eq_false (not_lt_of_ge le_top)] at this
  exact absurd this (by decide)

/-- What the kernel's run leaves. -/
theorem ker_run (m : (ℓ : Loc Cert.KernelIdeal.nD Cert.KernelIdeal.τ Cert.KernelIdeal.sig) → Buf (Elt Ideal) ℓ) (g : Dev Cert.KernelIdeal.nD → PrngReg)
    (hp : letI := preFacts; Pre_KernelIdeal_gates_ok m) :
    θ_run (Cert.KernelIdeal.defs (F := Ideal)) (onTc (τ := Cert.KernelIdeal.τ) (Cert.KernelIdeal.main (F := Ideal))) ⟨m, fun _ => 0, g⟩ fun r => ∀ c : Dev Cert.KernelIdeal.nD,
      r.2.mem ((c.tc : Thread Cert.KernelIdeal.nD Cert.KernelIdeal.τ).loc Cert.KernelIdeal.main_v0_0) = Mlstm.arrY (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_v0_1) = Mlstm.arrC (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_v0_2) = Mlstm.arrN (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_v0_3) = Mlstm.arrM (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5) :=
  (θ_run _ _ _).mono (fun r h c => ⟨(h c).1.trans (Cert.KernelIdeal.Mlstm.finalY m c (gates_of_pre m hp c)), (h c).2.1.trans (Cert.KernelIdeal.Mlstm.finalC m c),
      (h c).2.2.1.trans (Cert.KernelIdeal.Mlstm.finalN m c), (h c).2.2.2.1.trans (Cert.KernelIdeal.Mlstm.finalM m c), (h c).2.2.2.2⟩)
    (Cert.KernelIdeal.Value.run_blocks m g)

/-- What the reference's run leaves. -/
theorem ref_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r => ∀ c : Dev Cert.ReferenceIdeal.nD,
      r.2.mem ((c.tc : Thread Cert.ReferenceIdeal.nD Cert.ReferenceIdeal.τ).loc Cert.ReferenceIdeal.main_v130) = Mlstm.arrY (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_v96) = Mlstm.arrC (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_v101) = Mlstm.arrN (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_v129) = Mlstm.arrM (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5) :=
  (θ_run _ _ _).mono (fun r h c => ⟨(h c).1.trans ((Cert.ReferenceIdeal.Read.val_main_v130_eq _).trans (Cert.ReferenceIdeal.Mlstm.refY _ _ _ _ _ _)),
      (h c).2.1.trans ((Cert.ReferenceIdeal.Read.val_main_v96_eq _).trans (Cert.ReferenceIdeal.Mlstm.refC _ _ _ _)),
      (h c).2.2.1.trans ((Cert.ReferenceIdeal.Read.val_main_v101_eq _).trans (Cert.ReferenceIdeal.Mlstm.refN _ _ _ _)),
      (h c).2.2.2.1.trans ((Cert.ReferenceIdeal.Read.val_main_v129_eq _).trans (Cert.ReferenceIdeal.Mlstm.refM _ _ _)), (h c).2.2.2.2⟩)
    (Cert.ReferenceIdeal.Value.run m g)

/-- The mLSTM reference's frame: its run leaves the arguments, and it declares no semaphore. -/
theorem frame_ref (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0 :=
  (θ_run _ _ _).mono (fun r h => ⟨fun c => (h c).2.2.2.2, sem_eq_zero_of_no_sems (by decide) r.2⟩)
    (Cert.ReferenceIdeal.Value.run m g)

/-- Kernel and reference compute the same four arrays where no input gate is plus infinity. -/
theorem alg1 : letI := Cert.KernelIdeal.Gen.facts; letI := Cert.ReferenceIdeal.Gen.facts; letI := preFacts
    algebraic_KernelIdeal_ReferenceIdeal_pre_gates_ok := by
  pair_intro
  · run_from ker_run m g hpre
  · run_from ref_run m' g'

end Cert.Proof
-- ==== Proof.Rows.lean ====
module
public import Idealize.ShloMosaic.PureOps
public import Idealize.ShloMosaic.Lib.Pointwise
@[expose] public section
set_option maxRecDepth 16384
noncomputable section

/-! The layer's operations on one row of 2048 numbers, over the extended reals. -/
namespace Layer
open Idealize.ShloMosaic Idealize.ShloMosaic.TcCoe

/-- A row over its root mean square, scaled by `g`. -/
def rms (x g : Fin 2048 → EReal) (j : Fin 2048) : EReal :=
  x j * Ideal.rsqrt (Ideal.div (∑ k, x k * x k) (Ideal.ofBits .f32 0x45000000#32) + Ideal.ofBits .f32 0x358637BD#32) * g j

/-- The product of a row and a matrix, at one column. -/
def row {n p : ℕ} (x : Fin n → EReal) (w : Fin n → Fin p → EReal) (j : Fin p) : EReal := ∑ k, x k * w k j

/-- `x` times the logistic function of `x`. -/
def silu (x : EReal) : EReal := x * Ideal.div 1 (1 + Ideal.exp (0 - x))

/-- The gated hidden row. -/
def act (h : Fin 2048 → EReal) {p : ℕ} (wg wu : Fin 2048 → Fin p → EReal) (l : Fin p) : EReal := silu (row h wg l) * row h wu l

/-- The product of a row made of four rows of 512 and a matrix of 2048 rows. -/
def mix (a b c d : Fin 512 → EReal) (w : Fin 2048 → Fin 2048 → EReal) (j : Fin 2048) : EReal :=
  (∑ k : Fin 512, a k * w ⟨k, by omega⟩ j) + (∑ k : Fin 512, b k * w ⟨512 + k, by omega⟩ j)
    + (∑ k : Fin 512, c k * w ⟨1024 + k, by omega⟩ j) + ∑ k : Fin 512, d k * w ⟨1536 + k, by omega⟩ j

/-- A row of 2048 given by its four quarters, times a matrix. -/
theorem sum_quarters (g : Fin 2048 → EReal) (a b c d : Fin 512 → EReal) (w : Fin 2048 → Fin 2048 → EReal) (j : Fin 2048)
    (ha : ∀ k : Fin 512, g ⟨k, by omega⟩ = a k) (hb : ∀ k : Fin 512, g ⟨512 + k, by omega⟩ = b k)
    (hc : ∀ k : Fin 512, g ⟨1024 + k, by omega⟩ = c k) (hd : ∀ k : Fin 512, g ⟨1536 + k, by omega⟩ = d k) :
    ∑ k, g k * w k j = mix a b c d w j := by
  have e (u v : Fin 2048) (h : u.val = v.val) {z : EReal} (q : g v = z) : g u * w u j = z * w v j := by rw [Fin.ext h, q]
  rw [Fin.sum_univ_tiles 4 512 rfl, Fin.sum_univ_four]
  refine congrArg₂ (· + ·) (congrArg₂ (· + ·) (congrArg₂ (· + ·) ?_ ?_) ?_) ?_ <;> refine Finset.sum_congr rfl fun k _ => ?_
  · exact e _ _ (show 0 * 512 + (k : ℕ) = k by omega) (ha k)
  · exact e _ _ (show 1 * 512 + (k : ℕ) = 512 + k by omega) (hb k)
  · exact e _ _ (show 2 * 512 + (k : ℕ) = 1024 + k by omega) (hc k)
  · exact e _ _ (show 3 * 512 + (k : ℕ) = 1536 + k by omega) (hd k)

/-- Every row of `x` over its root mean square, times the matrix `w`. -/
def proj {R : ℕ} (x : FVec Ideal ⟨2, ![R, 2048]⟩ .f32) (g : FVec Ideal ⟨1, ![2048]⟩ .f32) (w : FVec Ideal ⟨2, ![2048, 6656]⟩ .f32) :
    FVec Ideal ⟨2, ![R, 6656]⟩ .f32 := fun i =>
  row (rms (fun k => x (ix2 (i 0) k)) (fun k => g (ix1 k))) (fun k l => w (ix2 k l)) (i 1)

section ffn
variable {R : ℕ} (x : FVec Ideal ⟨2, ![R, 2048]⟩ .f32) (ya yb yc yd : FVec Ideal ⟨2, ![R, 512]⟩ .bf16)
  (wo : FVec Ideal ⟨2, ![2048, 2048]⟩ .f32) (ga gb : FVec Ideal ⟨1, ![2048]⟩ .f32)
  (wg wu : FVec Ideal ⟨2, ![2048, 5632]⟩ .f32) (wd : FVec Ideal ⟨2, ![5632, 2048]⟩ .f32) (gc : FVec Ideal ⟨1, ![2048]⟩ .f32)

/-- Row `i` after the mixers' outputs are projected and added. -/
def mid (i : Fin R) (j : Fin 2048) : EReal :=
  x (ix2 i j) + rms (mix (fun k => ya (ix2 i k)) (fun k => yb (ix2 i k)) (fun k => yc (ix2 i k)) (fun k => yd (ix2 i k)) (fun k l => wo (ix2 k l)))
    (fun k => ga (ix1 k)) j

/-- The normalised row `i` that the feed-forward part takes. -/
def hid (i : Fin R) : Fin 2048 → EReal := rms (mid x ya yb yc yd wo ga i) (fun k => gb (ix1 k))

/-- The gated hidden row `i`. -/
def gate (i : Fin R) : Fin 5632 → EReal :=
  act (hid x ya yb yc yd wo ga gb i) (fun k l => wg (ix2 k l)) (fun k l => wu (ix2 k l))

/-- The output and feed-forward part of the layer. -/
def ffn : FVec Ideal ⟨2, ![R, 2048]⟩ .f32 := fun i =>
  mid x ya yb yc yd wo ga (i 0) (i 1)
    + rms (row (gate x ya yb yc yd wo ga gb wg wu (i 0)) (fun l j => wd (ix2 l j))) (fun k => gc (ix1 k)) (i 1)
end ffn

end Layer
-- ==== Proof.ProjCore.lean ====
module
public import proofs.«01_k».proof.Proof.Gen.Kernel3Ideal.Value
public import proofs.«01_k».proof.Proof.Rows
public import Idealize.ShloMosaic.Lib.Pipeline.ValueKit
public import Idealize.ShloMosaic.Lib.Pointwise
@[expose] public section
set_option maxRecDepth 16384
noncomputable section

/-! The projection's grid, for any number of row blocks of 1024: four column blocks of 1664 to a row block. -/
namespace Cert.Kernel3Ideal.Proj
open Cert.Kernel3Ideal Cert.Kernel3Ideal.Gen Idealize.ShloMosaic Idealize.ShloMosaic.TcCoe

theorem pay1 (x : Vec Ideal S1024x2048 .f32) (g : Vec Ideal S1x2048 .f32) (r : Fin 1024) (k : Fin 2048) :
    k0_pay1 (F := Ideal) x g (ix2 r k) = Layer.rms (fun k => x (ix2 r k)) (fun k => g (ix2 0 k)) k := by
  pointwise [k0_pay1, Layer.rms]
theorem pay2 (h : Vec Ideal S1024x2048 .bf16) (w : Vec Ideal S2048x1664 .bf16) (r : Fin 1024) (l : Fin 1664) :
    k0_pay2 (F := Ideal) h w (ix2 r l) = Layer.row (fun k => h (ix2 r k)) (fun k l => w (ix2 k l)) l := by
  pointwise [k0_pay2, Layer.row]

/-- Point `t` reads row block `t / 4` of `x` and column block `t % 4` of `w`; the rows are normalised at the first column block and kept. -/
structure Grid {R T : ℕ} (x : FVec Ideal ⟨2, ![R, 2048]⟩ .f32) (g : FVec Ideal ⟨1, ![2048]⟩ .f32) (w : FVec Ideal ⟨2, ![2048, 6656]⟩ .f32)
    (X : Fin T → FVec Ideal S1024x2048 .f32) (G : Fin T → FVec Ideal S1x2048 .f32) (W : Fin T → FVec Ideal S2048x1664 .bf16)
    (o : (n : ℕ) → n < T → FVec Ideal S1024x1664 .f32 × FVec Ideal S1024x2048 .bf16) : Prop where
  bd : ∀ n, n < T → ∀ r : Fin 1024, 1024 * (n / 4) + r.val < R
  x : ∀ t r k, X t (ix2 r k) = x (ix2 ⟨1024 * (t.val / 4) + r, bd _ t.isLt r⟩ k)
  g : ∀ t r k, G t (ix2 r k) = g (ix1 k)
  w : ∀ t k (l : Fin 1664), W t (ix2 k l) = w (ix2 k ⟨1664 * (t.val % 4) + l, by omega⟩)
  first : ∀ t : Fin T, t.val % 4 = 0 → o t.val t.isLt = (k0_pay2 (F := Ideal) (k0_pay1 (F := Ideal) (X t) (G t)) (W t), k0_pay1 (F := Ideal) (X t) (G t))
  next : ∀ t : Fin T, ¬t.val % 4 = 0 → o t.val t.isLt
    = (k0_pay2 (F := Ideal) (o (t.val - 1) (by omega)).2 (W t), (o (t.val - 1) (by omega)).2)

variable {R T : ℕ} {x : FVec Ideal ⟨2, ![R, 2048]⟩ .f32} {g : FVec Ideal ⟨1, ![2048]⟩ .f32} {w : FVec Ideal ⟨2, ![2048, 6656]⟩ .f32}
  {X : Fin T → FVec Ideal S1024x2048 .f32} {G : Fin T → FVec Ideal S1x2048 .f32} {W : Fin T → FVec Ideal S2048x1664 .bf16}
  {o : (n : ℕ) → n < T → FVec Ideal S1024x1664 .f32 × FVec Ideal S1024x2048 .bf16}

/-- The output block is the product of the rows kept and the point's columns. -/
theorem Grid.prod (H : Grid x g w X G W o) (t : Fin T) : (o t.val t.isLt).1 = k0_pay2 (F := Ideal) (o t.val t.isLt).2 (W t) := by
  by_cases h : t.val % 4 = 0
  · rw [H.first t h]
  · rw [H.next t h]

/-- The scratch holds the normalised rows of the point's row block. -/
theorem Grid.kept (H : Grid x g w X G W o) : ∀ (n : ℕ) (hn : n < T) (r : Fin 1024) (k : Fin 2048), (o n hn).2 (ix2 r k)
    = Layer.rms (fun k => x (ix2 ⟨1024 * (n / 4) + r, H.bd n hn r⟩ k)) (fun k => g (ix1 k)) k := by
  have a (t : Fin T) (h : t.val % 4 = 0) (r : Fin 1024) (k : Fin 2048) : (o t.val t.isLt).2 (ix2 r k)
      = Layer.rms (fun k => x (ix2 ⟨1024 * (t.val / 4) + r, H.bd t t.isLt r⟩ k)) (fun k => g (ix1 k)) k := by
    rw [H.first t h]
    simp only [pay1, H.x, H.g]
  intro n
  induction n with
  | zero => exact fun hn => a ⟨0, hn⟩ rfl
  | succ n ih =>
    intro hn r k
    by_cases h : (n + 1) % 4 = 0
    · exact a ⟨n + 1, hn⟩ h r k
    · rw [H.next ⟨n + 1, hn⟩ h]
      refine (ih (by omega) r k).trans ?_
      have e : n / 4 = (n + 1) / 4 := by omega
      simp only [e]

/-- What a point leaves in the output block. -/
theorem Grid.out (H : Grid x g w X G W o) (t : Fin T) (r : Fin 1024) (l : Fin 1664) : (o t.val t.isLt).1 (ix2 r l)
    = Layer.proj x g w (ix2 ⟨1024 * (t.val / 4) + r, H.bd t t.isLt r⟩ ⟨1664 * (t.val % 4) + l, by omega⟩) := by
  rw [H.prod t, pay2]
  simp only [Layer.proj, Layer.row, H.kept, H.w]
  rfl
end Cert.Kernel3Ideal.Proj
-- ==== Proof.Proj.lean ====
module
public import proofs.«01_k».proof.Proof.Gen.Kernel3Ideal.Value
public import proofs.«01_k».proof.Proof.ProjCore
public import proofs.«01_k».proof.Defs
public import proofs.«01_k».proof.Proof.Gen.Reference3Ideal.Read
public import proofs.«01_k».proof.Proof.Gen.Kernel3Ideal
public import proofs.«01_k».proof.Proof.Gen.Reference3Ideal
public import Idealize.ShloMosaic.Lib.Claim
public import Idealize.ShloMosaic.Lib.Pipeline.ValueKit
public import Idealize.ShloMosaic.Lib.Pointwise
@[expose] public section
set_option maxRecDepth 16384
noncomputable section
namespace Cert.Kernel3Ideal.Proj
open Cert.Kernel3Ideal Cert.Kernel3Ideal.Gen Idealize.ShloMosaic Idealize.ShloMosaic.TcCoe Idealize.SL.Sem
open Idealize.ShloMosaic.Pipeline (Dat)
variable (m : (ℓ : Loc nD τ sig) → Buf (Elt Ideal) ℓ)

theorem points : cfg0.N = 8 := by decide +kernel

theorem idx : ∀ t : Fin cfg0.N, win0_0.index t = ![t.val / 4, 0] ∧ win0_1.index t = ![0, 0] ∧ win0_2.index t = ![0, t.val % 4]
    ∧ win0_3.index t = ![t.val / 4, t.val % 4] :=
  (by decide +kernel : ∀ t : Fin grid0.N, _)

/-! What each staged block holds of its array, at point `t`. -/
theorem blk0 (c : Dev nD) (t : Fin cfg0.N) (r : Fin 1024) (k : Fin 2048) :
    (iblk m c 0 t : FVec Ideal S1024x2048 .f32) (ix2 r k)
      = (m ((c.tc : Thread nD τ).loc main_arg0) : FVec Ideal S2048x2048 .f32) (ix2 ⟨1024 * (t.val / 4) + r, by have := t.isLt; have := points; omega⟩ k) := by
  blk_point [iblk, V, idx t]
theorem blk1 (c : Dev nD) (t : Fin cfg0.N) (r : Fin 1) (k : Fin 2048) :
    (iblk m c 1 t : FVec Ideal S1x2048 .f32) (ix2 r k)
      = (m ((c.tc : Thread nD τ).loc main_arg1) : FVec Ideal S2048 .f32) (ix1 k) := by
  blk_point [iblk, idx t]
theorem blk2 (c : Dev nD) (t : Fin cfg0.N) (k : Fin 2048) (l : Fin 1664) :
    (iblk m c 2 t : FVec Ideal S2048x1664 .bf16) (ix2 k l)
      = (m ((c.tc : Thread nD τ).loc main_arg2) : FVec Ideal S2048x6656 .f32) (ix2 k ⟨1664 * (t.val % 4) + l, by omega⟩) := by
  blk_point [iblk, idx t]

/-- The points, from the first to the last. -/
theorem grid (c : Dev nD) : Grid (R := 2048) (m ((c.tc : Thread nD τ).loc main_arg0)) (m ((c.tc : Thread nD τ).loc main_arg1)) (m ((c.tc : Thread nD τ).loc main_arg2))
    (iblk m c 0) (iblk m c 1) (iblk m c 2) (outsAt0 m c) where
  bd n h r := by have := points; omega
  x := blk0 m c
  g := blk1 m c
  w := blk2 m c
  first t h := by
    rw [outsAt0_A m c t h]
    refine Prod.ext ?_ ?_ <;> frame_out
  next t h := by
    rw [outsAt0_B m c t h]
    refine Prod.ext ?_ rfl
    frame_out
    exact congrArg (fun h => k0_pay2 (F := Ideal) h _) (Memref.IsWhole.read_unread _ _)

theorem final (c : Dev nD) : (dats m 0 c).arrAt 3 cfg0.N
    = Layer.proj (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht : t.val < 8 := lt_of_lt_of_eq t.isLt points
  have e : ((View.whole main_v2).slice (win0_3.rect t)).emb y
      = (ix2 ⟨1024 * (t.val / 4) + (y 0 : ℕ), by have : (y 0 : ℕ) < 1024 := (y 0).isLt; omega⟩
          ⟨1664 * (t.val % 4) + (y 1 : ℕ), by have : (y 1 : ℕ) < 1664 := (y 1).isLt; omega⟩ : S2048x6656.Idx) := by
    blk_ext [idx t]
  blk_simp
  rw [after0_3, e]
  idx_vars y
  exact (grid m c).out t y0 y1
end Cert.Kernel3Ideal.Proj

namespace Cert.Reference3Ideal.Proj
open Idealize.ShloMosaic Idealize.ShloMosaic.TcCoe Idealize.SL.Sem Cert.Reference3Ideal Cert.Reference3Ideal.Read

theorem ref (x : FVec Ideal S2048x2048 .f32) (g : FVec Ideal S2048 .f32) (w : FVec Ideal S2048x6656 .f32) :
    val_main_v13 (F := Ideal) x g w = Layer.proj x g w := by
  funext i
  idx_vars i
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, Layer.proj, Layer.row, Layer.rms]
end Cert.Reference3Ideal.Proj

/-! The projection: kernel and reference end with the same array. -/
namespace Cert.Proof
open Idealize.ShloMosaic Idealize.ShloMosaic.TcCoe Idealize.SL.Sem

/-- What the kernel's run leaves. -/
theorem ker_run3 (m : (ℓ : Loc Cert.Kernel3Ideal.nD Cert.Kernel3Ideal.τ Cert.Kernel3Ideal.sig) → Buf (Elt Ideal) ℓ) (g : Dev Cert.Kernel3Ideal.nD → PrngReg) :
    θ_run (Cert.Kernel3Ideal.defs (F := Ideal)) (onTc (τ := Cert.Kernel3Ideal.τ) (Cert.Kernel3Ideal.main (F := Ideal))) ⟨m, fun _ => 0, g⟩ fun r => ∀ c : Dev Cert.Kernel3Ideal.nD,
      r.2.mem ((c.tc : Thread Cert.Kernel3Ideal.nD Cert.Kernel3Ideal.τ).loc Cert.Kernel3Ideal.main_v2) = Layer.proj (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
      ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2) :=
  (θ_run _ _ _).mono (fun r h c => ⟨(h c).1.trans (Cert.Kernel3Ideal.Proj.final m c), (h c).2⟩) (Cert.Kernel3Ideal.Value.run_blocks m g)

/-- What the reference's run leaves. -/
theorem ref_run3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ fun r => ∀ c : Dev Cert.Reference3Ideal.nD,
      r.2.mem ((c.tc : Thread Cert.Reference3Ideal.nD Cert.Reference3Ideal.τ).loc Cert.Reference3Ideal.main_v13) = Layer.proj (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))
      ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2) :=
  (θ_run _ _ _).mono (fun r h c => ⟨(h c).1.trans ((Cert.Reference3Ideal.Read.val_main_v13_eq _ _ _).trans (Cert.Reference3Ideal.Proj.ref _ _ _)), (h c).2⟩)
    (Cert.Reference3Ideal.Value.run m g)

/-- The reference's frame: its run leaves the arguments, and it declares no semaphore. -/
theorem frame_ref3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0 :=
  (θ_run _ _ _).mono (fun r h => ⟨fun c => (h c).2, sem_eq_zero_of_no_sems (by decide) r.2⟩) (Cert.Reference3Ideal.Value.run m g)

/-- Kernel and reference compute the same array. -/
theorem alg3 : letI := Cert.Kernel3Ideal.Gen.facts; letI := Cert.Reference3Ideal.Gen.facts; algebraic_Kernel3Ideal_Reference3Ideal := by
  pair_intro
  · run_from ker_run3 m g
  · run_from ref_run3 m' g'

end Cert.Proof
-- ==== Proof.FfnCore.lean ====
module
public import proofs.«01_k».proof.Proof.Gen.Kernel2Ideal.Skeleton
public import proofs.«01_k».proof.Proof.Rows
public import Idealize.ShloMosaic.Lib.Pipeline.ValueKit
public import Idealize.ShloMosaic.Lib.Pointwise
@[expose] public section
set_option maxRecDepth 16384
noncomputable section

/-! The output and feed-forward part over any number of row blocks: what the grid's points leave, from the blocks they read. -/
namespace Cert.Kernel2Ideal.Ffn
open Cert.Kernel2Ideal Cert.Kernel2Ideal.Gen Idealize.ShloMosaic Idealize.ShloMosaic.TcCoe Idealize.SL.Sem

/-! The kernel's terms at one index. -/
theorem pay6 (a b d e : Vec Ideal S512x512 .bf16) (wa wb wd we : Vec Ideal S1x512x2048 .bf16) (r : Fin 512) (j : Fin 2048) :
    k0_pay6 (F := Ideal) a wa b wb d wd e we (ix2 r j)
      = (∑ k : Fin 512, a (ix2 r k) * wa (ix3 0 k j)) + (∑ k : Fin 512, b (ix2 r k) * wb (ix3 0 k j))
        + (∑ k : Fin 512, d (ix2 r k) * wd (ix3 0 k j)) + ∑ k : Fin 512, e (ix2 r k) * we (ix3 0 k j) := by
  pointwise [k0_pay6]
theorem pay8 (a b d e : Vec Ideal S512x512 .bf16) (wa wb wd we : Vec Ideal S1x512x2048 .bf16) (r : Fin 512) (j : Fin 1) :
    k0_pay8 (F := Ideal) a wa b wb d wd e we (ix2 r j)
      = Ideal.div (∑ k, k0_pay6 (F := Ideal) a wa b wb d wd e we (ix2 r k) * k0_pay6 (F := Ideal) a wa b wb d wd e we (ix2 r k)) (Ideal.ofBits .f32 0x45000000#32) + Ideal.ofBits .f32 0x358637BD#32 := by
  pointwise [k0_pay8]
theorem pay1 (mx x : Vec Ideal S512x2048 .f32) (g : Vec Ideal S1x2048 .f32) (v : FVec Ideal S512x1 .f32) (r : Fin 512) (j : Fin 2048) :
    k0_pay1 (F := Ideal) mx x g v (ix2 r j) = x (ix2 r j) + mx (ix2 r j) * Ideal.rsqrt (v (ix2 r 0)) * g (ix2 0 j) := by
  pointwise [k0_pay1]
theorem pay7 (g : Vec Ideal S1x2048 .f32) (j : Fin 2048) : k0_pay7 (F := Ideal) g (ix2 0 j) = g (ix2 0 j) := by
  pointwise [k0_pay7]
theorem pay16 (a b d e : Vec Ideal S512x512 .bf16) (wa wb wd we : Vec Ideal S1x512x2048 .bf16) (x : Vec Ideal S512x2048 .f32) (g : Vec Ideal S1x2048 .f32) (r : Fin 512) (j : Fin 2048) :
    k0_pay1 (F := Ideal) (k0_pay6 (F := Ideal) a wa b wb d wd e we) x (k0_pay7 (F := Ideal) g) (k0_pay8 (F := Ideal) a wa b wb d wd e we) (ix2 r j)
      = x (ix2 r j) + Layer.rms (fun k => k0_pay6 (F := Ideal) a wa b wb d wd e we (ix2 r k)) (fun k => g (ix2 0 k)) j := by
  rw [pay1, pay8, pay7]
  rfl
theorem pay2 (mx x : Vec Ideal S512x2048 .f32) (g : Vec Ideal S1x2048 .f32) (v : FVec Ideal S512x1 .f32) (g' : Vec Ideal S1x2048 .f32) (r : Fin 512) (j : Fin 2048) :
    k0_pay2 (F := Ideal) mx x g v g' (ix2 r j) = Layer.rms (fun k => k0_pay1 (F := Ideal) mx x g v (ix2 r k)) (fun k => g' (ix2 0 k)) j := by
  pointwise [k0_pay2, Layer.rms]
theorem pay3 (i : S512x2048.Idx) : k0_pay3 (F := Ideal) i = 0 := by
  pointwise [k0_pay3]
theorem pay4 (h : Vec Ideal S512x2048 .bf16) (wg wu : Vec Ideal S2048x512 .bf16) (acc : Vec Ideal S512x2048 .f32) (wd : Vec Ideal S512x2048 .bf16) (r : Fin 512) (j : Fin 2048) :
    k0_pay4 (F := Ideal) h wg wu acc wd (ix2 r j) = acc (ix2 r j)
      + ∑ l : Fin 512, Layer.act (fun k => h (ix2 r k)) (fun k l => wg (ix2 k l)) (fun k l => wu (ix2 k l)) l * wd (ix2 l j) := by
  pointwise [k0_pay4, Layer.act, Layer.silu, Layer.row]
theorem pay5 (o acc : Vec Ideal S512x2048 .f32) (g : Vec Ideal S1x2048 .f32) (r : Fin 512) (j : Fin 2048) :
    k0_pay5 (F := Ideal) o acc g (ix2 r j) = o (ix2 r j) + Layer.rms (fun k => acc (ix2 r k)) (fun k => g (ix2 0 k)) j := by
  pointwise [k0_pay5, Layer.rms]

/-- The arguments of the call, over `R` rows. -/
structure Args (R : ℕ) where
  x : FVec Ideal ⟨2, ![R, 2048]⟩ .f32
  a : FVec Ideal ⟨2, ![R, 512]⟩ .bf16
  b : FVec Ideal ⟨2, ![R, 512]⟩ .bf16
  d : FVec Ideal ⟨2, ![R, 512]⟩ .bf16
  e : FVec Ideal ⟨2, ![R, 512]⟩ .bf16
  wo : FVec Ideal S2048x2048 .f32
  ga : FVec Ideal S2048 .f32
  gb : FVec Ideal S2048 .f32
  wg : FVec Ideal S2048x5632 .f32
  wu : FVec Ideal S2048x5632 .f32
  wd : FVec Ideal S5632x2048 .f32
  gc : FVec Ideal S2048 .f32

/-- The blocks a point reads. -/
structure Blk where
  x : FVec Ideal S512x2048 .f32
  a : FVec Ideal S512x512 .bf16
  b : FVec Ideal S512x512 .bf16
  d : FVec Ideal S512x512 .bf16
  e : FVec Ideal S512x512 .bf16
  wo : FVec Ideal S4x512x2048 .bf16
  ga : FVec Ideal S1x2048 .f32
  gb : FVec Ideal S1x2048 .f32
  wg : FVec Ideal S2048x512 .bf16
  wu : FVec Ideal S2048x512 .bf16
  wd : FVec Ideal S512x2048 .bf16
  gc : FVec Ideal S1x2048 .f32

namespace Args
variable {R : ℕ} (A : Args R)
/-! The rows of the specification. -/
def mid : Fin R → Fin 2048 → EReal := Layer.mid A.x A.a A.b A.d A.e A.wo A.ga
def hid : Fin R → Fin 2048 → EReal := Layer.hid A.x A.a A.b A.d A.e A.wo A.ga A.gb
def gate : Fin R → Fin 5632 → EReal := Layer.gate A.x A.a A.b A.d A.e A.wo A.ga A.gb A.wg A.wu
def ffn : FVec Ideal ⟨2, ![R, 2048]⟩ .f32 := Layer.ffn A.x A.a A.b A.d A.e A.wo A.ga A.gb A.wg A.wu A.wd A.gc
end Args

namespace Blk
variable (b : Blk)
/-- One of the four blocks of the projection's matrix. -/
def w0 : Vec Ideal S1x512x2048 .bf16 := View.ld (Val := Elt Ideal) (e' := EltTy.bf16) b.wo (Rect.unit (s := S4x512x2048) ![0, 0, 0] ![1, 512, 2048] inb_S4x512x2048_S1x512x2048_0_0_0)
def w1 : Vec Ideal S1x512x2048 .bf16 := View.ld (Val := Elt Ideal) (e' := EltTy.bf16) b.wo (Rect.unit (s := S4x512x2048) ![1, 0, 0] ![1, 512, 2048] inb_S4x512x2048_S1x512x2048_1_0_0)
def w2 : Vec Ideal S1x512x2048 .bf16 := View.ld (Val := Elt Ideal) (e' := EltTy.bf16) b.wo (Rect.unit (s := S4x512x2048) ![2, 0, 0] ![1, 512, 2048] inb_S4x512x2048_S1x512x2048_2_0_0)
def w3 : Vec Ideal S1x512x2048 .bf16 := View.ld (Val := Elt Ideal) (e' := EltTy.bf16) b.wo (Rect.unit (s := S4x512x2048) ![3, 0, 0] ![1, 512, 2048] inb_S4x512x2048_S1x512x2048_3_0_0)
/-- The projected rows before the residual, the mean of their squares, the rows after it, and the normalised rows. -/
def pre : FVec Ideal S512x2048 .f32 := k0_pay6 (F := Ideal) b.a b.w0 b.b b.w1 b.d b.w2 b.e b.w3
def var : FVec Ideal S512x1 .f32 := k0_pay8 (F := Ideal) b.a b.w0 b.b b.w1 b.d b.w2 b.e b.w3
def mid : FVec Ideal S512x2048 .f32 := k0_pay1 (F := Ideal) b.pre b.x (k0_pay7 (F := Ideal) b.ga) b.var
def hid : FVec Ideal S512x2048 .bf16 := k0_pay2 (F := Ideal) b.pre b.x (k0_pay7 (F := Ideal) b.ga) b.var b.gb
/-- One step of the running sum. -/
def step (h : FVec Ideal S512x2048 .bf16) (acc : FVec Ideal S512x2048 .f32) : FVec Ideal S512x2048 .f32 :=
  k0_pay4 (F := Ideal) h b.wg b.wu acc b.wd
end Blk

/-- Point `t` reads row block `t / 11` and hidden columns `512 (t % 11) …`. -/
structure Stages {R T : ℕ} (A : Args R) (B : Fin T → Blk) : Prop where
  bd : ∀ n, n < T → ∀ r : Fin 512, 512 * (n / 11) + r.val < R
  x : ∀ t r k, (B t).x (ix2 r k) = A.x (ix2 ⟨512 * (t.val / 11) + r, bd _ t.isLt r⟩ k)
  a : ∀ t r k, (B t).a (ix2 r k) = A.a (ix2 ⟨512 * (t.val / 11) + r, bd _ t.isLt r⟩ k)
  b : ∀ t r k, (B t).b (ix2 r k) = A.b (ix2 ⟨512 * (t.val / 11) + r, bd _ t.isLt r⟩ k)
  d : ∀ t r k, (B t).d (ix2 r k) = A.d (ix2 ⟨512 * (t.val / 11) + r, bd _ t.isLt r⟩ k)
  e : ∀ t r k, (B t).e (ix2 r k) = A.e (ix2 ⟨512 * (t.val / 11) + r, bd _ t.isLt r⟩ k)
  wo : ∀ t (s : Fin 4) (k : Fin 512) (j : Fin 2048), (B t).wo (ix3 s k j) = A.wo (ix2 ⟨512 * s + k, by omega⟩ j)
  ga : ∀ t r k, (B t).ga (ix2 r k) = A.ga (ix1 k)
  gb : ∀ t r k, (B t).gb (ix2 r k) = A.gb (ix1 k)
  wg : ∀ t k (l : Fin 512), (B t).wg (ix2 k l) = A.wg (ix2 k ⟨512 * (t.val % 11) + l, by omega⟩)
  wu : ∀ t k (l : Fin 512), (B t).wu (ix2 k l) = A.wu (ix2 k ⟨512 * (t.val % 11) + l, by omega⟩)
  wd : ∀ t (l : Fin 512) j, (B t).wd (ix2 l j) = A.wd (ix2 ⟨512 * (t.val % 11) + l, by omega⟩ j)
  gc : ∀ t r k, (B t).gc (ix2 r k) = A.gc (ix1 k)

/-- What the points leave in the output block and the two scratch arrays. -/
structure Runs {T : ℕ} (B : Fin T → Blk) (o : (n : ℕ) → n < T → FVec Ideal S512x2048 .f32 × FVec Ideal S512x2048 .bf16 × FVec Ideal S512x2048 .f32) : Prop where
  first : ∀ t : Fin T, t.val % 11 = 0 → o t.val t.isLt = ((B t).mid, (B t).hid, (B t).step (B t).hid (k0_pay3 (F := Ideal)))
  next : ∀ t : Fin T, ¬t.val % 11 = 0 → ¬t.val % 11 = 10 → o t.val t.isLt
    = ((o (t.val - 1) (by omega)).1, (o (t.val - 1) (by omega)).2.1, (B t).step (o (t.val - 1) (by omega)).2.1 (o (t.val - 1) (by omega)).2.2)
  last : ∀ t : Fin T, t.val % 11 = 10 → (o t.val t.isLt).1
    = k0_pay5 (F := Ideal) (o (t.val - 1) (by omega)).1 ((B t).step (o (t.val - 1) (by omega)).2.1 (o (t.val - 1) (by omega)).2.2) (B t).gc

/-- The hidden columns one after another, 512 to a step. -/
def lane (s : ℕ) (k : Fin 512) : Fin 5632 := ⟨(512 * s + k) % 5632, Nat.mod_lt _ (by decide)⟩

/-- What step `s` adds to row `i` of the running sum. -/
def part {R : ℕ} (A : Args R) (i : Fin R) (s : ℕ) (j : Fin 2048) : EReal := ∑ k : Fin 512, A.gate i (lane s k) * A.wd (ix2 (lane s k) j)

/-- All eleven steps make the product with the whole matrix. -/
theorem total {R : ℕ} (A : Args R) (i : Fin R) (j : Fin 2048) :
    ∑ s ∈ Finset.range 11, part A i s j = Layer.row (A.gate i) (fun l j => A.wd (ix2 l j)) j := by
  rw [Finset.sum_range]
  unfold part Layer.row
  rw [Fin.sum_univ_tiles 11 512 rfl]
  refine Fin.sum_fin_congr fun s => Fin.sum_fin_congr fun k => ?_
  have e : lane s k = ⟨(s : ℕ) * 512 + k, by omega⟩ := Fin.ext (by show (512 * (s : ℕ) + k) % 5632 = s * 512 + k; rw [Nat.mod_eq_of_lt (by omega)]; omega)
  rw [e]

section points
variable {R T : ℕ} {A : Args R} {B : Fin T → Blk} (S : Stages A B)
include S

theorem ld0 (t : Fin T) (k : Fin 512) (j : Fin 2048) : (B t).w0 (ix3 0 k j) = A.wo (ix2 ⟨k, by omega⟩ j) := by
  pointwise [Blk.w0, S.wo]
theorem ld1 (t : Fin T) (k : Fin 512) (j : Fin 2048) : (B t).w1 (ix3 0 k j) = A.wo (ix2 ⟨512 + k, by omega⟩ j) := by
  pointwise [Blk.w1, S.wo]
theorem ld2 (t : Fin T) (k : Fin 512) (j : Fin 2048) : (B t).w2 (ix3 0 k j) = A.wo (ix2 ⟨1024 + k, by omega⟩ j) := by
  pointwise [Blk.w2, S.wo]
theorem ld3 (t : Fin T) (k : Fin 512) (j : Fin 2048) : (B t).w3 (ix3 0 k j) = A.wo (ix2 ⟨1536 + k, by omega⟩ j) := by
  pointwise [Blk.w3, S.wo]

/-- The projected row before the residual. -/
theorem pre_at (t : Fin T) (r : Fin 512) (j : Fin 2048) : (B t).pre (ix2 r j)
    = Layer.mix (fun k => A.a (ix2 ⟨512 * (t.val / 11) + r, S.bd _ t.isLt r⟩ k)) (fun k => A.b (ix2 ⟨512 * (t.val / 11) + r, S.bd _ t.isLt r⟩ k))
        (fun k => A.d (ix2 ⟨512 * (t.val / 11) + r, S.bd _ t.isLt r⟩ k)) (fun k => A.e (ix2 ⟨512 * (t.val / 11) + r, S.bd _ t.isLt r⟩ k))
        (fun k l => A.wo (ix2 k l)) j := by
  unfold Blk.pre
  rw [pay6]
  simp only [S.a, S.b, S.d, S.e, ld0 S, ld1 S, ld2 S, ld3 S, Layer.mix]

/-- The projected row. -/
theorem mid_at (t : Fin T) (r : Fin 512) (j : Fin 2048) : (B t).mid (ix2 r j) = A.mid ⟨512 * (t.val / 11) + r, S.bd _ t.isLt r⟩ j := by
  refine (pay16 _ _ _ _ _ _ _ _ _ _ r j).trans (congrArg₂ (· + ·) (S.x t r j) ?_)
  exact congrArg₂ (fun x g => Layer.rms x g j) (funext fun k => pre_at S t r k) (funext fun k => S.ga t 0 k)

/-- The normalised row. -/
theorem hid_at (t : Fin T) (r : Fin 512) (j : Fin 2048) : (B t).hid (ix2 r j) = A.hid ⟨512 * (t.val / 11) + r, S.bd _ t.isLt r⟩ j := by
  refine (pay2 _ _ _ _ _ r j).trans ?_
  exact congrArg₂ (fun x g => Layer.rms x g j) (funext fun k => mid_at S t r k) (funext fun k => S.gb t 0 k)

/-- One step of the running sum, over the rows the scratch holds. -/
theorem step_at (t : Fin T) (H : FVec Ideal S512x2048 .bf16) (acc : FVec Ideal S512x2048 .f32) (r : Fin 512) (j : Fin 2048)
    (hH : ∀ k, H (ix2 r k) = A.hid ⟨512 * (t.val / 11) + r, S.bd _ t.isLt r⟩ k) :
    (B t).step H acc (ix2 r j) = acc (ix2 r j) + part A ⟨512 * (t.val / 11) + r, S.bd _ t.isLt r⟩ (t.val % 11) j := by
  unfold Blk.step
  rw [pay4]
  have e : ∀ k : Fin 512, lane (t.val % 11) k = ⟨512 * (t.val % 11) + k, by omega⟩ := fun k => Fin.ext (Nat.mod_eq_of_lt (by omega))
  simp only [hH, S.wg, S.wu, S.wd, part, e, Args.gate, Layer.gate, Layer.act, Layer.row, Args.hid]

variable {o : (n : ℕ) → n < T → FVec Ideal S512x2048 .f32 × FVec Ideal S512x2048 .bf16 × FVec Ideal S512x2048 .f32} (P : Runs B o)
include P

/-- After a row block's first point. -/
theorem held_first (t : Fin T) (h : t.val % 11 = 0) (r : Fin 512) (j : Fin 2048) :
    (o t.val t.isLt).1 (ix2 r j) = A.mid ⟨512 * (t.val / 11) + r, S.bd _ t.isLt r⟩ j
    ∧ (o t.val t.isLt).2.1 (ix2 r j) = A.hid ⟨512 * (t.val / 11) + r, S.bd _ t.isLt r⟩ j
    ∧ (o t.val t.isLt).2.2 (ix2 r j) = ∑ s ∈ Finset.range (t.val % 11 + 1), part A ⟨512 * (t.val / 11) + r, S.bd _ t.isLt r⟩ s j := by
  rw [P.first t h]
  refine ⟨mid_at S t r j, hid_at S t r j, (step_at S t _ _ r j fun k => hid_at S t r k).trans ?_⟩
  rw [pay3, zero_add, h]
  simp

/-- Before a row block's last point: the projected rows, the normalised rows, and the sum of the steps so far. -/
theorem held : ∀ (n : ℕ) (hn : n < T), ¬n % 11 = 10 → ∀ (r : Fin 512) (j : Fin 2048),
    (o n hn).1 (ix2 r j) = A.mid ⟨512 * (n / 11) + r, S.bd _ hn r⟩ j
    ∧ (o n hn).2.1 (ix2 r j) = A.hid ⟨512 * (n / 11) + r, S.bd _ hn r⟩ j
    ∧ (o n hn).2.2 (ix2 r j) = ∑ s ∈ Finset.range (n % 11 + 1), part A ⟨512 * (n / 11) + r, S.bd _ hn r⟩ s j := by
  intro n
  induction n with
  | zero => exact fun hn _ r j => held_first S P ⟨0, hn⟩ rfl r j
  | succ n ih =>
    intro hn h' r j
    by_cases h : (n + 1) % 11 = 0
    · exact held_first S P ⟨n + 1, hn⟩ h r j
    · have p := ih (by omega) (by omega) r
      have hd : (⟨512 * (n / 11) + r, S.bd _ (by omega) r⟩ : Fin R) = ⟨512 * ((n + 1) / 11) + r, S.bd _ hn r⟩ :=
        Fin.ext (by show 512 * (n / 11) + r.val = 512 * ((n + 1) / 11) + r.val; omega)
      rw [hd] at p
      have q := P.next ⟨n + 1, hn⟩ h h'
      rw [show o (n + 1) hn = _ from q]
      refine ⟨(p j).1, (p j).2.1, ?_⟩
      refine (step_at S ⟨n + 1, hn⟩ _ _ r j fun k => (p k).2.1).trans ?_
      rw [show (n + 1) % 11 = n % 11 + 1 by omega, Finset.sum_range_succ _ (n % 11 + 1)]
      exact congrArg (· + _) (p j).2.2

/-- A row block's last point leaves the result. -/
theorem done (t : Fin T) (h : t.val % 11 = 10) (r : Fin 512) (j : Fin 2048) :
    (o t.val t.isLt).1 (ix2 r j) = A.ffn (ix2 ⟨512 * (t.val / 11) + r, S.bd _ t.isLt r⟩ j) := by
  have ht := t.isLt
  have p := held S P (t.val - 1) (by omega) (by omega) r
  have hd : (⟨512 * ((t.val - 1) / 11) + r, S.bd _ (by omega) r⟩ : Fin R) = ⟨512 * (t.val / 11) + r, S.bd _ ht r⟩ :=
    Fin.ext (by show 512 * ((t.val - 1) / 11) + r.val = 512 * (t.val / 11) + r.val; omega)
  rw [hd] at p
  rw [P.last t h, pay5, (p j).1]
  have q : ∀ k : Fin 2048, (B t).step (o (t.val - 1) (by omega)).2.1 (o (t.val - 1) (by omega)).2.2 (ix2 r k)
      = Layer.row (A.gate ⟨512 * (t.val / 11) + r, S.bd _ ht r⟩) (fun l j => A.wd (ix2 l j)) k := fun k => by
    rw [step_at S t _ _ r k fun k => (p k).2.1, ← total, Finset.sum_range_succ _ 10, (p k).2.2, h, show (t.val - 1) % 11 + 1 = 10 by omega]
  simp only [q, S.gc]
  rfl
end points
end Cert.Kernel2Ideal.Ffn
end
-- ==== Proof.Ffn.lean ====
module
public import proofs.«01_k».proof.Proof.Gen.Kernel2Ideal.Value
public import proofs.«01_k».proof.Proof.FfnCore
public import Idealize.ShloMosaic.Lib.Pipeline.ValueKit
public import Idealize.ShloMosaic.Lib.Pointwise
@[expose] public section
set_option maxRecDepth 16384
noncomputable section

/-! The output and feed-forward part at the sample's rows: the blocks, the points and the result. -/
namespace Cert.Kernel2Ideal.Ffn
open Cert.Kernel2Ideal Cert.Kernel2Ideal.Gen Idealize.ShloMosaic Idealize.ShloMosaic.TcCoe Idealize.SL.Sem
open Cert.Kernel2Ideal.Ffn (Args Blk Stages Runs)
open Idealize.ShloMosaic.Pipeline (Dat)
variable (m : (ℓ : Loc nD τ sig) → Buf (Elt Ideal) ℓ)

theorem points : cfg0.N = 44 := by decide +kernel

theorem idx : ∀ t : Fin cfg0.N, win0_0.index t = ![t.val / 11, 0] ∧ win0_1.index t = ![t.val / 11, 0] ∧ win0_2.index t = ![t.val / 11, 0]
    ∧ win0_3.index t = ![t.val / 11, 0] ∧ win0_4.index t = ![t.val / 11, 0] ∧ win0_5.index t = ![0, 0, 0]
    ∧ win0_6.index t = ![0, 0] ∧ win0_7.index t = ![0, 0] ∧ win0_8.index t = ![0, t.val % 11] ∧ win0_9.index t = ![0, t.val % 11]
    ∧ win0_10.index t = ![t.val % 11, 0] ∧ win0_11.index t = ![0, 0] ∧ win0_12.index t = ![t.val / 11, 0] :=
  (by decide +kernel : ∀ t : Fin grid0.N, _)

/-- The call's arguments. -/
def args (c : Dev nD) : Args 2048 :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9), m ((c.tc : Thread nD τ).loc main_arg10), m ((c.tc : Thread nD τ).loc main_arg11)⟩

/-- The blocks staged at a point. -/
def blks (c : Dev nD) (t : Fin cfg0.N) : Blk :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t⟩

/-! What each staged block holds of its array, at point `t`. -/
theorem blk0 (c : Dev nD) (t : Fin cfg0.N) (r : Fin 512) (k : Fin 2048) :
    (iblk m c 0 t : FVec Ideal S512x2048 .f32) (ix2 r k)
      = (m ((c.tc : Thread nD τ).loc main_arg0) : FVec Ideal S2048x2048 .f32) (ix2 ⟨512 * (t.val / 11) + r, by have := t.isLt; have := points; omega⟩ k) := by
  blk_point [iblk, V, idx t]
theorem blk1 (c : Dev nD) (t : Fin cfg0.N) (r : Fin 512) (k : Fin 512) :
    (iblk m c 1 t : FVec Ideal S512x512 .bf16) (ix2 r k)
      = (m ((c.tc : Thread nD τ).loc main_arg1) : FVec Ideal S2048x512 .bf16) (ix2 ⟨512 * (t.val / 11) + r, by have := t.isLt; have := points; omega⟩ k) := by
  blk_point [iblk, V, idx t]
theorem blk2 (c : Dev nD) (t : Fin cfg0.N) (r : Fin 512) (k : Fin 512) :
    (iblk m c 2 t : FVec Ideal S512x512 .bf16) (ix2 r k)
      = (m ((c.tc : Thread nD τ).loc main_arg2) : FVec Ideal S2048x512 .bf16) (ix2 ⟨512 * (t.val / 11) + r, by have := t.isLt; have := points; omega⟩ k) := by
  blk_point [iblk, V, idx t]
theorem blk3 (c : Dev nD) (t : Fin cfg0.N) (r : Fin 512) (k : Fin 512) :
    (iblk m c 3 t : FVec Ideal S512x512 .bf16) (ix2 r k)
      = (m ((c.tc : Thread nD τ).loc main_arg3) : FVec Ideal S2048x512 .bf16) (ix2 ⟨512 * (t.val / 11) + r, by have := t.isLt; have := points; omega⟩ k) := by
  blk_point [iblk, V, idx t]
theorem blk4 (c : Dev nD) (t : Fin cfg0.N) (r : Fin 512) (k : Fin 512) :
    (iblk m c 4 t : FVec Ideal S512x512 .bf16) (ix2 r k)
      = (m ((c.tc : Thread nD τ).loc main_arg4) : FVec Ideal S2048x512 .bf16) (ix2 ⟨512 * (t.val / 11) + r, by have := t.isLt; have := points; omega⟩ k) := by
  blk_point [iblk, V, idx t]
theorem blk5 (c : Dev nD) (t : Fin cfg0.N) (s : Fin 4) (k : Fin 512) (j : Fin 2048) :
    (iblk m c 5 t : FVec Ideal S4x512x2048 .bf16) (ix3 s k j)
      = (m ((c.tc : Thread nD τ).loc main_arg5) : FVec Ideal S2048x2048 .f32) (ix2 ⟨512 * s + k, by omega⟩ j) := by
  blk_point [iblk, idx t]
theorem blk6 (c : Dev nD) (t : Fin cfg0.N) (r : Fin 1) (k : Fin 2048) :
    (iblk m c 6 t : FVec Ideal S1x2048 .f32) (ix2 r k)
      = (m ((c.tc : Thread nD τ).loc main_arg6) : FVec Ideal S2048 .f32) (ix1 k) := by
  blk_point [iblk, idx t]
theorem blk7 (c : Dev nD) (t : Fin cfg0.N) (r : Fin 1) (k : Fin 2048) :
    (iblk m c 7 t : FVec Ideal S1x2048 .f32) (ix2 r k)
      = (m ((c.tc : Thread nD τ).loc main_arg7) : FVec Ideal S2048 .f32) (ix1 k) := by
  blk_point [iblk, idx t]
theorem blk8 (c : Dev nD) (t : Fin cfg0.N) (k : Fin 2048) (l : Fin 512) :
    (iblk m c 8 t : FVec Ideal S2048x512 .bf16) (ix2 k l)
      = (m ((c.tc : Thread nD τ).loc main_arg8) : FVec Ideal S2048x5632 .f32) (ix2 k ⟨512 * (t.val % 11) + l, by omega⟩) := by
  blk_point [iblk, idx t]
theorem blk9 (c : Dev nD) (t : Fin cfg0.N) (k : Fin 2048) (l : Fin 512) :
    (iblk m c 9 t : FVec Ideal S2048x512 .bf16) (ix2 k l)
      = (m ((c.tc : Thread nD τ).loc main_arg9) : FVec Ideal S2048x5632 .f32) (ix2 k ⟨512 * (t.val % 11) + l, by omega⟩) := by
  blk_point [iblk, idx t]
theorem blk10 (c : Dev nD) (t : Fin cfg0.N) (l : Fin 512) (j : Fin 2048) :
    (iblk m c 10 t : FVec Ideal S512x2048 .bf16) (ix2 l j)
      = (m ((c.tc : Thread nD τ).loc main_arg10) : FVec Ideal S5632x2048 .f32) (ix2 ⟨512 * (t.val % 11) + l, by omega⟩ j) := by
  blk_point [iblk, idx t]
theorem blk11 (c : Dev nD) (t : Fin cfg0.N) (r : Fin 1) (k : Fin 2048) :
    (iblk m c 11 t : FVec Ideal S1x2048 .f32) (ix2 r k)
      = (m ((c.tc : Thread nD τ).loc main_arg11) : FVec Ideal S2048 .f32) (ix1 k) := by
  blk_point [iblk, idx t]

/-- Together. -/
theorem stages (c : Dev nD) : Stages (args m c) (blks m c) where
  bd n h r := by have := points; omega
  x := blk0 m c
  a := blk1 m c
  b := blk2 m c
  d := blk3 m c
  e := blk4 m c
  wo := blk5 m c
  ga := blk6 m c
  gb := blk7 m c
  wg := blk8 m c
  wu := blk9 m c
  wd := blk10 m c
  gc := blk11 m c

/-- What the points leave. -/
theorem runs (c : Dev nD) : Runs (blks m c) (outsAt0 m c) where
  first t h := by
    rw [outsAt0_A m c t h (by omega)]
    refine Prod.ext ?_ (Prod.ext ?_ ?_) <;> frame_out <;>
      simp only [blks, Blk.mid, Blk.hid, Blk.step, Blk.pre, Blk.var, Blk.w0, Blk.w1, Blk.w2, Blk.w3]
  next t h h' := by
    rw [outsAt0_B m c t h h']
    refine Prod.ext rfl (Prod.ext rfl ?_)
    frame_out
    exact congrArg₂ (blks m c t).step (Memref.IsWhole.read_unread _ _) (Memref.IsWhole.read_unread _ _)
  last t h := by
    rw [outsAt0_C m c t (by omega) h]
    frame_out
    exact congrArg₂ (fun H acc => Cert.Kernel2Ideal.Gen.k0_pay5 (F := Ideal) _ ((blks m c t).step H acc) _)
      (Memref.IsWhole.read_unread _ _) (Memref.IsWhole.read_unread _ _)

/-- The result after the run. -/
theorem final (c : Dev nD) : (dats m 0 c).arrAt 12 cfg0.N
    = Layer.ffn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (dats m 0 c).arrAt_eq_of_covers 12 _ (by decide +kernel) fun t hf y => ?_
  have ht : t.val < 44 := lt_of_lt_of_eq t.isLt points
  have e : ((View.whole main_v8).slice (win0_12.rect t)).emb y
      = (ix2 ⟨512 * (t.val / 11) + (y 0 : ℕ), by have : (y 0 : ℕ) < 512 := (y 0).isLt; omega⟩ (y 1) : S2048x2048.Idx) := by
    blk_ext [idx t]
  blk_simp
  rw [after0_12, e]
  idx_vars y
  exact Cert.Kernel2Ideal.Ffn.done (stages m c) (runs m c) t ((flush0_12 t).mp hf) y0 y1
end Cert.Kernel2Ideal.Ffn
end
-- ==== Proof.FfnRef.lean ====
module
public import proofs.«01_k».proof.Defs
public import proofs.«01_k».proof.Proof.Ffn
public import proofs.«01_k».proof.Proof.Gen.Reference2Ideal.Read
public import proofs.«01_k».proof.Proof.Gen.Kernel2Ideal
public import proofs.«01_k».proof.Proof.Gen.Reference2Ideal
public import Idealize.ShloMosaic.Lib.Claim
public import Idealize.ShloMosaic.Lib.Pointwise
@[expose] public section
set_option maxRecDepth 16384
noncomputable section

/-! The output and feed-forward part: the reference at one index, and both programs' runs. -/
namespace Cert.Reference2Ideal.Ffn
open Idealize.ShloMosaic Idealize.ShloMosaic.TcCoe Idealize.SL.Sem Cert.Reference2Ideal Cert.Reference2Ideal.Read
variable (x0 : FVec Ideal S2048x2048 .f32) (x1 x2 x3 x4 : FVec Ideal S2048x512 .bf16) (x5 : FVec Ideal S2048x2048 .f32)
  (x6 x7 : FVec Ideal S2048 .f32) (x8 x9 : FVec Ideal S2048x5632 .f32) (x10 : FVec Ideal S5632x2048 .f32) (x11 : FVec Ideal S2048 .f32)

theorem mix_at (i j : Fin 2048) : val_main_v5 (F := Ideal) x1 x2 x3 x4 x5 (ix2 i j)
    = Layer.mix (fun k => x1 (ix2 i k)) (fun k => x2 (ix2 i k)) (fun k => x3 (ix2 i k)) (fun k => x4 (ix2 i k)) (fun k l => x5 (ix2 k l)) j := by
  pointwise [val_main_v5, val_main_v4, val_main_v3, val_main_v2, val_main_v1, val_main_v0]
  refine Layer.sum_quarters _ _ _ _ _ (fun k l => x5 (ix2 k l)) j (fun k => ?_) (fun k => ?_) (fun k => ?_) (fun k => ?_)
  · exact dif_pos (show (k : ℕ) < 512 by omega)
  · exact (dif_neg (show ¬512 + (k : ℕ) < 512 by omega)).trans ((dif_pos (show 512 + (k : ℕ) - 512 < 512 by omega)).trans
      (congrArg (fun k => x2 (ix2 i k)) (Fin.ext (show 512 + (k : ℕ) - 512 = k by omega))))
  · exact (dif_neg (show ¬1024 + (k : ℕ) < 512 by omega)).trans ((dif_neg (show ¬1024 + (k : ℕ) - 512 < 512 by omega)).trans
      ((dif_pos (show 1024 + (k : ℕ) - 512 - 512 < 512 by omega)).trans (congrArg (fun k => x3 (ix2 i k)) (Fin.ext (show 1024 + (k : ℕ) - 512 - 512 = k by omega)))))
  · exact (dif_neg (show ¬1536 + (k : ℕ) < 512 by omega)).trans ((dif_neg (show ¬1536 + (k : ℕ) - 512 < 512 by omega)).trans
      ((dif_neg (show ¬1536 + (k : ℕ) - 512 - 512 < 512 by omega)).trans (congrArg (fun k => x4 (ix2 i k)) (Fin.ext (show 1536 + (k : ℕ) - 512 - 512 - 512 = k by omega)))))

theorem mid_at (i j : Fin 2048) : val_main_v19 (F := Ideal) x0 x1 x2 x3 x4 x5 x6 (ix2 i j) = Layer.mid x0 x1 x2 x3 x4 x5 x6 i j := by
  pointwise [val_main_v19, val_main_v18, val_main_v17, val_main_v16, val_main_v15, val_main_v14, val_main_v13, val_main_v12, val_main_v11,
    val_main_v10, val_main_v9, val_main_v8, val_main_v7, val_main_v6, val_main_cst, val_main_cst_0, val_main_cst_1, mix_at, Layer.mid, Layer.rms]

theorem hid_at (i j : Fin 2048) : val_main_v32 (F := Ideal) x0 x1 x2 x3 x4 x5 x6 x7 (ix2 i j) = Layer.hid x0 x1 x2 x3 x4 x5 x6 x7 i j := by
  pointwise [val_main_v32, val_main_v31, val_main_v30, val_main_v29, val_main_v28, val_main_v27, val_main_v26, val_main_v25, val_main_v24, val_main_v23,
    val_main_v22, val_main_v21, val_main_v20, val_main_cst_2, val_main_cst_3, val_main_cst_4, mid_at, Layer.hid, Layer.rms]

theorem gate_at (i : Fin 2048) (l : Fin 5632) : val_main_v36 (F := Ideal) x0 x1 x2 x3 x4 x5 x6 x7 x8 x9 (ix2 i l) = Layer.gate x0 x1 x2 x3 x4 x5 x6 x7 x8 x9 i l := by
  pointwise [val_main_v36, val_main_v35, val_main_v34, val_main_v33, val_main_call0_v0, val_main_call0_v1, val_main_call0_v2, val_main_call0_v3,
    val_main_call0_v4, val_main_call0_v5, val_main_call0_cst, val_main_call0_cst_0, hid_at, Layer.gate, Layer.act, Layer.row, Layer.silu, zero_sub]

theorem ref : val_main_v51 (F := Ideal) x0 x1 x2 x3 x4 x5 x6 x7 x8 x9 x10 x11 = Layer.ffn x0 x1 x2 x3 x4 x5 x6 x7 x8 x9 x10 x11 := by
  funext i
  idx_vars i
  pointwise [val_main_v51, val_main_v50, val_main_v49, val_main_v48, val_main_v47, val_main_v46, val_main_v45, val_main_v44, val_main_v43, val_main_v42,
    val_main_v41, val_main_v40, val_main_v39, val_main_v38, val_main_v37, val_main_cst_5, val_main_cst_6, val_main_cst_7, gate_at, mid_at, Layer.ffn, Layer.rms, Layer.row]
end Cert.Reference2Ideal.Ffn

namespace Cert.Proof
open Idealize.ShloMosaic Idealize.ShloMosaic.TcCoe Idealize.SL.Sem

/-- What the kernel's run leaves. -/
theorem ker_run2 (m : (ℓ : Loc Cert.Kernel2Ideal.nD Cert.Kernel2Ideal.τ Cert.Kernel2Ideal.sig) → Buf (Elt Ideal) ℓ) (g : Dev Cert.Kernel2Ideal.nD → PrngReg) :
    θ_run (Cert.Kernel2Ideal.defs (F := Ideal)) (onTc (τ := Cert.Kernel2Ideal.τ) (Cert.Kernel2Ideal.main (F := Ideal))) ⟨m, fun _ => 0, g⟩ fun r => ∀ c : Dev Cert.Kernel2Ideal.nD,
      r.2.mem ((c.tc : Thread Cert.Kernel2Ideal.nD Cert.Kernel2Ideal.τ).loc Cert.Kernel2Ideal.main_v8) = Layer.ffn (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11) :=
  (θ_run _ _ _).mono (fun r h c => ⟨(h c).1.trans (Cert.Kernel2Ideal.Ffn.final m c), (h c).2⟩) (Cert.Kernel2Ideal.Value.run_blocks m g)

/-- What the reference's run leaves. -/
theorem ref_run2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ fun r => ∀ c : Dev Cert.Reference2Ideal.nD,
      r.2.mem ((c.tc : Thread Cert.Reference2Ideal.nD Cert.Reference2Ideal.τ).loc Cert.Reference2Ideal.main_v51) = Layer.ffn (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11) :=
  (θ_run _ _ _).mono (fun r h c => ⟨(h c).1.trans ((Cert.Reference2Ideal.Read.val_main_v51_eq m c).trans (Cert.Reference2Ideal.Ffn.ref _ _ _ _ _ _ _ _ _ _ _ _)), (h c).2⟩)
    (Cert.Reference2Ideal.Value.run m g)

/-- The reference's frame: its run leaves the arguments, and it declares no semaphore. -/
theorem frame_ref2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0 :=
  (θ_run _ _ _).mono (fun r h => ⟨fun c => (h c).2, sem_eq_zero_of_no_sems (by decide) r.2⟩) (Cert.Reference2Ideal.Value.run m g)

/-- Kernel and reference compute the same array. -/
theorem alg2 : letI := Cert.Kernel2Ideal.Gen.facts; letI := Cert.Reference2Ideal.Gen.facts; algebraic_Kernel2Ideal_Reference2Ideal := by
  pair_intro
  · run_from ker_run2 m g
  · run_from ref_run2 m' g'

end Cert.Proof
-- ==== Proof.Scan.lean ====
module
public import Mathlib.Data.Complex.Basic
public import Mathlib.Data.EReal.Operations
public import Mathlib.Algebra.BigOperators.Fin
public import Mathlib.Tactic.Ring
public import Mathlib.Tactic.IntervalCases
@[expose] public section

/-! The linear recurrence `h ← λ h + x` over the complex numbers, a tile of eight steps of it by doubling, and pairs of
extended reals that are the parts of a complex number. -/

noncomputable section
namespace Cert.Scan

/-- The state before step `t` of the recurrence: `h` at first, then `λ` times the state before plus the step's input. -/
def H (l h : ℂ) (x : ℕ → ℂ) : ℕ → ℂ
  | 0 => h
  | t + 1 => l * H l h x t + x t

/-- The input of the row `s` above, zero where there is none. -/
def up (s : ℕ) (x : ℕ → ℂ) (r : ℕ) : ℂ := if s ≤ r then x (r - s) else 0

/-- One doubling of a tile: each row and `l` times the row `s` above. -/
def lvl (l : ℂ) (s : ℕ) (x : ℕ → ℂ) (r : ℕ) : ℂ := x r + l * up s x r

/-- Three doublings, and the power of `λ` times the state before the tile, give the states after each of its rows. -/
theorem tile (l h : ℂ) (x : ℕ → ℂ) (k : ℕ) (r : ℕ) (hr : r < 8) :
    lvl (l ^ 4) 4 (lvl (l ^ 2) 2 (lvl l 1 fun r => x (8 * k + r))) r + l ^ (r + 1) * H l h x (8 * k)
      = H l h x (8 * k + r + 1) := by
  interval_cases r <;> simp [lvl, up, H] <;> ring

/-- The pair is the real and the imaginary part of `z`. -/
def Is (a b : EReal) (z : ℂ) : Prop := a = ((z.re : ℝ) : EReal) ∧ b = ((z.im : ℝ) : EReal)

theorem is_mul {a b c d : EReal} {z w : ℂ} (h : Is a b z) (g : Is c d w) : Is (a * c - b * d) (a * d + b * c) (z * w) := by
  obtain ⟨rfl, rfl⟩ := h; obtain ⟨rfl, rfl⟩ := g
  constructor
  · rw [Complex.mul_re]; push_cast; rfl
  · rw [Complex.mul_im]; push_cast; rfl

/-- One step: `z w + v`. -/
theorem is_step {a b c d e f : EReal} {z w v : ℂ} (h : Is a b z) (g : Is c d w) (k : Is e f v) :
    Is (a * c - b * d + e) (a * d + b * c + f) (z * w + v) := by
  obtain ⟨h1, h2⟩ := is_mul h g; obtain ⟨rfl, rfl⟩ := k
  rw [h1, h2]
  constructor
  · rw [Complex.add_re]; push_cast; rfl
  · rw [Complex.add_im]; push_cast; rfl

/-- A row and a multiple of another: `v + z w`. -/
theorem is_acc {a b c d e f : EReal} {z w v : ℂ} (k : Is e f v) (h : Is a b z) (g : Is c d w) :
    Is (e + a * c - b * d) (f + a * d + b * c) (v + z * w) := by
  obtain ⟨rfl, rfl⟩ := h; obtain ⟨rfl, rfl⟩ := g; obtain ⟨rfl, rfl⟩ := k
  constructor
  · rw [Complex.add_re, Complex.mul_re, add_sub_assoc']; push_cast; rfl
  · rw [Complex.add_im, Complex.mul_im, ← add_assoc]; push_cast; rfl

theorem is_of_eq {a b a' b' : EReal} {z : ℂ} (h : Is a' b' z) (e : a = a') (g : b = b') : Is a b z := by rwa [e, g]

theorem is_zero : Is 0 0 0 := ⟨by simp, by simp⟩

theorem is_up {a b : ℕ → EReal} {x : ℕ → ℂ} (h : ∀ r, r < 8 → Is (a r) (b r) (x r)) (s r : ℕ) (hr : r < 8) :
    Is (if s ≤ r then a (r - s) else 0) (if s ≤ r then b (r - s) else 0) (up s x r) := by
  unfold up
  split
  · exact h _ (by omega)
  · exact is_zero

/-- An extended real that is neither infinity. -/
def Fin' (a : EReal) : Prop := ∃ r : ℝ, a = (r : EReal)

theorem is_of {a b : EReal} (h : Fin' a) (g : Fin' b) : ∃ z : ℂ, Is a b z := by
  obtain ⟨r, rfl⟩ := h; obtain ⟨s, rfl⟩ := g
  exact ⟨⟨r, s⟩, rfl, rfl⟩

theorem fin_mul {a b : EReal} (h : Fin' a) (g : Fin' b) : Fin' (a * b) := by
  obtain ⟨r, rfl⟩ := h; obtain ⟨s, rfl⟩ := g
  exact ⟨r * s, by push_cast; rfl⟩

theorem fin_sum {ι : Type} (s : Finset ι) (f : ι → EReal) (h : ∀ i, Fin' (f i)) : Fin' (∑ i ∈ s, f i) := by
  choose g hg using h
  refine ⟨∑ i ∈ s, g i, ?_⟩
  rw [Finset.sum_congr rfl fun i _ => hg i]
  exact (map_sum (⟨⟨fun r : ℝ => (r : EReal), rfl⟩, fun _ _ => EReal.coe_add _ _⟩ : ℝ →+ EReal) g s).symm

theorem fin_of {a : EReal} (h : max a (-a) < ⊤) : Fin' a := by
  induction a with
  | bot => simp at h
  | top => simp at h
  | coe r => exact ⟨r, rfl⟩

/-- The powers by repeated multiplication. -/
def pw (a b : EReal) : ℕ → EReal × EReal
  | 0 => (a, b)
  | n + 1 => ((pw a b n).1 * a - (pw a b n).2 * b, (pw a b n).1 * b + (pw a b n).2 * a)

theorem is_pw {a b : EReal} {z : ℂ} (h : Is a b z) : ∀ n, Is (pw a b n).1 (pw a b n).2 (z ^ (n + 1))
  | 0 => by simpa [pw] using h
  | n + 1 => by rw [pow_succ]; exact is_mul (is_pw h n) h

end Cert.Scan
end
-- ==== Proof.ScanSpec.lean ====
module
public import Idealize.ShloMosaic.PureOps
public import Idealize.ShloMosaic.Lib.Pointwise
public import proofs.«01_k».proof.Proof.Scan
@[expose] public section
set_option maxRecDepth 16384
noncomputable section

/-! The final states of the recurrence over the extended reals, as functions of the arguments. -/
namespace Cert.Scan
open Idealize.ShloMosaic Idealize.ShloMosaic.TcCoe

abbrev Sp : Shape := ⟨3, ![32, 64, 6656]⟩
abbrev Sw : Shape := ⟨3, ![4, 128, 1024]⟩
abbrev Sl : Shape := ⟨1, ![2048]⟩
abbrev Sh : Shape := ⟨3, ![32, 1, 2048]⟩

/-- The recurrence step by step, real and imaginary part. -/
def rec (l1 l2 h1 h2 : EReal) (x y : ℕ → EReal) : ℕ → EReal × EReal
  | 0 => (h1, h2)
  | t + 1 => (l1 * (rec l1 l2 h1 h2 x y t).1 - l2 * (rec l1 l2 h1 h2 x y t).2 + x t, l1 * (rec l1 l2 h1 h2 x y t).2 + l2 * (rec l1 l2 h1 h2 x y t).1 + y t)

theorem rec_is {l1 l2 h1 h2 : EReal} {x y : ℕ → EReal} {l h : ℂ} {z : ℕ → ℂ} (hl : Is l1 l2 l) (hh : Is h1 h2 h)
    (hx : ∀ t, Is (x t) (y t) (z t)) : ∀ t, Is (rec l1 l2 h1 h2 x y t).1 (rec l1 l2 h1 h2 x y t).2 (H l h z t)
  | 0 => hh
  | t + 1 => is_step hl (rec_is hl hh hx t) (hx t)

theorem is_inj {a b a' b' : EReal} {z : ℂ} (h : Is a b z) (g : Is a' b' z) : a = a' ∧ b = b' :=
  ⟨h.1.trans g.1.symm, h.2.trans g.2.symm⟩

/-- Step `t`'s input of channel `n`, `o` its part's first column in the matrices. -/
def xOf (o : ℕ) (ho : o ≤ 512) (a0 : FVec Ideal Sp .f32) (a1 : FVec Ideal Sw .f32) (b : Fin 32) (n : Fin 2048) (t : ℕ) : EReal :=
  ∑ d : Fin 128, a0 (ix3 b ⟨t % 64, Nat.mod_lt _ (by decide)⟩ ⟨6144 + (128 * (n.val / 512) + d.val), by omega⟩)
    * a1 (ix3 ⟨n.val / 512, by omega⟩ d ⟨o + n.val % 512, by omega⟩)

/-- The states after all 64 steps. -/
@[irreducible] def fin (a0 : FVec Ideal Sp .f32) (a1 : FVec Ideal Sw .f32) (a3 a4 : FVec Ideal Sl .f32) (a8 a9 : FVec Ideal Sh .f32) (b : Fin 32) (n : Fin 2048) : EReal × EReal :=
  rec (a3 (ix1 n)) (a4 (ix1 n)) (a8 (ix3 b 0 n)) (a9 (ix3 b 0 n)) (xOf 0 (by omega) a0 a1 b n) (xOf 512 (by omega) a0 a1 b n) 64

theorem fin_eq (a0 : FVec Ideal Sp .f32) (a1 : FVec Ideal Sw .f32) (a3 a4 : FVec Ideal Sl .f32) (a8 a9 : FVec Ideal Sh .f32) (b : Fin 32) (n : Fin 2048) :
    fin a0 a1 a3 a4 a8 a9 b n = rec (a3 (ix1 n)) (a4 (ix1 n)) (a8 (ix3 b 0 n)) (a9 (ix3 b 0 n)) (xOf 0 (by omega) a0 a1 b n) (xOf 512 (by omega) a0 a1 b n) 64 := by
  unfold fin; rfl

def arrR (a0 : FVec Ideal Sp .f32) (a1 : FVec Ideal Sw .f32) (a3 a4 : FVec Ideal Sl .f32) (a8 a9 : FVec Ideal Sh .f32) : FVec Ideal Sh .f32 :=
  fun i => (fin a0 a1 a3 a4 a8 a9 (i 0) (i 2)).1
def arrI (a0 : FVec Ideal Sp .f32) (a1 : FVec Ideal Sw .f32) (a3 a4 : FVec Ideal Sl .f32) (a8 a9 : FVec Ideal Sh .f32) : FVec Ideal Sh .f32 :=
  fun i => (fin a0 a1 a3 a4 a8 a9 (i 0) (i 2)).2

theorem idx_h (i : Sh.Idx) : i = ix3 (i 0) 0 (i 2) :=
  funext fun a => match a with
  | ⟨0, _⟩ => rfl
  | ⟨1, _⟩ => Subsingleton.elim (α := Fin 1) _ _
  | ⟨2, _⟩ => rfl
theorem idx_o (i : (⟨3, ![1, 1, 2048]⟩ : Shape).Idx) : i = ix3 0 0 (i 2) :=
  funext fun a => match a with
  | ⟨0, _⟩ => Subsingleton.elim (α := Fin 1) _ _
  | ⟨1, _⟩ => Subsingleton.elim (α := Fin 1) _ _
  | ⟨2, _⟩ => rfl

/-- The arguments the states depend on hold no infinity. -/
structure AllFin (a0 : FVec Ideal Sp .f32) (a1 : FVec Ideal Sw .f32) (a3 a4 : FVec Ideal Sl .f32) (a8 a9 : FVec Ideal Sh .f32) : Prop where
  f0 : ∀ (b : Fin 32) (t : Fin 64) (k : Fin 512), Fin' (a0 (ix3 b t ⟨6144 + k.val, by omega⟩))
  f1 : ∀ (q : Fin 4) (d : Fin 128) (j : Fin 1024), Fin' (a1 (ix3 q d j))
  f3 : ∀ n : Fin 2048, Fin' (a3 (ix1 n))
  f4 : ∀ n : Fin 2048, Fin' (a4 (ix1 n))
  f8 : ∀ (b : Fin 32) (n : Fin 2048), Fin' (a8 (ix3 b 0 n))
  f9 : ∀ (b : Fin 32) (n : Fin 2048), Fin' (a9 (ix3 b 0 n))

theorem AllFin.x {a0 : FVec Ideal Sp .f32} {a1 : FVec Ideal Sw .f32} {a3 a4 : FVec Ideal Sl .f32} {a8 a9 : FVec Ideal Sh .f32} (h : AllFin a0 a1 a3 a4 a8 a9)
    (o : ℕ) (ho : o ≤ 512) (b : Fin 32) (n : Fin 2048) (t : ℕ) : Fin' (xOf o ho a0 a1 b n t) :=
  fin_sum _ _ fun d => fin_mul (h.f0 b _ ⟨128 * (n.val / 512) + d.val, by omega⟩) (h.f1 _ _ _)

end Cert.Scan
end
-- ==== Proof.ScanTrip.lean ====
module
public import proofs.«01_k».proof.Proof.Gen.Kernel4Ideal.Loops
public import Idealize.ShloMosaic.Lib.WritesUnit
public import Idealize.ShloMosaic.Lib.Pipeline.FrameBody
@[expose] public section

/-! The value of one trip of the scan's loop: what it yields and what it stores. -/

set_option maxRecDepth 16384
noncomputable section
namespace Cert.Kernel4Ideal.Gen
open Idealize.ShloMosaic Idealize.ShloMosaic.TcCoe Idealize.SL.Sem

variable {F : FTy → Type} [FloatOps F]
variable (𝒱 : Variants) (c : Dev nD) (bd : Option 𝒱.V) (i : grid0.Coords) (arg2 : Memref sig .tc .vmem S1x64x512 .f32) (harg2 : arg2.IsWhole) (arg3 : Memref sig .tc .vmem S4x128x1024 .bf16) (harg3 : arg3.IsWhole) (arg4 : Memref sig .tc .vmem S4x2x512x128 .bf16) (harg4 : arg4.IsWhole) (arg5 : Memref sig .tc .vmem S8x2048 .f32) (harg5 : arg5.IsWhole) (arg6 : Memref sig .tc .vmem S16x2048 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S1x1x2048 .f32) (harg10 : arg10.IsWhole) (arg11 : Memref sig .tc .vmem S1x1x2048 .f32) (harg11 : arg11.IsWhole) (arg12 : Memref sig .tc .vmem S1x64x512 .bf16) (harg12 : arg12.IsWhole) (arg13 : Memref sig .tc .vmem S1x1x2048 .f32) (harg13 : arg13.IsWhole) (arg14 : Memref sig .tc .vmem S1x1x2048 .f32) (harg14 : arg14.IsWhole) (arg15 : Memref sig .tc .vmem S64x2048 .f32) (harg15 : arg15.IsWhole) (arg16 : Memref sig .tc .vmem S64x2048 .f32) (harg16 : arg16.IsWhole) (v57 : IVec S8x2048 32) (v59 : FVec F S1x2048 .f32) (v61 : FVec F S1x2048 .f32) (v63 : FVec F S1x2048 .f32) (v64 : Vec F S1x2048 .f32) (v66 : Vec F S1x2048 .f32) (v68 : Vec F S1x2048 .f32) (v70 : Vec F S8x2048 .f32) (v72 : Vec F S8x2048 .f32)

/-- The tile a trip reads from one of the scratch arrays. -/
abbrev tileAt (k : Fin k0_t1_loop.trips) (X : Vec F S64x2048 .f32) : Vec F S8x2048 .f32 :=
  View.ld X (Rect.unit (s := S64x2048) (k0_off1 k) S8x2048.size (k0_off1_inb k))

/-- What a trip yields: the last row of the tile of states it computes, real and imaginary. -/
theorem tripR_eq (k : Fin k0_t1_loop.trips) (a b : FVec F S1x2048 .f32) (f : BufTy.Contents (Elt F) arg15.view.ty)
    (g : BufTy.Contents (Elt F) arg16.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v57 v59 v61 v63 v64 v66 v68 v70 v72 k).1 (a, b) f g
      = (k0_pay43 v57 v63 v68 v70 v72 a b
          (k0_pay10 v57 v59 v61 (k0_pay29 v64) (k0_pay30 v66) (tileAt k (arg15.view.read (Elt F) f)) (tileAt k (arg16.view.read (Elt F) g)))
          (k0_pay11 v57 v59 v61 (k0_pay29 v64) (k0_pay30 v66) (tileAt k (arg15.view.read (Elt F) f)) (tileAt k (arg16.view.read (Elt F) g))),
         k0_pay44 v57 v63 v68 v70 v72 a b
          (k0_pay10 v57 v59 v61 (k0_pay29 v64) (k0_pay30 v66) (tileAt k (arg15.view.read (Elt F) f)) (tileAt k (arg16.view.read (Elt F) g)))
          (k0_pay11 v57 v59 v61 (k0_pay29 v64) (k0_pay30 v66) (tileAt k (arg15.view.read (Elt F) f)) (tileAt k (arg16.view.read (Elt F) g)))) := by
  unfold trip_k0_t1
  dsimp only
  sl_unfold_words
  rfl

/-- What a trip stores: the tile of states, in the place of the inputs it read; the real parts. -/
theorem tripL15_eq (k : Fin k0_t1_loop.trips) (a b : FVec F S1x2048 .f32) (f : BufTy.Contents (Elt F) arg15.view.ty)
    (g : BufTy.Contents (Elt F) arg16.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v57 v59 v61 v63 v64 v66 v68 v70 v72 k).2.1 (a, b) f g
      = [⟨Rect.unit (s := S64x2048) (k0_off1 k) S8x2048.size (k0_off1_inb k), k0_pay41 v57 v63 v68 v70 v72 a b
          (k0_pay10 v57 v59 v61 (k0_pay29 v64) (k0_pay30 v66) (tileAt k (arg15.view.read (Elt F) f)) (tileAt k (arg16.view.read (Elt F) g)))
          (k0_pay11 v57 v59 v61 (k0_pay29 v64) (k0_pay30 v66) (tileAt k (arg15.view.read (Elt F) f)) (tileAt k (arg16.view.read (Elt F) g)))⟩] := by
  unfold trip_k0_t1
  dsimp only
  sl_unfold_words
  rfl

/-- The imaginary parts. -/
theorem tripL16_eq (k : Fin k0_t1_loop.trips) (a b : FVec F S1x2048 .f32) (f : BufTy.Contents (Elt F) arg15.view.ty)
    (g : BufTy.Contents (Elt F) arg16.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v57 v59 v61 v63 v64 v66 v68 v70 v72 k).2.2.1 (a, b) f g
      = [⟨Rect.unit (s := S64x2048) (k0_off1 k) S8x2048.size (k0_off1_inb k), k0_pay42 v57 v63 v68 v70 v72 a b
          (k0_pay10 v57 v59 v61 (k0_pay29 v64) (k0_pay30 v66) (tileAt k (arg15.view.read (Elt F) f)) (tileAt k (arg16.view.read (Elt F) g)))
          (k0_pay11 v57 v59 v61 (k0_pay29 v64) (k0_pay30 v66) (tileAt k (arg15.view.read (Elt F) f)) (tileAt k (arg16.view.read (Elt F) g)))⟩] := by
  unfold trip_k0_t1
  dsimp only
  sl_unfold_words
  rfl

end Cert.Kernel4Ideal.Gen
end
-- ==== Proof.ScanTile.lean ====
module
public import proofs.«01_k».proof.Proof.Gen.Kernel4Ideal.Skeleton
public import proofs.«01_k».proof.Proof.Scan
public import Idealize.ShloMosaic.Lib.Pipeline.ValueKit
public import Idealize.ShloMosaic.Lib.Pointwise
@[expose] public section

/-! The tile of eight states a trip of the scan's loop computes, over the complex numbers. -/

set_option maxRecDepth 16384
noncomputable section
namespace Cert.Kernel4Ideal.Gen
open Idealize.ShloMosaic Idealize.ShloMosaic.TcCoe Idealize.SL.Sem Cert.Scan

/-- The row numbers of a tile. -/
abbrev rows : IVec S8x2048 32 := iota .tc S8x2048 32 [0] iota_S8x2048_d0_w32

/-- Column `n` of a pair of tiles holds the parts of the complex numbers `x`. -/
def At (X Y : Vec Ideal S8x2048 .f32) (n : Fin 2048) (x : ℕ → ℂ) : Prop :=
  ∀ r (h : r < 8), Is (X (ix2 ⟨r, h⟩ n)) (Y (ix2 ⟨r, h⟩ n)) (x r)

/-- A tile moved down by `s` rows, zeros above. -/
def Down (s : ℕ) (X Z : Vec Ideal S8x2048 .f32) : Prop :=
  ∀ r n, Z (ix2 r n) = if h : s ≤ r.val then X (ix2 ⟨r.val - s, by omega⟩ n) else 0

theorem sel_ge (r s : ℕ) (hr : r < 8) (hs : s < 8) (a b : EReal) :
    Scalar.select (IntOp.cmpi CmpIPredicate.sge (BitVec.ofNat 32 r) (BitVec.ofNat 32 s)) a b = if s ≤ r then a else b := by
  have : IntOp.cmpi CmpIPredicate.sge (BitVec.ofNat 32 r) (BitVec.ofNat 32 s) = if s ≤ r then 1#1 else 0#1 := by
    interval_cases r <;> interval_cases s <;> rfl
  rw [this]
  split <;> rfl

theorem down_of (s : ℕ) (hs : s < 8) (X Z : Vec Ideal S8x2048 .f32)
    (h : ∀ r n, Z (ix2 r n) = Scalar.select (IntOp.cmpi CmpIPredicate.sge (BitVec.ofNat 32 r.val) (BitVec.ofNat 32 s))
      (X (ix2 ⟨(r.val + 8 - s) % 8, Nat.mod_lt _ (by decide)⟩ n)) 0) : Down s X Z := fun r n => by
  rw [h, sel_ge _ _ r.isLt hs]
  split
  · rename_i g
    exact congrArg X (congrArg (ix2 · n) (Fin.ext (by have := r.isLt; show (r.val + 8 - s) % 8 = r.val - s; omega)))
  · rfl

theorem down3 (X : Vec Ideal S8x2048 .f32) : Down 1 X (k0_pay3 rows X) :=
  down_of 1 (by decide) _ _ fun r n => by pointwise [k0_pay3, k0_pay2]
theorem down4 (X : Vec Ideal S8x2048 .f32) : Down 1 X (k0_pay4 rows X) :=
  down_of 1 (by decide) _ _ fun r n => by pointwise [k0_pay4, k0_pay2]
theorem down8 (a b : FVec Ideal S1x2048 .f32) (X Y : Vec Ideal S8x2048 .f32) :
    Down 2 (k0_pay5 rows a b X Y) (k0_pay8 rows a b X Y) :=
  down_of 2 (by decide) _ _ fun r n => by pointwise [k0_pay8, k0_pay7]
theorem down9 (a b : FVec Ideal S1x2048 .f32) (X Y : Vec Ideal S8x2048 .f32) :
    Down 2 (k0_pay6 rows a b X Y) (k0_pay9 rows a b X Y) :=
  down_of 2 (by decide) _ _ fun r n => by pointwise [k0_pay9, k0_pay7]
theorem down37 (X : Vec Ideal S8x2048 .f32) : Down 4 X (k0_pay37 (F := Ideal) rows X) :=
  down_of 4 (by decide) _ _ fun r n => by pointwise [k0_pay37, k0_pay36]
theorem down38 (X : Vec Ideal S8x2048 .f32) : Down 4 X (k0_pay38 (F := Ideal) rows X) :=
  down_of 4 (by decide) _ _ fun r n => by pointwise [k0_pay38, k0_pay36]

theorem at_down {s : ℕ} {X Y Z W : Vec Ideal S8x2048 .f32} {n : Fin 2048} {x : ℕ → ℂ} (h : At X Y n x)
    (hZ : Down s X Z) (hW : Down s Y W) : At Z W n (up s x) := fun r hr => by
  rw [hZ, hW]
  unfold up
  split
  · exact h _ _
  · exact is_zero

/-- One doubling of a pair of tiles. -/
theorem at_lvl {s : ℕ} {X Y Z W X' Y' : Vec Ideal S8x2048 .f32} {n : Fin 2048} {x : ℕ → ℂ} {l : ℂ}
    {a b : FVec Ideal S1x2048 .f32} (h : At X Y n x) (hZ : Down s X Z) (hW : Down s Y W)
    (hl : Is (a (ix2 0 n)) (b (ix2 0 n)) l)
    (hX : ∀ r, X' (ix2 r n) = X (ix2 r n) + a (ix2 0 n) * Z (ix2 r n) - b (ix2 0 n) * W (ix2 r n))
    (hY : ∀ r, Y' (ix2 r n) = Y (ix2 r n) + a (ix2 0 n) * W (ix2 r n) + b (ix2 0 n) * Z (ix2 r n)) :
    At X' Y' n (lvl l s x) := fun r hr => by
  rw [hX, hY]
  exact is_acc (h r hr) hl (at_down h hZ hW r hr)

/-- The tile of states: `H` at the eight rows after the tile's first. -/
theorem at_tile {X Y p q : Vec Ideal S8x2048 .f32} {n : Fin 2048} {x : ℕ → ℂ} {l h : ℂ} {k : ℕ}
    {v59 v61 v63 v65 v67 a b : FVec Ideal S1x2048 .f32} {v68 : Vec Ideal S1x2048 .f32}
    (hx : At X Y n fun r => x (8 * k + r))
    (h1 : Is (v59 (ix2 0 n)) (v65 (ix2 0 n)) l) (h2 : Is (v61 (ix2 0 n)) (v67 (ix2 0 n)) (l ^ 2))
    (h4 : Is (v63 (ix2 0 n)) (v68 (ix2 0 n)) (l ^ 4)) (hp : At p q n fun r => l ^ (r + 1))
    (hh : Is (a (ix2 0 n)) (b (ix2 0 n)) (H l h x (8 * k))) :
    At (k0_pay39 rows v63 v68 p q a b (k0_pay10 rows v59 v61 v65 v67 X Y) (k0_pay11 rows v59 v61 v65 v67 X Y))
      (k0_pay40 rows v63 v68 p q a b (k0_pay10 rows v59 v61 v65 v67 X Y) (k0_pay11 rows v59 v61 v65 v67 X Y)) n
      fun r => H l h x (8 * k + r + 1) := by
  have l1 : At (k0_pay5 rows v59 v65 X Y) (k0_pay6 rows v59 v65 X Y) n _ :=
    at_lvl hx (down3 X) (down4 Y) h1 (fun r => by pointwise [k0_pay5]) (fun r => by pointwise [k0_pay6])
  have l2 : At (k0_pay10 rows v59 v61 v65 v67 X Y) (k0_pay11 rows v59 v61 v65 v67 X Y) n _ :=
    at_lvl l1 (down8 _ _ X Y) (down9 _ _ X Y) h2 (fun r => by pointwise [k0_pay10]) (fun r => by pointwise [k0_pay11])
  generalize k0_pay10 rows v59 v61 v65 v67 X Y = U at *
  generalize k0_pay11 rows v59 v61 v65 v67 X Y = V at *
  intro r hr
  dsimp only
  rw [← tile l h x k r hr]
  have e := is_acc (is_acc (l2 r hr) h4 (at_down l2 (down37 U) (down38 V) r hr)) (hp r hr) hh
  refine ⟨Eq.trans ?_ e.1, Eq.trans ?_ e.2⟩
  · pointwise [k0_pay39, k0_pay31, k0_pay32, k0_pay33]
  · pointwise [k0_pay40, k0_pay31, k0_pay32, k0_pay33]

end Cert.Kernel4Ideal.Gen
end
-- ==== Proof.ScanLoop.lean ====
module
public import proofs.«01_k».proof.Proof.ScanTrip
public import proofs.«01_k».proof.Proof.ScanTile
@[expose] public section

/-! The scan's loop: the carried state after eight steps a trip, and the states in the scratch. -/

set_option maxRecDepth 16384
noncomputable section
namespace Cert.Kernel4Ideal.Gen
open Idealize.ShloMosaic Idealize.ShloMosaic.TcCoe Idealize.SL.Sem Cert.Scan

/-- Before trip `k`: the carried value is the state before step `8 k`, and the scratch holds the states after each of
the steps before it and the inputs of the steps from it on. -/
def Inv (n : Fin 2048) (x : ℕ → ℂ) (l h : ℂ) (k : ℕ) (a b : FVec Ideal S1x2048 .f32) (X Y : Vec Ideal S64x2048 .f32) : Prop :=
  Is (a (ix2 0 n)) (b (ix2 0 n)) (H l h x (8 * k)) ∧
    ∀ r (hr : r < 64), Is (X (ix2 ⟨r, hr⟩ n)) (Y (ix2 ⟨r, hr⟩ n)) (if r < 8 * k then H l h x (r + 1) else x r)

theorem off_eq : ∀ k : Fin k0_t1_loop.trips, k0_off1 k = ![8 * k.val, 0] := by decide +kernel

theorem trips_le : k0_t1_loop.trips = 8 := by decide +kernel

theorem tileAt_at (k : Fin k0_t1_loop.trips) (X : Vec Ideal S64x2048 .f32) (r : Fin 8) (n : Fin 2048) :
    tileAt k X (ix2 r n) = X (ix2 ⟨8 * k.val + r.val, by have := k.isLt.trans_eq trips_le; omega⟩ n) := by
  refine congrArg X (funext fun a => Fin.ext ?_)
  have := congrFun (off_eq k) a
  fin_cases a
  · show k0_off1 k 0 + 1 * r.val = _
    rw [off_eq]; simp
  · show k0_off1 k 1 + 1 * n.val = _
    rw [off_eq]; simp

theorem read_tile (M : Memref sig .tc .vmem S64x2048 .f32) (f : BufTy.Contents (Elt Ideal) M.view.ty) (k : Fin k0_t1_loop.trips)
    (w : Vec Ideal S8x2048 .f32) (L : List (View.Piece (Elt Ideal) S64x2048 .f32)) (r : ℕ) (hr : r < 64) (n : Fin 2048) :
    M.view.read (Elt Ideal) (M.view.writes (Elt Ideal) f
        (⟨Rect.unit (s := S64x2048) (k0_off1 k) S8x2048.size (k0_off1_inb k), w⟩ :: L)) (ix2 ⟨r, hr⟩ n)
      = if h : 8 * k.val ≤ r ∧ r < 8 * k.val + 8 then w (ix2 ⟨r - 8 * k.val, by omega⟩ n)
        else M.view.read (Elt Ideal) (M.view.writes (Elt Ideal) f L) (ix2 ⟨r, hr⟩ n) := by
  by_cases h : 8 * k.val ≤ r ∧ r < 8 * k.val + 8
  · rw [dif_pos h]
    refine View.read_writes_cons_rows_of_mem (d := ![64, 2048]) M.view f (o := 8 * k.val) (size := S8x2048.size)
      (k0_off1_inb k) w L _ (ix2 ⟨r - 8 * k.val, by omega⟩ n) (off_eq k) ?_ rfl
    show r = 8 * k.val + (r - 8 * k.val)
    omega
  · rw [dif_neg h]
    exact View.read_writes_cons_rows_of_not_mem (d := ![64, 2048]) M.view f (W := 8) (size := S8x2048.size)
      (k0_off1_inb k) w L _ (off_eq k) rfl (by show r < 8 * k.val ∨ 8 * k.val + 8 ≤ r; omega)

variable (𝒱 : Variants) (c : Dev nD) (bd : Option 𝒱.V) (i : grid0.Coords) (arg2 : Memref sig .tc .vmem S1x64x512 .f32) (harg2 : arg2.IsWhole) (arg3 : Memref sig .tc .vmem S4x128x1024 .bf16) (harg3 : arg3.IsWhole) (arg4 : Memref sig .tc .vmem S4x2x512x128 .bf16) (harg4 : arg4.IsWhole) (arg5 : Memref sig .tc .vmem S8x2048 .f32) (harg5 : arg5.IsWhole) (arg6 : Memref sig .tc .vmem S16x2048 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S1x1x2048 .f32) (harg10 : arg10.IsWhole) (arg11 : Memref sig .tc .vmem S1x1x2048 .f32) (harg11 : arg11.IsWhole) (arg12 : Memref sig .tc .vmem S1x64x512 .bf16) (harg12 : arg12.IsWhole) (arg13 : Memref sig .tc .vmem S1x1x2048 .f32) (harg13 : arg13.IsWhole) (arg14 : Memref sig .tc .vmem S1x1x2048 .f32) (harg14 : arg14.IsWhole) (arg15 : Memref sig .tc .vmem S64x2048 .f32) (harg15 : arg15.IsWhole) (arg16 : Memref sig .tc .vmem S64x2048 .f32) (harg16 : arg16.IsWhole) (v59 : FVec Ideal S1x2048 .f32) (v61 : FVec Ideal S1x2048 .f32) (v63 : FVec Ideal S1x2048 .f32) (v64 : Vec Ideal S1x2048 .f32) (v66 : Vec Ideal S1x2048 .f32) (v68 : Vec Ideal S1x2048 .f32) (v70 : Vec Ideal S8x2048 .f32) (v72 : Vec Ideal S8x2048 .f32)

/-- The loop's state before trip `k`. -/
abbrev St (f : BufTy.Contents (Elt Ideal) arg15.view.ty) (g : BufTy.Contents (Elt Ideal) arg16.view.ty)
    (a b : FVec Ideal S1x2048 .f32) (k : ℕ) :=
  st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 rows v59 v61 v63 v64 v66 v68 v70 v72 f g (a, b) k

theorem inv_loop (f : BufTy.Contents (Elt Ideal) arg15.view.ty) (g : BufTy.Contents (Elt Ideal) arg16.view.ty)
    (a b : FVec Ideal S1x2048 .f32) {n : Fin 2048} {x : ℕ → ℂ} {l h : ℂ}
    (h1 : Is (v59 (ix2 0 n)) (k0_pay29 v64 (ix2 0 n)) l) (h2 : Is (v61 (ix2 0 n)) (k0_pay30 v66 (ix2 0 n)) (l ^ 2))
    (h4 : Is (v63 (ix2 0 n)) (v68 (ix2 0 n)) (l ^ 4)) (hp : At v70 v72 n fun r => l ^ (r + 1))
    (h0 : Inv n x l h 0 a b (arg15.view.read (Elt Ideal) f) (arg16.view.read (Elt Ideal) g)) :
    ∀ k, k ≤ 8 → ∀ s, s = St 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v59 v61 v63 v64 v66 v68 v70 v72 f g a b k →
      Inv n x l h k s.1.1 s.1.2 (arg15.view.read (Elt Ideal) (arg15.view.writes (Elt Ideal) f s.2.1))
        (arg16.view.read (Elt Ideal) (arg16.view.writes (Elt Ideal) g s.2.2))
  | 0, _, _, rfl => h0
  | k + 1, hk, _, rfl => by
    have ih := inv_loop f g a b h1 h2 h4 hp h0 k (by omega) _ rfl
    have e := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 rows v59 v61 v63 v64 v66 v68 v70 v72 f g (a, b) ⟨k, trips_le ▸ hk⟩
    dsimp only [St] at ih ⊢
    dsimp only at e
    rw [e]
    generalize st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 rows v59 v61 v63 v64 v66 v68 v70 v72 f g (a, b) k = s at *
    obtain ⟨⟨p, q⟩, P, Q⟩ := s
    dsimp only at ih ⊢
    unfold tripR_k0_t1
    rw [tripR_eq, tripL15_eq, tripL16_eq]
    dsimp only [List.cons_append, List.nil_append]
    have t := at_tile (k := k) (x := x) (X := tileAt ⟨k, trips_le ▸ hk⟩ (arg15.view.read (Elt Ideal) (arg15.view.writes (Elt Ideal) f P)))
      (Y := tileAt ⟨k, trips_le ▸ hk⟩ (arg16.view.read (Elt Ideal) (arg16.view.writes (Elt Ideal) g Q)))
      (fun r hr => by
        have := ih.2 (8 * k + r) (by omega)
        rw [if_neg (by omega)] at this
        rw [tileAt_at, tileAt_at]
        exact this) h1 h2 h4 hp ih.1
    generalize k0_pay10 rows v59 v61 (k0_pay29 v64) (k0_pay30 v66) _ _ = U at *
    generalize k0_pay11 rows v59 v61 (k0_pay29 v64) (k0_pay30 v66) _ _ = W at *
    refine ⟨?_, fun r hr => ?_⟩
    · have := t 7 (by omega)
      refine ⟨Eq.trans ?_ this.1, Eq.trans ?_ this.2⟩
      · pointwise [k0_pay43]
      · pointwise [k0_pay44]
    · rw [read_tile (w := k0_pay41 rows v63 v68 v70 v72 p q U W), read_tile (w := k0_pay42 rows v63 v68 v70 v72 p q U W)]
      by_cases g1 : 8 * k ≤ r ∧ r < 8 * k + 8
      · rw [dif_pos g1, dif_pos g1, if_pos (by omega)]
        have := t (r - 8 * k) (by omega)
        dsimp only at this
        rw [show 8 * k + (r - 8 * k) + 1 = r + 1 by omega] at this
        refine ⟨Eq.trans ?_ this.1, Eq.trans ?_ this.2⟩
        · pointwise [k0_pay41]
        · pointwise [k0_pay42]
      · rw [dif_neg g1, dif_neg g1]
        have := ih.2 r hr
        by_cases g2 : r < 8 * k
        · rw [if_pos (by omega)]; rwa [if_pos g2] at this
        · rw [if_neg (by omega)]; rwa [if_neg g2] at this
end Cert.Kernel4Ideal.Gen
end
-- ==== Proof.ScanOut.lean ====
module
public import proofs.«01_k».proof.Proof.Gen.Kernel4Ideal.Frame
public import proofs.«01_k».proof.Proof.ScanLoop
public import Idealize.ShloMosaic.Lib.WritesUnit
public import Idealize.ShloMosaic.Lib.VecWindow
public import Idealize.ShloMosaic.Lib.Pipeline.ValueKit
@[expose] public section

/-! The block a grid point leaves: the last state of the recurrence, and its states in the scratch. -/

set_option maxRecDepth 16384
noncomputable section
namespace Cert.Kernel4Ideal.Gen
open Idealize.ShloMosaic Idealize.ShloMosaic.TcCoe Idealize.SL.Sem Cert.Scan

/-- The recurrence's inputs: channel block `q`'s columns times its matrix, whose first 512 columns give the real parts
and the others the imaginary ones. -/
def bu (o : ℕ) (ho : o ≤ 512) (x0 : Vec Ideal S1x64x512 .f32) (x1 : Vec Ideal S4x128x1024 .bf16) (r : Fin 64) (q : Fin 4) (j : Fin 512) : EReal :=
  ∑ d : Fin 128, x0 (ix3 0 r ⟨128 * q.val + d.val, by omega⟩) * x1 (ix3 q d ⟨o + j.val, by omega⟩)

theorem read_cols (M : Memref sig .tc .vmem S64x2048 .f32) (f : BufTy.Contents (Elt Ideal) M.view.ty)
    (w0 w1 w2 w3 : Vec Ideal S64x512 .f32) (B : Fin 64 → Fin 4 → Fin 512 → EReal)
    (h0 : ∀ r j, w0 (ix2 r j) = B r 0 j) (h1 : ∀ r j, w1 (ix2 r j) = B r 1 j)
    (h2 : ∀ r j, w2 (ix2 r j) = B r 2 j) (h3 : ∀ r j, w3 (ix2 r j) = B r 3 j) (r : Fin 64) (q : Fin 4) (j : Fin 512) :
    M.view.read (Elt Ideal) (M.view.writes (Elt Ideal) f
      [⟨Rect.unit ![0, 1536] S64x512.size inb_S64x2048_S64x512_0_1536, w3⟩,
       ⟨Rect.unit ![0, 1024] S64x512.size inb_S64x2048_S64x512_0_1024, w2⟩,
       ⟨Rect.unit ![0, 512] S64x512.size inb_S64x2048_S64x512_0_512, w1⟩,
       ⟨Rect.unit ![0, 0] S64x512.size inb_S64x2048_S64x512_0_0, w0⟩]) (ix2 r ⟨512 * q.val + j.val, by omega⟩) = B r q j := by
  have hq := q.isLt
  have hj := j.isLt
  by_cases g3 : q.val = 3
  · obtain rfl : q = 3 := Fin.ext g3
    exact (View.read_writes_cons_unit_of_mem _ _ _ _ _ _ (ix2 r j) rfl (fun a => by fin_cases a <;> simp <;> rfl)).trans (h3 r j)
  rw [View.read_writes_cons_unit_of_not_mem _ _ _ _ _ _ rfl 1 (Or.inl (by show 512 * q.val + j.val < 1536; omega))]
  by_cases g2 : q.val = 2
  · obtain rfl : q = 2 := Fin.ext g2
    exact (View.read_writes_cons_unit_of_mem _ _ _ _ _ _ (ix2 r j) rfl (fun a => by fin_cases a <;> simp <;> rfl)).trans (h2 r j)
  rw [View.read_writes_cons_unit_of_not_mem _ _ _ _ _ _ rfl 1 (Or.inl (by show 512 * q.val + j.val < 1024; omega))]
  by_cases g1 : q.val = 1
  · obtain rfl : q = 1 := Fin.ext g1
    exact (View.read_writes_cons_unit_of_mem _ _ _ _ _ _ (ix2 r j) rfl (fun a => by fin_cases a <;> simp <;> rfl)).trans (h1 r j)
  rw [View.read_writes_cons_unit_of_not_mem _ _ _ _ _ _ rfl 1 (Or.inl (by show 512 * q.val + j.val < 512; omega))]
  obtain rfl : q = 0 := Fin.ext (by show q.val = 0; omega)
  exact (View.read_writes_cons_unit_of_mem _ _ _ _ _ _ (ix2 r j) rfl (fun a => by fin_cases a <;> simp <;> rfl)).trans (h0 r j)

theorem pay14_at (x0 : Vec Ideal S1x64x512 .f32) (x1 : Vec Ideal S4x128x1024 .bf16) (r : Fin 64) (j : Fin 512) :
    k0_pay14 x0 (View.ld x1 (Rect.unit ![0, 0, 0] S1x128x1024.size inb_S4x128x1024_S1x128x1024_0_0_0)) (ix2 r j) = bu 0 (by omega) x0 x1 r 0 j := by
  pointwise [k0_pay14, k0_pay13, k0_pay12, bu]
theorem pay15_at (x0 : Vec Ideal S1x64x512 .f32) (x1 : Vec Ideal S4x128x1024 .bf16) (r : Fin 64) (j : Fin 512) :
    k0_pay15 x0 (View.ld x1 (Rect.unit ![0, 0, 0] S1x128x1024.size inb_S4x128x1024_S1x128x1024_0_0_0)) (ix2 r j) = bu 512 (by omega) x0 x1 r 0 j := by
  pointwise [k0_pay15, k0_pay13, k0_pay12, bu]
theorem pay17_at (x0 : Vec Ideal S1x64x512 .f32) (x1 : Vec Ideal S4x128x1024 .bf16) (r : Fin 64) (j : Fin 512) :
    k0_pay17 x0 (View.ld x1 (Rect.unit ![1, 0, 0] S1x128x1024.size inb_S4x128x1024_S1x128x1024_1_0_0)) (ix2 r j) = bu 0 (by omega) x0 x1 r 1 j := by
  pointwise [k0_pay17, k0_pay16, k0_pay12, bu]
theorem pay18_at (x0 : Vec Ideal S1x64x512 .f32) (x1 : Vec Ideal S4x128x1024 .bf16) (r : Fin 64) (j : Fin 512) :
    k0_pay18 x0 (View.ld x1 (Rect.unit ![1, 0, 0] S1x128x1024.size inb_S4x128x1024_S1x128x1024_1_0_0)) (ix2 r j) = bu 512 (by omega) x0 x1 r 1 j := by
  pointwise [k0_pay18, k0_pay16, k0_pay12, bu]
theorem pay21_at (x0 : Vec Ideal S1x64x512 .f32) (x1 : Vec Ideal S4x128x1024 .bf16) (r : Fin 64) (j : Fin 512) :
    k0_pay21 (k0_pay19 x0) (View.ld x1 (Rect.unit ![2, 0, 0] S1x128x1024.size inb_S4x128x1024_S1x128x1024_2_0_0)) (ix2 r j) = bu 0 (by omega) x0 x1 r 2 j := by
  pointwise [k0_pay21, k0_pay20, k0_pay19, k0_pay12, bu]
theorem pay22_at (x0 : Vec Ideal S1x64x512 .f32) (x1 : Vec Ideal S4x128x1024 .bf16) (r : Fin 64) (j : Fin 512) :
    k0_pay22 (k0_pay19 x0) (View.ld x1 (Rect.unit ![2, 0, 0] S1x128x1024.size inb_S4x128x1024_S1x128x1024_2_0_0)) (ix2 r j) = bu 512 (by omega) x0 x1 r 2 j := by
  pointwise [k0_pay22, k0_pay20, k0_pay19, k0_pay12, bu]
theorem pay24_at (x0 : Vec Ideal S1x64x512 .f32) (x1 : Vec Ideal S4x128x1024 .bf16) (r : Fin 64) (j : Fin 512) :
    k0_pay24 (k0_pay12 x0) (View.ld x1 (Rect.unit ![3, 0, 0] S1x128x1024.size inb_S4x128x1024_S1x128x1024_3_0_0)) (ix2 r j) = bu 0 (by omega) x0 x1 r 3 j := by
  pointwise [k0_pay24, k0_pay23, k0_pay12, bu]
theorem pay25_at (x0 : Vec Ideal S1x64x512 .f32) (x1 : Vec Ideal S4x128x1024 .bf16) (r : Fin 64) (j : Fin 512) :
    k0_pay25 (k0_pay12 x0) (View.ld x1 (Rect.unit ![3, 0, 0] S1x128x1024.size inb_S4x128x1024_S1x128x1024_3_0_0)) (ix2 r j) = bu 512 (by omega) x0 x1 r 3 j := by
  pointwise [k0_pay25, k0_pay23, k0_pay12, bu]

theorem ld_all (x0 : Vec Ideal S1x64x512 .f32) :
    View.ld x0 (Rect.unit ![0, 0, 0] S1x64x512.size inb_S1x64x512_S1x64x512_0_0_0) = x0 :=
  View.ld_unit_lit _ x0 (by decide)

theorem cov_ld (M : Memref sig .tc .vmem S1x1x2048 .f32) (x8 : Vec Ideal S1x1x2048 .f32) :
    M.view.readCov (Val := Elt Ideal) [⟨Rect.unit ![0, 0, 0] S1x1x2048.size inb_S1x1x2048_S1x1x2048_0_0_0,
        View.ld x8 (Rect.unit ![0, 0, 0] S1x1x2048.size inb_S1x1x2048_S1x1x2048_0_0_0)⟩]
      (Rect.unit ![0, 0, 0] S1x1x2048.size inb_S1x1x2048_S1x1x2048_0_0_0).toLoadRect = x8 := by
  rw [View.readCov_full, View.ld_unit_lit _ x8 (by decide)]

theorem split (n : Fin 2048) : n = ⟨512 * (n.val / 512) + n.val % 512, by omega⟩ := Fin.ext (Nat.div_add_mod _ _).symm

variable (c : Dev nD) (i : grid0.Coords) (arg2 : Memref sig .tc .vmem S1x64x512 .f32) (harg2 : arg2.IsWhole) (arg3 : Memref sig .tc .vmem S4x128x1024 .bf16) (harg3 : arg3.IsWhole) (arg4 : Memref sig .tc .vmem S4x2x512x128 .bf16) (harg4 : arg4.IsWhole) (arg5 : Memref sig .tc .vmem S8x2048 .f32) (harg5 : arg5.IsWhole) (arg6 : Memref sig .tc .vmem S16x2048 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S1x1x2048 .f32) (harg10 : arg10.IsWhole) (arg11 : Memref sig .tc .vmem S1x1x2048 .f32) (harg11 : arg11.IsWhole) (arg12 : Memref sig .tc .vmem S1x64x512 .bf16) (harg12 : arg12.IsWhole) (arg13 : Memref sig .tc .vmem S1x1x2048 .f32) (harg13 : arg13.IsWhole) (arg14 : Memref sig .tc .vmem S1x1x2048 .f32) (harg14 : arg14.IsWhole) (arg15 : Memref sig .tc .vmem S64x2048 .f32) (harg15 : arg15.IsWhole) (arg16 : Memref sig .tc .vmem S64x2048 .f32) (harg16 : arg16.IsWhole) (hc0 : cond0_0 i) (x0 : Vec Ideal S1x64x512 .f32) (x1 : Vec Ideal S4x128x1024 .bf16) (x2 : Vec Ideal S4x2x512x128 .bf16) (x3 : Vec Ideal S8x2048 .f32) (x4 : Vec Ideal S16x2048 .f32) (x5 : Vec Ideal S1x512 .f32) (x6 : Vec Ideal S512x512 .bf16) (x7 : Vec Ideal S1x512 .f32) (x8 : Vec Ideal S1x1x2048 .f32) (x9 : Vec Ideal S1x1x2048 .f32)

/-- The input as the scratch first holds it. -/
abbrev buAt (o : ℕ) (ho : o ≤ 512) (r : ℕ) (hr : r < 64) (n : Fin 2048) : EReal :=
  bu o ho x0 x1 ⟨r, hr⟩ ⟨n.val / 512, by omega⟩ ⟨n.val % 512, Nat.mod_lt _ (by decide)⟩

set_option maxHeartbeats 1000000 in
theorem out_states {n : Fin 2048} {x : ℕ → ℂ} {l h : ℂ}
    (hx : ∀ r (hr : r < 64), Is (buAt x0 x1 0 (by omega) r hr n) (buAt x0 x1 512 (by omega) r hr n) (x r))
    (h1 : Is (x3 (ix2 0 n)) (x3 (ix2 3 n)) l) (h2 : Is (x3 (ix2 1 n)) (x3 (ix2 4 n)) (l ^ 2))
    (h4 : Is (x3 (ix2 2 n)) (x3 (ix2 5 n)) (l ^ 4))
    (hp : ∀ r (hr : r < 8), Is (x4 (ix2 ⟨r, by omega⟩ n)) (x4 (ix2 ⟨8 + r, by omega⟩ n)) (l ^ (r + 1)))
    (h0 : Is (x8 (ix3 0 0 n)) (x9 (ix3 0 0 n)) h) :
    Is (out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 (ix3 0 0 n))
      (out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 (ix3 0 0 n)) (H l h x 64) := by
  unfold out0_A_11 out0_A_12 kernelRun0_A
  dsimp only
  sl_unfold_words
  rw [View.read_writes_full, View.read_writes_full]
  simp only [View.readAt_full, View.readCov_full, View.readAt_eq_ld, harg2.read_unread, harg3.read_unread, harg5.read_unread, harg6.read_unread, harg10.read_unread, harg11.read_unread]
  generalize hS : st_k0_t1 (F := Ideal) _ _ _ _ _ _ _ _ _ _ _ _ _ _ _ _ _ _ _ _ _ _ _ _ _ _ _ _ _ _ _ _ _ _ _ _ _ _ _ _ _ _ _ _ _ _ _ = S
  rw [show Scf.trips (0#32) (Scalar.addi 0#32 8#32) 1#32 = 8 from by decide +kernel] at hS
  have key := (inv_loop (n := n) (x := x) (l := l) (h := h) _ _ _ _ _ _ _ _ _ _ _ _ _ _ _ _ _ _ _ _ _ _ _ _ _ _ _ _ _ _ _ _ _ _ _ _ _ _ _ _ _ _ _ _ _ _ ?h1 ?h2 ?h4 ?hp ?h0 8 le_rfl S hS.symm).1
  case h1 => exact is_of_eq h1 (by pointwise [k0_pay26]) (by pointwise [k0_pay29])
  case h2 => exact is_of_eq h2 (by pointwise [k0_pay27]) (by pointwise [k0_pay30])
  case h4 => exact is_of_eq h4 (by pointwise [k0_pay28]) (by pointwise [])
  case hp => exact fun r hr => is_of_eq (hp r hr) (by pointwise []) (by pointwise [])
  case h0 =>
    refine ⟨is_of_eq h0 ?_ ?_, fun r hr => is_of_eq (hx r hr) ?_ ?_⟩
    · exact (congrFun (congrArg k0_pay34 (cov_ld arg13 x8)) _).trans (by pointwise [k0_pay34])
    · exact (congrFun (congrArg k0_pay35 (cov_ld arg14 x9)) _).trans (by pointwise [k0_pay35])
    · refine (congrArg _ (congrArg (ix2 ⟨r, hr⟩) (split n))).trans (read_cols arg15 _ _ _ _ _ (bu 0 (by omega) x0 x1) (fun r j => ?_) (fun r j => ?_) (fun r j => ?_) (fun r j => ?_) ⟨r, hr⟩ ⟨n.val / 512, by omega⟩ ⟨n.val % 512, Nat.mod_lt _ (by decide)⟩)
      · exact (congrFun (congrArg (fun X => k0_pay14 X _) (ld_all x0)) _).trans (pay14_at x0 x1 r j)
      · exact (congrFun (congrArg (fun X => k0_pay17 X _) (ld_all x0)) _).trans (pay17_at x0 x1 r j)
      · exact (congrFun (congrArg (fun X => k0_pay21 (k0_pay19 X) _) (ld_all x0)) _).trans (pay21_at x0 x1 r j)
      · exact (congrFun (congrArg (fun X => k0_pay24 (k0_pay12 X) _) (ld_all x0)) _).trans (pay24_at x0 x1 r j)
    · refine (congrArg _ (congrArg (ix2 ⟨r, hr⟩) (split n))).trans (read_cols arg16 _ _ _ _ _ (bu 512 (by omega) x0 x1) (fun r j => ?_) (fun r j => ?_) (fun r j => ?_) (fun r j => ?_) ⟨r, hr⟩ ⟨n.val / 512, by omega⟩ ⟨n.val % 512, Nat.mod_lt _ (by decide)⟩)
      · exact (congrFun (congrArg (fun X => k0_pay15 X _) (ld_all x0)) _).trans (pay15_at x0 x1 r j)
      · exact (congrFun (congrArg (fun X => k0_pay18 X _) (ld_all x0)) _).trans (pay18_at x0 x1 r j)
      · exact (congrFun (congrArg (fun X => k0_pay22 (k0_pay19 X) _) (ld_all x0)) _).trans (pay22_at x0 x1 r j)
      · exact (congrFun (congrArg (fun X => k0_pay25 (k0_pay12 X) _) (ld_all x0)) _).trans (pay25_at x0 x1 r j)
  exact is_of_eq key (by pointwise [k0_pay45]) (by pointwise [k0_pay46])
end Cert.Kernel4Ideal.Gen
end
-- ==== Proof.ScanBlk.lean ====
module
public import proofs.«01_k».proof.Proof.Gen.Kernel4Ideal.Value
public import proofs.«01_k».proof.Proof.ScanOut
public import Idealize.ShloMosaic.Lib.Pipeline.ValueKit
public import Idealize.ShloMosaic.Lib.Pointwise
@[expose] public section
set_option maxRecDepth 16384
noncomputable section
namespace Cert.Kernel4Ideal.Scan4
open Cert.Kernel4Ideal Cert.Kernel4Ideal.Gen Idealize.ShloMosaic Idealize.ShloMosaic.TcCoe Idealize.SL.Sem Cert.Scan
open Idealize.ShloMosaic.Pipeline (Dat)
variable (m : (ℓ : Loc nD τ sig) → Buf (Elt Ideal) ℓ)

theorem N32 : cfg0.N = 32 := by decide +kernel
set_option maxHeartbeats 4000000 in
theorem idx : ∀ t : Fin cfg0.N,
    win0_0.index t = ![t.val, 0, 12] ∧ win0_1.index t = ![0, 0, 0] ∧ win0_3.index t = ![0, 0] ∧ win0_4.index t = ![0, 0]
    ∧ win0_8.index t = ![t.val, 0, 0] ∧ win0_9.index t = ![t.val, 0, 0]
    ∧ win0_11.index t = ![t.val, 0, 0] ∧ win0_12.index t = ![t.val, 0, 0] :=
  (by decide +kernel : ∀ t : Fin grid0.N, _)

theorem blk0 (c : Dev nD) (t : Fin cfg0.N) (r : Fin 64) (k : Fin 512) :
    (iblk m c 0 t : FVec Ideal S1x64x512 .f32) (ix3 0 r k)
      = (m ((c.tc : Thread nD τ).loc main_arg0) : FVec Ideal S32x64x6656 .f32) (ix3 ⟨t.val, by have := t.isLt; have := N32; omega⟩ r ⟨6144 + k, by omega⟩) := by
  blk_point [iblk, V, idx t]
theorem blk8 (c : Dev nD) (t : Fin cfg0.N) (k : Fin 2048) :
    (iblk m c 8 t : FVec Ideal S1x1x2048 .f32) (ix3 0 0 k)
      = (m ((c.tc : Thread nD τ).loc main_arg8) : FVec Ideal S32x1x2048 .f32) (ix3 ⟨t.val, by have := t.isLt; have := N32; omega⟩ 0 k) := by
  blk_point [iblk, V, idx t]
theorem blk9 (c : Dev nD) (t : Fin cfg0.N) (k : Fin 2048) :
    (iblk m c 9 t : FVec Ideal S1x1x2048 .f32) (ix3 0 0 k)
      = (m ((c.tc : Thread nD τ).loc main_arg9) : FVec Ideal S32x1x2048 .f32) (ix3 ⟨t.val, by have := t.isLt; have := N32; omega⟩ 0 k) := by
  blk_point [iblk, V, idx t]
theorem blk1 (c : Dev nD) (t : Fin cfg0.N) (q : Fin 4) (d : Fin 128) (j : Fin 1024) :
    (iblk m c 1 t : FVec Ideal S4x128x1024 .bf16) (ix3 q d j)
      = (m ((c.tc : Thread nD τ).loc main_arg1) : FVec Ideal S4x128x1024 .f32) (ix3 q d j) := by
  blk_point [iblk, idx t]
end Cert.Kernel4Ideal.Scan4
end
-- ==== Proof.ScanPow.lean ====
module
public import proofs.«01_k».proof.Proof.Gen.Kernel4Ideal.Value
public import proofs.«01_k».proof.Proof.Scan
public import Idealize.ShloMosaic.Lib.Pipeline.ValueKit
public import Idealize.ShloMosaic.Lib.Pointwise
public import Idealize.ShloMosaic.Lib.StableHlo.RunRead
@[expose] public section
set_option maxRecDepth 16384
noncomputable section
namespace Cert.Kernel4Ideal.Scan4
open Cert.Kernel4Ideal Cert.Kernel4Ideal.Gen Idealize.ShloMosaic Idealize.ShloMosaic.TcCoe Idealize.SL.Sem Cert.Scan
open Idealize.ShloMosaic.Pipeline (Dat)
variable (m : (ℓ : Loc nD τ sig) → Buf (Elt Ideal) ℓ)

abbrev P (c : Dev nD) (n : Fin 2048) (k : ℕ) : EReal × EReal :=
  pw ((m ((c.tc : Thread nD τ).loc main_arg3) : FVec Ideal S2048 .f32) (ix1 n)) ((m ((c.tc : Thread nD τ).loc main_arg4) : FVec Ideal S2048 .f32) (ix1 n)) k

/-- The rows of the first table: the first, second and fourth powers, real parts then imaginary parts. -/
theorem rows3 (c : Dev nD) (n : Fin 2048) :
    ((V m c main_v185 : FVec Ideal S8x2048 .f32) (ix2 0 n) = (P m c n 0).1 ∧ (V m c main_v185 : FVec Ideal S8x2048 .f32) (ix2 3 n) = (P m c n 0).2)
    ∧ ((V m c main_v185 : FVec Ideal S8x2048 .f32) (ix2 1 n) = (P m c n 1).1 ∧ (V m c main_v185 : FVec Ideal S8x2048 .f32) (ix2 4 n) = (P m c n 1).2)
    ∧ ((V m c main_v185 : FVec Ideal S8x2048 .f32) (ix2 2 n) = (P m c n 3).1 ∧ (V m c main_v185 : FVec Ideal S8x2048 .f32) (ix2 5 n) = (P m c n 3).2) := by
  unfold V
  after_reads_simp
  simp only [Matrix.cons_val]
  after_reads_simp
  refine ⟨⟨?_, ?_⟩, ⟨?_, ?_⟩, ?_, ?_⟩ <;> (pointwise []; rfl)

set_option maxHeartbeats 4000000 in
/-- The rows of the second table: the first eight powers, real parts then imaginary parts. -/
theorem rows4 (c : Dev nD) (n : Fin 2048) : ∀ r : Fin 8,
    (V m c main_v186 : FVec Ideal S16x2048 .f32) (ix2 ⟨r.val, by omega⟩ n) = (P m c n r).1
    ∧ (V m c main_v186 : FVec Ideal S16x2048 .f32) (ix2 ⟨8 + r.val, by omega⟩ n) = (P m c n r).2 := by
  unfold V
  after_reads_simp
  simp only [Matrix.cons_val]
  after_reads_simp
  intro r
  fin_cases r <;> refine ⟨?_, ?_⟩ <;> (pointwise []; rfl)
end Cert.Kernel4Ideal.Scan4
end
-- ==== Proof.ScanFinal.lean ====
module
public import proofs.«01_k».proof.Proof.ScanSpec
public import proofs.«01_k».proof.Proof.ScanBlk
public import proofs.«01_k».proof.Proof.ScanPow
public import Idealize.ShloMosaic.Lib.Pipeline.ValueKit
public import Idealize.ShloMosaic.Lib.Pointwise
@[expose] public section
set_option maxRecDepth 16384
noncomputable section

/-! The kernel's final states. -/
namespace Cert.Kernel4Ideal.Scan4
open Cert.Kernel4Ideal Cert.Kernel4Ideal.Gen Idealize.ShloMosaic Idealize.ShloMosaic.TcCoe Idealize.SL.Sem Cert.Scan
open Idealize.ShloMosaic.Pipeline (Dat)
variable (m : (ℓ : Loc nD τ sig) → Buf (Elt Ideal) ℓ)

theorem blk3 (c : Dev nD) (t : Fin cfg0.N) (i : Fin 8) (n : Fin 2048) :
    (iblk m c 3 t : FVec Ideal S8x2048 .f32) (ix2 i n) = (V m c main_v185 : FVec Ideal S8x2048 .f32) (ix2 i n) := by
  generalize hG : (V m c main_v185 : FVec Ideal S8x2048 .f32) = G
  blk_simp [iblk, idx t]
  rw [hG]
  refine congrArg G ?_
  blk_ext [idx t]

theorem blk4 (c : Dev nD) (t : Fin cfg0.N) (i : Fin 16) (n : Fin 2048) :
    (iblk m c 4 t : FVec Ideal S16x2048 .f32) (ix2 i n) = (V m c main_v186 : FVec Ideal S16x2048 .f32) (ix2 i n) := by
  generalize hG : (V m c main_v186 : FVec Ideal S16x2048 .f32) = G
  blk_simp [iblk, idx t]
  rw [hG]
  refine congrArg G ?_
  blk_ext [idx t]

theorem buAt_eq (c : Dev nD) (t : Fin cfg0.N) (o : ℕ) (ho : o ≤ 512) (r : ℕ) (hr : r < 64) (n : Fin 2048) :
    buAt (iblk m c 0 t) (iblk m c 1 t) o ho r hr n
      = xOf o ho (m ((c.tc : Thread nD τ).loc main_arg0)) (m ((c.tc : Thread nD τ).loc main_arg1)) ⟨t.val, by have := t.isLt; have := N32; omega⟩ n r := by
  refine Finset.sum_congr rfl fun d _ => congrArg₂ (· * ·) ((blk0 m c t _ _).trans ?_) (blk1 m c t _ _ _)
  exact congrArg _ (congrArg₂ (ix3 _) (Fin.ext (Nat.mod_eq_of_lt hr).symm) rfl)

/-- The state a grid point leaves is the recurrence's. -/
theorem out_fin (c : Dev nD) (t : Fin cfg0.N) (n : Fin 2048)
    (hf : AllFin (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg8)) (m ((c.tc : Thread nD τ).loc main_arg9))) :
    ((outsAt0 m c t).2.1 : FVec Ideal S1x1x2048 .f32) (ix3 0 0 n) = (Scan.fin (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg8)) (m ((c.tc : Thread nD τ).loc main_arg9)) ⟨t.val, by have := t.isLt; have := N32; omega⟩ n).1
    ∧ ((outsAt0 m c t).2.2 : FVec Ideal S1x1x2048 .f32) (ix3 0 0 n) = (Scan.fin (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg8)) (m ((c.tc : Thread nD τ).loc main_arg9)) ⟨t.val, by have := t.isLt; have := N32; omega⟩ n).2 := by
  obtain ⟨l, hl⟩ := is_of (hf.f3 n) (hf.f4 n)
  obtain ⟨h, hh⟩ := is_of (hf.f8 ⟨t.val, by have := t.isLt; have := N32; omega⟩ n) (hf.f9 ⟨t.val, by have := t.isLt; have := N32; omega⟩ n)
  choose x hx using fun r => is_of (hf.x 0 (by omega) ⟨t.val, by have := t.isLt; have := N32; omega⟩ n r) (hf.x 512 (by omega) ⟨t.val, by have := t.isLt; have := N32; omega⟩ n r)
  have hp := is_pw hl
  obtain ⟨⟨p1, q1⟩, ⟨p2, q2⟩, p4, q4⟩ := rows3 m c n
  have k0 : ∀ r (hr : r < 64), Is (buAt (iblk m c 0 t) (iblk m c 1 t) 0 (by omega) r hr n) (buAt (iblk m c 0 t) (iblk m c 1 t) 512 (by omega) r hr n) (x r) :=
    fun r hr => is_of_eq (hx r) (buAt_eq m c t 0 _ r hr n) (buAt_eq m c t 512 _ r hr n)
  have k1 : Is ((iblk m c 3 t : FVec Ideal S8x2048 .f32) (ix2 0 n)) ((iblk m c 3 t : FVec Ideal S8x2048 .f32) (ix2 3 n)) l :=
    is_of_eq hl ((blk3 m c t 0 n).trans p1) ((blk3 m c t 3 n).trans q1)
  have k2 : Is ((iblk m c 3 t : FVec Ideal S8x2048 .f32) (ix2 1 n)) ((iblk m c 3 t : FVec Ideal S8x2048 .f32) (ix2 4 n)) (l ^ 2) :=
    is_of_eq (hp 1) ((blk3 m c t 1 n).trans p2) ((blk3 m c t 4 n).trans q2)
  have k4 : Is ((iblk m c 3 t : FVec Ideal S8x2048 .f32) (ix2 2 n)) ((iblk m c 3 t : FVec Ideal S8x2048 .f32) (ix2 5 n)) (l ^ 4) :=
    is_of_eq (hp 3) ((blk3 m c t 2 n).trans p4) ((blk3 m c t 5 n).trans q4)
  have kp : ∀ r (hr : r < 8), Is ((iblk m c 4 t : FVec Ideal S16x2048 .f32) (ix2 ⟨r, by omega⟩ n)) ((iblk m c 4 t : FVec Ideal S16x2048 .f32) (ix2 ⟨8 + r, by omega⟩ n)) (l ^ (r + 1)) :=
    fun r hr => is_of_eq (hp r) ((blk4 m c t ⟨r, by omega⟩ n).trans (rows4 m c n ⟨r, hr⟩).1) ((blk4 m c t ⟨8 + r, by omega⟩ n).trans (rows4 m c n ⟨r, hr⟩).2)
  have kh : Is ((iblk m c 8 t : FVec Ideal S1x1x2048 .f32) (ix3 0 0 n)) ((iblk m c 9 t : FVec Ideal S1x1x2048 .f32) (ix3 0 0 n)) h :=
    is_of_eq hh (blk8 m c t n) (blk9 m c t n)
  have key := out_states c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) k0 k1 k2 k4 kp kh
  have e1 : (outsAt0 m c t).2.1 = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) := by
    simp only [outsAt0]
  have e2 : (outsAt0 m c t).2.2 = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) := by
    simp only [outsAt0]
  have hs := rec_is hl hh hx 64
  rw [← fin_eq] at hs
  rw [e1, e2]
  exact is_inj key hs

theorem finalR (c : Dev nD)
    (hf : AllFin (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg8)) (m ((c.tc : Thread nD τ).loc main_arg9))) :
    (dats m 0 c).arrAt 11 cfg0.N = Scan.arrR (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg8)) (m ((c.tc : Thread nD τ).loc main_arg9)) := by
  refine (dats m 0 c).arrAt_eq_of_covers 11 _ (by decide +kernel) fun t _ y => ?_
  have ht : t.val < 32 := lt_of_lt_of_eq t.isLt N32
  have e : ((View.whole main_v192_1).slice (win0_11.rect t)).emb y = (ix3 ⟨t.val, by omega⟩ 0 (y 2) : S32x1x2048.Idx) := by
    blk_ext [idx t]
  blk_simp
  rw [after0_11]
  refine (congrArg ((outsAt0 m c t).2.1 : FVec Ideal S1x1x2048 .f32) (idx_o y)).trans ?_
  refine (out_fin m c t _ hf).1.trans (.trans ?_ (congrArg _ e.symm))
  rfl
theorem finalI (c : Dev nD)
    (hf : AllFin (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg8)) (m ((c.tc : Thread nD τ).loc main_arg9))) :
    (dats m 0 c).arrAt 12 cfg0.N = Scan.arrI (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg8)) (m ((c.tc : Thread nD τ).loc main_arg9)) := by
  refine (dats m 0 c).arrAt_eq_of_covers 12 _ (by decide +kernel) fun t _ y => ?_
  have ht : t.val < 32 := lt_of_lt_of_eq t.isLt N32
  have e : ((View.whole main_v192_2).slice (win0_12.rect t)).emb y = (ix3 ⟨t.val, by omega⟩ 0 (y 2) : S32x1x2048.Idx) := by
    blk_ext [idx t]
  blk_simp
  rw [after0_12]
  refine (congrArg ((outsAt0 m c t).2.2 : FVec Ideal S1x1x2048 .f32) (idx_o y)).trans ?_
  refine (out_fin m c t _ hf).2.trans (.trans ?_ (congrArg _ e.symm))
  rfl
end Cert.Kernel4Ideal.Scan4
end
-- ==== Proof.ScanRef.lean ====
module
public import proofs.«01_k».proof.Proof.Gen.Reference4Ideal.StepRun
public import proofs.«01_k».proof.Proof.ScanSpec
public import Idealize.ShloMosaic.Lib.Pipeline.ValueKit
public import Idealize.ShloMosaic.Lib.Pointwise
@[expose] public section

/-! The reference's loop: its state before a trip is the recurrence's. -/

set_option maxRecDepth 16384
noncomputable section
namespace Cert.Reference4Ideal.Scan4
open Cert.Reference4Ideal Cert.Reference4Ideal.Gen Cert.Reference4Ideal.Step Cert.Reference4Ideal.StepRun
open Idealize.ShloMosaic Idealize.ShloMosaic.TcCoe Idealize.SL.Sem Cert.Scan
variable (m : (ℓ : Loc nD τ sig) → Buf (Elt Ideal) ℓ)

def it (c : Dev nD) : ℕ → State Ideal
  | 0 => initState m c
  | n + 1 => step n (it c n)

theorem split (n : Fin 2048) : n = ⟨512 * (n.val / 512) + n.val % 512, by omega⟩ := Fin.ext (Nat.div_add_mod _ _).symm

theorem it_bu (c : Dev nD) : ∀ n, (it m c n).main_v12_0 = (initState m c).main_v12_0 ∧ (it m c n).main_v12_1 = (initState m c).main_v12_1
    ∧ (it m c n).main_v12_2 = (initState m c).main_v12_2 ∧ (it m c n).main_v12_3 = (initState m c).main_v12_3
  | 0 => ⟨rfl, rfl, rfl, rfl⟩
  | n + 1 => it_bu c n

theorem start_eq : ∀ j : Fin 64, Host.clampedStart S64x32x2048 S1x32x2048 rfl
    (fun k => (((![(constantI S_ 32 (BitVec.ofNat 32 j.val)), constantI S_ 32 0#32, constantI S_ 32 0#32] : Fin 3 → (⟨S_, .i32⟩ : BufTy).Contents (Elt Ideal))) k (Shape.Idx.first h_S_)).toInt) 0 = j.val := by decide
theorem start1 (j : ℕ) : Host.clampedStart S64x32x2048 S1x32x2048 rfl
    (fun k => (((![(constantI S_ 32 (BitVec.ofNat 32 j)), constantI S_ 32 0#32, constantI S_ 32 0#32] : Fin 3 → (⟨S_, .i32⟩ : BufTy).Contents (Elt Ideal))) k (Shape.Idx.first h_S_)).toInt) 1 = 0 := rfl
theorem start2 (j : ℕ) : Host.clampedStart S64x32x2048 S1x32x2048 rfl
    (fun k => (((![(constantI S_ 32 (BitVec.ofNat 32 j)), constantI S_ 32 0#32, constantI S_ 32 0#32] : Fin 3 → (⟨S_, .i32⟩ : BufTy).Contents (Elt Ideal))) k (Shape.Idx.first h_S_)).toInt) 2 = 0 := rfl
/-- Row `j` of the stacked inputs, as the trip slices it. -/
theorem b3_at (j : ℕ) (hj : j < 64) (s : State Ideal) (b : Fin 32) (n : Fin 2048) :
    b3 j s (ix2 b n) = s.main_v12_0 (ix3 ⟨j, hj⟩ b n) := by
  unfold b3 b2
  pointwise []
  refine congrArg s.main_v12_0 (funext fun a => Fin.ext ?_)
  match a with
  | ⟨0, _⟩ => exact start_eq ⟨j, hj⟩
  | ⟨1, _⟩ => exact (congrArg (· + b.val) (start1 j)).trans (Nat.zero_add _)
  | ⟨2, _⟩ => exact (congrArg (· + n.val) (start2 j)).trans (Nat.zero_add _)
theorem b7_at (j : ℕ) (hj : j < 64) (s : State Ideal) (b : Fin 32) (n : Fin 2048) :
    b7 j s (ix2 b n) = s.main_v12_1 (ix3 ⟨j, hj⟩ b n) := by
  unfold b7 b6
  pointwise []
  refine congrArg s.main_v12_1 (funext fun a => Fin.ext ?_)
  match a with
  | ⟨0, _⟩ => exact start_eq ⟨j, hj⟩
  | ⟨1, _⟩ => exact (congrArg (· + b.val) (start1 j)).trans (Nat.zero_add _)
  | ⟨2, _⟩ => exact (congrArg (· + n.val) (start2 j)).trans (Nat.zero_add _)
theorem b15_at (j : ℕ) (s : State Ideal) (b : Fin 32) (n : Fin 2048) :
    b15 j s (ix2 b n) = s.main_v12_2 (ix1 n) * s.main_v12_5 (ix2 b n) - s.main_v12_3 (ix1 n) * s.main_v12_6 (ix2 b n) + b3 j s (ix2 b n) := by
  pointwise [b15, b14, b13, b12, b11, b10, b9, b8]
theorem b23_at (j : ℕ) (s : State Ideal) (b : Fin 32) (n : Fin 2048) :
    b23 j s (ix2 b n) = s.main_v12_2 (ix1 n) * s.main_v12_6 (ix2 b n) + s.main_v12_3 (ix1 n) * s.main_v12_5 (ix2 b n) + b7 j s (ix2 b n) := by
  pointwise [b23, b22, b21, b20, b19, b18, b17, b16]

/-- The loop's state is the recurrence's. -/
theorem it_rec {c : Dev nD} {b : Fin 32} {n : Fin 2048} {x y : ℕ → EReal}
    (hx : ∀ j (hj : j < 64), (initState m c).main_v12_0 (ix3 ⟨j, hj⟩ b n) = x j)
    (hy : ∀ j (hj : j < 64), (initState m c).main_v12_1 (ix3 ⟨j, hj⟩ b n) = y j) : ∀ k ≤ 64,
    (it m c k).main_v12_5 (ix2 b n) = (rec ((initState m c).main_v12_2 (ix1 n)) ((initState m c).main_v12_3 (ix1 n))
      ((initState m c).main_v12_5 (ix2 b n)) ((initState m c).main_v12_6 (ix2 b n)) x y k).1
    ∧ (it m c k).main_v12_6 (ix2 b n) = (rec ((initState m c).main_v12_2 (ix1 n)) ((initState m c).main_v12_3 (ix1 n))
      ((initState m c).main_v12_5 (ix2 b n)) ((initState m c).main_v12_6 (ix2 b n)) x y k).2
  | 0, _ => ⟨rfl, rfl⟩
  | k + 1, hk => by
    obtain ⟨g1, g2⟩ := it_rec hx hy k (by omega)
    obtain ⟨e0, e1, e2, e3⟩ := it_bu m c k
    refine ⟨(b15_at k _ b n).trans ?_, (b23_at k _ b n).trans ?_⟩
    · rw [b3_at k (by omega), g1, g2, e0, e2, e3, hx k (by omega)]; rfl
    · rw [b7_at k (by omega), g1, g2, e1, e2, e3, hy k (by omega)]; rfl

section
variable (a0 : FVec Ideal S32x64x6656 .f32) (a1 : FVec Ideal S4x128x1024 .f32) (a8 a9 : FVec Ideal S32x1x2048 .f32)
theorem v10_at (j : Fin 64) (b : Fin 32) (q : Fin 4) (i : Fin 512) :
    A_main_v10 (F := Ideal) a0 a1 a8 a9 (ix3 j b ⟨512 * q.val + i.val, by omega⟩)
      = ∑ d : Fin 128, a1 (ix3 q d ⟨i.val, by omega⟩) * a0 (ix3 b j ⟨6144 + (q.val * 128 + d.val), by omega⟩) := by
  pointwise [A_main_v10, A_main_v5, A_main_v4, A_main_v3, A_main_v2, A_main_v1, A_main_v0]
theorem v11_at (j : Fin 64) (b : Fin 32) (q : Fin 4) (i : Fin 512) :
    A_main_v11 (F := Ideal) a0 a1 a8 a9 (ix3 j b ⟨512 * q.val + i.val, by omega⟩)
      = ∑ d : Fin 128, a1 (ix3 q d ⟨512 + i.val, by omega⟩) * a0 (ix3 b j ⟨6144 + (q.val * 128 + d.val), by omega⟩) := by
  pointwise [A_main_v11, A_main_v7, A_main_v6, A_main_v3, A_main_v2, A_main_v1, A_main_v0]
theorem v8_at (b : Fin 32) (n : Fin 2048) : A_main_v8 (F := Ideal) a0 a1 a8 a9 (ix2 b n) = a8 (ix3 b 0 n) := by
  pointwise [A_main_v8]
theorem v9_at (b : Fin 32) (n : Fin 2048) : A_main_v9 (F := Ideal) a0 a1 a8 a9 (ix2 b n) = a9 (ix3 b 0 n) := by
  pointwise [A_main_v9]
end
theorem outR (s : State Ideal) (b : Fin 32) (n : Fin 2048) : R_main_v13 s (ix3 b 0 n) = s.main_v12_5 (ix2 b n) := by
  pointwise [R_main_v13]
theorem outI (s : State Ideal) (b : Fin 32) (n : Fin 2048) : R_main_v14 s (ix3 b 0 n) = s.main_v12_6 (ix2 b n) := by
  pointwise [R_main_v14]

theorem init_x (c : Dev nD) (b : Fin 32) (n : Fin 2048) (j : ℕ) (hj : j < 64) : (initState m c).main_v12_0 (ix3 ⟨j, hj⟩ b n)
    = xOf 0 (by omega) (m ((c.tc : Thread nD τ).loc main_arg0)) (m ((c.tc : Thread nD τ).loc main_arg1)) b n j := by
  refine (congrArg (fun n => (initState m c).main_v12_0 (ix3 ⟨j, hj⟩ b n)) (split n)).trans ?_
  refine (v10_at _ _ _ _ ⟨j, hj⟩ b ⟨n.val / 512, by omega⟩ ⟨n.val % 512, by omega⟩).trans ?_
  refine Finset.sum_congr rfl fun d _ => (mul_comm _ _).trans (congrArg₂ (· * ·) (congrArg _ (congrArg₂ (ix3 b) (Fin.ext (Nat.mod_eq_of_lt hj).symm) (Fin.ext ?_))) (congrArg _ (congrArg (ix3 _ d) (Fin.ext ?_))))
  · show 6144 + (n.val / 512 * 128 + d.val) = 6144 + (128 * (n.val / 512) + d.val)
    omega
  · show n.val % 512 = 0 + n.val % 512
    omega
theorem init_y (c : Dev nD) (b : Fin 32) (n : Fin 2048) (j : ℕ) (hj : j < 64) : (initState m c).main_v12_1 (ix3 ⟨j, hj⟩ b n)
    = xOf 512 (by omega) (m ((c.tc : Thread nD τ).loc main_arg0)) (m ((c.tc : Thread nD τ).loc main_arg1)) b n j := by
  refine (congrArg (fun n => (initState m c).main_v12_1 (ix3 ⟨j, hj⟩ b n)) (split n)).trans ?_
  refine (v11_at _ _ _ _ ⟨j, hj⟩ b ⟨n.val / 512, by omega⟩ ⟨n.val % 512, by omega⟩).trans ?_
  refine Finset.sum_congr rfl fun d _ => (mul_comm _ _).trans (congrArg₂ (· * ·) (congrArg _ (congrArg₂ (ix3 b) (Fin.ext (Nat.mod_eq_of_lt hj).symm) (Fin.ext ?_))) rfl)
  show 6144 + (n.val / 512 * 128 + d.val) = 6144 + (128 * (n.val / 512) + d.val)
  omega

theorem it_fin (c : Dev nD) (b : Fin 32) (n : Fin 2048) :
    (it m c 64).main_v12_5 (ix2 b n) = (Scan.fin (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg8)) (m ((c.tc : Thread nD τ).loc main_arg9)) b n).1
    ∧ (it m c 64).main_v12_6 (ix2 b n) = (Scan.fin (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg8)) (m ((c.tc : Thread nD τ).loc main_arg9)) b n).2 := by
  have e8 : (initState m c).main_v12_5 (ix2 b n) = _ := v8_at (m ((c.tc : Thread nD τ).loc main_arg0)) (m ((c.tc : Thread nD τ).loc main_arg1)) (m ((c.tc : Thread nD τ).loc main_arg8)) (m ((c.tc : Thread nD τ).loc main_arg9)) b n
  have e9 : (initState m c).main_v12_6 (ix2 b n) = _ := v9_at (m ((c.tc : Thread nD τ).loc main_arg0)) (m ((c.tc : Thread nD τ).loc main_arg1)) (m ((c.tc : Thread nD τ).loc main_arg8)) (m ((c.tc : Thread nD τ).loc main_arg9)) b n
  have h := it_rec m (init_x m c b n) (init_y m c b n) 64 le_rfl
  rw [e8, e9] at h
  rw [fin_eq]
  exact h

/-- The final states as arrays. -/
theorem refR (c : Dev nD) : R_main_v13 (it m c 64) = Scan.arrR (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg8)) (m ((c.tc : Thread nD τ).loc main_arg9)) := by
  funext i
  exact (congrArg (R_main_v13 (it m c 64)) (idx_h i)).trans ((outR _ _ _).trans (it_fin m c _ _).1)
theorem refI (c : Dev nD) : R_main_v14 (it m c 64) = Scan.arrI (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg8)) (m ((c.tc : Thread nD τ).loc main_arg9)) := by
  funext i
  exact (congrArg (R_main_v14 (it m c 64)) (idx_h i)).trans ((outI _ _ _).trans (it_fin m c _ _).2)
end Cert.Reference4Ideal.Scan4
end
-- ==== Proof.Alg4.lean ====
module
public import proofs.«01_k».proof.Defs
public import proofs.«01_k».proof.Proof.ScanFinal
public import proofs.«01_k».proof.Proof.ScanRef
public import proofs.«01_k».proof.Proof.Gen.Kernel4Ideal
public import proofs.«01_k».proof.Proof.Gen.Reference4Ideal
public import Idealize.ShloMosaic.Lib.ReduceAll
public import Idealize.ShloMosaic.Lib.Claim
public import Idealize.ShloMosaic.Lib.Pointwise
@[expose] public section
set_option maxRecDepth 16384
noncomputable section

/-! The diagonal recurrence: kernel and reference end with the same states. -/
namespace Cert.Proof
open Idealize.ShloMosaic Idealize.ShloMosaic.TcCoe Idealize.SL.Sem

/-- The side conditions of the precondition's operations. -/
theorem finFacts : Cert.Pre_finite.Facts := by
  constructor <;> decide

theorem and_one {s : Shape} (x y : IVec s 1) (i : s.Idx) : andi x y i = 1#1 ↔ x i = 1#1 ∧ y i = 1#1 := IntOp.andi_eq_one

theorem fin_of_abs {x : EReal} (h : BitVec.ofBool (decide (max x (-x) < Ideal.ofBits .f32 0x7F800000#32)) = 1#1) : Cert.Scan.Fin' x := by
  refine Cert.Scan.fin_of (lt_of_lt_of_le ?_ (le_top (a := Ideal.ofBits .f32 0x7F800000#32)))
  by_contra hn
  rw [decide_eq_false hn] at h
  exact absurd h (by decide)

/-- What the precondition says: the arguments the states depend on hold no infinity. -/
theorem fin_of_pre (m : (ℓ : Loc Cert.Kernel4Ideal.nD Cert.Kernel4Ideal.τ Cert.Kernel4Ideal.sig) → Buf (Elt Ideal) ℓ)
    (hp : letI := finFacts; Pre_Kernel4Ideal_finite m) (c : Dev Cert.Kernel4Ideal.nD) :
    Cert.Scan.AllFin (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) := by
  letI := finFacts
  haveI : Subsingleton Cert.Pre_finite.S_.Idx := ⟨fun a b => funext fun i => i.elim0⟩
  have h := congrFun (hp c) (fun i => i.elim0)
  simp only [Cert.Pre_finite.fn, Cert.Pre_finite.fn_part1, and_one] at h
  obtain ⟨⟨⟨⟨⟨e0, e1⟩, e3⟩, e4⟩, e8⟩, e9⟩ := h
  constructor
  · intro b t k
    have e := Host.reduce_andi_all _ _ _ _ _ e0 (ix3 b t k)
    pointwise [] at e
    exact fin_of_abs e
  · intro q d j
    have e := Host.reduce_andi_all _ _ _ _ _ e1 (ix3 q d j)
    pointwise [] at e
    exact fin_of_abs e
  · intro n
    have e := Host.reduce_andi_all _ _ _ _ _ e3 (ix1 n)
    pointwise [] at e
    exact fin_of_abs e
  · intro n
    have e := Host.reduce_andi_all _ _ _ _ _ e4 (ix1 n)
    pointwise [] at e
    exact fin_of_abs e
  · intro b n
    have e := Host.reduce_andi_all _ _ _ _ _ e8 (ix3 b 0 n)
    pointwise [] at e
    exact fin_of_abs e
  · intro b n
    have e := Host.reduce_andi_all _ _ _ _ _ e9 (ix3 b 0 n)
    pointwise [] at e
    exact fin_of_abs e

/-- What the kernel's run leaves. -/
theorem ker_run4 (m : (ℓ : Loc Cert.Kernel4Ideal.nD Cert.Kernel4Ideal.τ Cert.Kernel4Ideal.sig) → Buf (Elt Ideal) ℓ) (g : Dev Cert.Kernel4Ideal.nD → PrngReg)
    (hp : letI := finFacts; Pre_Kernel4Ideal_finite m) :
    θ_run (Cert.Kernel4Ideal.defs (F := Ideal)) (onTc (τ := Cert.Kernel4Ideal.τ) (Cert.Kernel4Ideal.main (F := Ideal))) ⟨m, fun _ => 0, g⟩ fun r => ∀ c : Dev Cert.Kernel4Ideal.nD,
      r.2.mem ((c.tc : Thread Cert.Kernel4Ideal.nD Cert.Kernel4Ideal.τ).loc Cert.Kernel4Ideal.main_v192_1) = Scan.arrR (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))
      ∧ r.2.mem ((c.tc : Thread Cert.Kernel4Ideal.nD Cert.Kernel4Ideal.τ).loc Cert.Kernel4Ideal.main_v192_2) = Scan.arrI (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))
      ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9) :=
  (θ_run _ _ _).mono (fun r h c => ⟨(h c).2.1.trans (Cert.Kernel4Ideal.Scan4.finalR m c (fin_of_pre m hp c)), (h c).2.2.1.trans (Cert.Kernel4Ideal.Scan4.finalI m c (fin_of_pre m hp c)), (h c).2.2.2⟩)
    (Cert.Kernel4Ideal.Value.run_blocks m g)

/-- What the reference's run leaves. -/
theorem ref_run4 (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ fun r => ∀ c : Dev Cert.Reference4Ideal.nD,
      r.2.mem ((c.tc : Thread Cert.Reference4Ideal.nD Cert.Reference4Ideal.τ).loc Cert.Reference4Ideal.main_v13) = Scan.arrR (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))
      ∧ r.2.mem ((c.tc : Thread Cert.Reference4Ideal.nD Cert.Reference4Ideal.τ).loc Cert.Reference4Ideal.main_v14) = Scan.arrI (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))
      ∧ r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9) :=
  (θ_run _ _ _).mono (fun r h c => ⟨(h c).1.trans (Cert.Reference4Ideal.Scan4.refR m c), (h c).2.1.trans (Cert.Reference4Ideal.Scan4.refI m c), (h c).2.2⟩)
    (Cert.Reference4Ideal.StepRun.run_iter m g (Cert.Reference4Ideal.Scan4.it m) (fun _ => rfl) (fun _ _ => rfl))

/-- The reference's frame: its run leaves the arguments, and it declares no semaphore. -/
theorem frame_ref4 (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0 :=
  (θ_run _ _ _).mono (fun r h => ⟨fun c => (h c).2.2, sem_eq_zero_of_no_sems (by decide) r.2⟩)
    (ref_run4 m g)

/-- Kernel and reference leave the same states where no argument they depend on is infinite. -/
theorem alg4 : letI := Cert.Kernel4Ideal.Gen.facts; letI := Cert.Reference4Ideal.Gen.facts; letI := finFacts
    algebraic_Kernel4Ideal_Reference4Ideal_pre_finite := by
  pair_intro
  · run_from ker_run4 m g hpre
  · run_from ref_run4 m' g'

end Cert.Proof
-- ==== Proof.Tail.lean ====
module
public import Idealize.ShloMosaic.Lib.Pipeline.ValueKit
public import Idealize.ShloMosaic.Lib.Pointwise
@[expose] public section
noncomputable section

/-! The last rows of a column range, and a load inside the piece stored last. -/
namespace Cert.Tail
open Idealize.ShloMosaic Idealize.ShloMosaic.TcCoe

/-- A load inside the rectangle of the last store reads its payload. -/
theorem readCov_in {sig : RefSig} {κ : Kind} {sp : Space} {s : Shape} {e : EltTy} {Val : EltTy → Type} [∀ e, Nonempty (Val e)]
    (v : View sig κ sp s e) (r : Rect s) (w : r.shape.Idx → Val e) (L : List (View.Piece Val s e)) (B : LoadRect s)
    (j : B.shape.Idx) (x : r.shape.Idx) (h : r.emb x = B.idx j) : v.readCov (⟨r, w⟩ :: L) B j = w x := by
  rw [View.readCov_eq_canon']
  show View.canon _ (B.idx j) = _
  rw [← h]
  exact View.canon_cons_emb r w L x

/-- Rows `64 - n …` and columns `o …` of the projection. -/
def rows (n w o : ℕ) (hn : n ≤ 64) (ho : o + w ≤ 6656) (a : FVec Ideal ⟨3, ![32, 64, 6656]⟩ .f32) : FVec Ideal ⟨3, ![32, n, w]⟩ .f32 :=
  fun i => a (ix3 (i 0) ⟨64 - n + (i 1 : Fin n).val, by have : (i 1 : Fin n).val < n := (i 1 : Fin n).isLt; omega⟩
    ⟨o + (i 2 : Fin w).val, by have : (i 2 : Fin w).val < w := (i 2 : Fin w).isLt; omega⟩)

theorem rows_at (n w o : ℕ) (hn : n ≤ 64) (ho : o + w ≤ 6656) (a : FVec Ideal ⟨3, ![32, 64, 6656]⟩ .f32) (b : Fin 32) (r : Fin n) (k : Fin w) :
    rows n w o hn ho a (ix3 b r k) = a (ix3 b ⟨64 - n + r.val, by omega⟩ ⟨o + k.val, by omega⟩) := rfl

theorem at_eq {n w k : ℕ} {α : Type} (f : (⟨3, ![n, w, k]⟩ : Shape).Idx → α) {i i' : Fin n} {j j' : Fin w} {l l' : Fin k}
    (h : i.val = i'.val) (g : j.val = j'.val) (e : l.val = l'.val) : f (ix3 i j l) = f (ix3 i' j' l') := by
  rw [Fin.ext h, Fin.ext g, Fin.ext e]

end Cert.Tail
end
-- ==== Proof.Conv.lean ====
module
public import proofs.«01_k».proof.Proof.Gen.Kernel5Ideal.Value
public import proofs.«01_k».proof.Proof.Tail
public import Idealize.ShloMosaic.Lib.Pipeline.ValueKit
public import Idealize.ShloMosaic.Lib.Pointwise
@[expose] public section
set_option maxRecDepth 16384
noncomputable section

/-! The convolution state after the run: the last three rows of the convolved columns. -/
namespace Cert.Kernel5Ideal.Conv
open Cert.Kernel5Ideal Cert.Kernel5Ideal.Gen Idealize.ShloMosaic Idealize.ShloMosaic.TcCoe Idealize.SL.Sem
open Idealize.ShloMosaic.Pipeline (Dat)
variable (m : (ℓ : Loc nD τ sig) → Buf (Elt Ideal) ℓ)

theorem N16 : cfg0.N = 16 := by decide +kernel
theorem idx : ∀ t : Fin cfg0.N, win0_0.index t = ![t.val, 0, 1] ∧ win0_10.index t = ![t.val, 0, 0] :=
  (by decide +kernel : ∀ t : Fin grid0.N, _)

theorem blk0 (c : Dev nD) (t : Fin cfg0.N) (b : Fin 2) (r : Fin 64) (k : Fin 2048) :
    (X0_0 m c t : FVec Ideal S2x64x2048 .f32) (ix3 b r k)
      = (m ((c.tc : Thread nD τ).loc main_arg0) : FVec Ideal S32x64x6656 .f32) (ix3 ⟨2 * t.val + b.val, by have := t.isLt; have := N16; omega⟩ r ⟨2048 + k.val, by omega⟩) := by
  unfold X0_0 Pipeline.Window.fill
  rw [dif_pos (moved0_0 t _)]
  blk_point [iblk, V, idx t]

theorem final (c : Dev nD) : (dats m 0 c).arrAt 10 cfg0.N
    = Tail.rows 3 1536 2048 (by omega) (by omega) (m ((c.tc : Thread nD τ).loc main_arg0)) := by
  refine (dats m 0 c).arrAt_eq_of_covers 10 _ (by decide +kernel) fun t _ y => ?_
  have ht : t.val < 16 := lt_of_lt_of_eq t.isLt N16
  have hy0 : (y 0 : ℕ) < 2 := (y 0).isLt
  have e : ((View.whole main_v0_2).slice (win0_10.rect t)).emb y
      = (ix3 ⟨2 * t.val + (y 0 : ℕ), by omega⟩ (y 1) (y 2) : S32x3x1536.Idx) := by
    blk_ext [idx t]
  refine .trans ?_ (congrArg _ e.symm)
  refine .trans ?_ (Tail.rows_at 3 1536 2048 _ _ _ _ _ _).symm
  blk_simp
  rw [after0_10]
  unfold outsAt0
  frame_out
  canon_tiles x h
  all_goals (
    idx_vars x
    obtain rfl : x0 = 0 := Subsingleton.elim _ _
    pointwise [k0_pay24, k0_pay22, k0_pay17, k0_pay15]
    refine (Tail.readCov_in _ _ _ _ _ _ (ix3 0 ⟨61 + x1.val, by omega⟩ x2) (funext fun a => Fin.ext ?_)).trans ?_
    case refine_1 =>
      match a with
      | ⟨0, _⟩ => rfl
      | ⟨1, _⟩ => show 8 + 1 * (61 + x1.val) = 69 + 1 * x1.val; omega
      | ⟨2, _⟩ => rfl
    pointwise [k0_pay20, k0_pay11]
    refine (blk0 m c t _ _ _).trans (Tail.at_eq _ ?_ ?_ ?_)
    · simp only [h0]; simp
    · show 61 + x1.val = 61 + (y 1 : ℕ); omega
    · show 2048 + x2.val = 2048 + (y 2 : ℕ); omega)
end Cert.Kernel5Ideal.Conv
end
-- ==== Proof.Alg5.lean ====
module
public import proofs.«01_k».proof.Defs
public import proofs.«01_k».proof.Proof.Conv
public import proofs.«01_k».proof.Proof.Gen.Kernel5Ideal
public import proofs.«01_k».proof.Proof.Gen.Reference5Ideal
public import proofs.«01_k».proof.Proof.Gen.Reference5Ideal.Run
public import proofs.«01_k».proof.Proof.Gen.Reference5Ideal.Read
public import Idealize.ShloMosaic.Lib.Claim
public import Idealize.ShloMosaic.Lib.Pointwise
@[expose] public section
set_option maxRecDepth 16384
noncomputable section

/-! The delta rule's call: kernel and reference leave the same convolution state. -/
namespace Cert.Proof
open Idealize.ShloMosaic Idealize.ShloMosaic.TcCoe Idealize.SL.Sem

/-- What the kernel's run leaves. -/
theorem ker_run5 (m : (ℓ : Loc Cert.Kernel5Ideal.nD Cert.Kernel5Ideal.τ Cert.Kernel5Ideal.sig) → Buf (Elt Ideal) ℓ) (g : Dev Cert.Kernel5Ideal.nD → PrngReg) :
    θ_run (Cert.Kernel5Ideal.defs (F := Ideal)) (onTc (τ := Cert.Kernel5Ideal.τ) (Cert.Kernel5Ideal.main (F := Ideal))) ⟨m, fun _ => 0, g⟩ fun r => ∀ c : Dev Cert.Kernel5Ideal.nD,
      r.2.mem ((c.tc : Thread Cert.Kernel5Ideal.nD Cert.Kernel5Ideal.τ).loc Cert.Kernel5Ideal.main_v0_2) = Tail.rows 3 1536 2048 (by omega) (by omega) (m ((c.tc : Thread Cert.Kernel5Ideal.nD Cert.Kernel5Ideal.τ).loc Cert.Kernel5Ideal.main_arg0))
      ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6) :=
  (θ_run _ _ _).mono (fun r h c => ⟨(h c).2.2.1.trans (Cert.Kernel5Ideal.Conv.final m c), (h c).2.2.2⟩) (Cert.Kernel5Ideal.Value.run_blocks m g)

/-- The slice is these rows. -/
theorem slice5 (a : FVec Ideal Cert.Reference5Ideal.S32x64x6656 .f32) :
    Cert.Reference5Ideal.Read.val_main_v0 (F := Ideal) a = Tail.rows 3 1536 2048 (by omega) (by omega) a := by
  funext i
  rw [Cert.Reference5Ideal.Read.val_main_v0_apply]
  exact congrArg a (funext fun b => match b with
    | ⟨0, _⟩ => rfl
    | ⟨1, _⟩ => rfl
    | ⟨2, _⟩ => rfl)

/-- What the reference's run leaves. -/
theorem ref_run5 (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ fun r => ∀ c : Dev Cert.Reference5Ideal.nD,
      r.2.mem ((c.tc : Thread Cert.Reference5Ideal.nD Cert.Reference5Ideal.τ).loc Cert.Reference5Ideal.main_v0) = Tail.rows 3 1536 2048 (by omega) (by omega) (m ((c.tc : Thread Cert.Reference5Ideal.nD Cert.Reference5Ideal.τ).loc Cert.Reference5Ideal.main_arg0))
      ∧ r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6) :=
  (θ_run _ _ _).mono (fun r h c => ⟨(h c).1.trans (slice5 _), (h c).2⟩) (Cert.Reference5Ideal.Value.run m g)

/-- The reference's frame: its run leaves the arguments, and it declares no semaphore. -/
theorem frame_ref5 (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0 :=
  (θ_run _ _ _).mono (fun r h => ⟨fun c => (h c).2, sem_eq_zero_of_no_sems (by decide) r.2⟩) (ref_run5 m g)

/-- Kernel and reference leave the same state of the convolution. -/
theorem alg5 : letI := Cert.Kernel5Ideal.Gen.facts; letI := Cert.Reference5Ideal.Gen.facts
    algebraic_Kernel5Ideal_Reference5Ideal := by
  pair_intro
  · run_from ker_run5 m g
  · run_from ref_run5 m' g'

end Cert.Proof
end
-- ==== Proof.Shift.lean ====
module
public import proofs.«01_k».proof.Proof.Gen.Kernel6Ideal.Value
public import proofs.«01_k».proof.Proof.Tail
public import Idealize.ShloMosaic.Lib.Pipeline.ValueKit
public import Idealize.ShloMosaic.Lib.Pointwise
@[expose] public section
set_option maxRecDepth 16384
noncomputable section

/-! The shift state after the run: the last row of the columns. -/
namespace Cert.Kernel6Ideal.Shift
open Cert.Kernel6Ideal Cert.Kernel6Ideal.Gen Idealize.ShloMosaic Idealize.ShloMosaic.TcCoe Idealize.SL.Sem
open Idealize.ShloMosaic.Pipeline (Dat)
variable (m : (ℓ : Loc nD τ sig) → Buf (Elt Ideal) ℓ)

theorem N16 : cfg0.N = 16 := by decide +kernel
theorem idx : ∀ t : Fin cfg0.N, win0_0.index t = ![t.val, 0, 2] ∧ win0_15.index t = ![t.val, 0, 0] :=
  (by decide +kernel : ∀ t : Fin grid0.N, _)

theorem blk0 (c : Dev nD) (t : Fin cfg0.N) (b : Fin 2) (r : Fin 64) (k : Fin 2048) :
    (X0_0 m c t : FVec Ideal S2x64x2048 .f32) (ix3 b r k)
      = (m ((c.tc : Thread nD τ).loc main_arg0) : FVec Ideal S32x64x6656 .f32) (ix3 ⟨2 * t.val + b.val, by have := t.isLt; have := N16; omega⟩ r ⟨4096 + k.val, by omega⟩) := by
  unfold X0_0 Pipeline.Window.fill
  rw [dif_pos (moved0_0 t _)]
  blk_point [iblk, V, idx t]

theorem final (c : Dev nD) : (dats m 0 c).arrAt 15 cfg0.N
    = Tail.rows 1 1792 4096 (by omega) (by omega) (m ((c.tc : Thread nD τ).loc main_arg0)) := by
  refine (dats m 0 c).arrAt_eq_of_covers 15 _ (by decide +kernel) fun t _ y => ?_
  have ht : t.val < 16 := lt_of_lt_of_eq t.isLt N16
  have hy0 : (y 0 : ℕ) < 2 := (y 0).isLt
  have e : ((View.whole main_v0_2).slice (win0_15.rect t)).emb y
      = (ix3 ⟨2 * t.val + (y 0 : ℕ), by omega⟩ (y 1) (y 2) : S32x1x1792.Idx) := by
    blk_ext [idx t]
  refine .trans ?_ (congrArg _ e.symm)
  refine .trans ?_ (Tail.rows_at 1 1792 4096 _ _ _ _ _ _).symm
  blk_simp
  rw [after0_15]
  unfold outsAt0
  frame_out
  canon_tiles x h
  all_goals (
    idx_vars x
    obtain rfl : x0 = 0 := Subsingleton.elim _ _
    pointwise [k0_pay35, k0_pay33, k0_pay16, k0_pay14]
    refine (Tail.readCov_in _ _ _ _ _ _ (ix3 0 ⟨63 + x1.val, by omega⟩ x2) (funext fun a => Fin.ext ?_)).trans ?_
    case refine_1 =>
      match a with
      | ⟨0, _⟩ => rfl
      | ⟨1, _⟩ => show 8 + 1 * (63 + x1.val) = 71 + 1 * x1.val; omega
      | ⟨2, _⟩ => rfl
    pointwise [k0_pay31, k0_pay13]
    refine (blk0 m c t _ _ _).trans (Tail.at_eq _ ?_ ?_ ?_)
    · simp only [h0]; simp
    · rfl
    · show 4096 + x2.val = 4096 + (y 2 : ℕ); omega)
end Cert.Kernel6Ideal.Shift
end
-- ==== Proof.Alg6.lean ====
module
public import proofs.«01_k».proof.Defs
public import proofs.«01_k».proof.Proof.Shift
public import proofs.«01_k».proof.Proof.Gen.Kernel6Ideal
public import proofs.«01_k».proof.Proof.Gen.Reference6Ideal
public import proofs.«01_k».proof.Proof.Gen.Reference6Ideal.Run
public import proofs.«01_k».proof.Proof.Gen.Reference6Ideal.Read
public import Idealize.ShloMosaic.Lib.Claim
public import Idealize.ShloMosaic.Lib.Pointwise
@[expose] public section
set_option maxRecDepth 16384
noncomputable section

/-! The token shift: kernel and reference leave the same state. -/
namespace Cert.Proof
open Idealize.ShloMosaic Idealize.ShloMosaic.TcCoe Idealize.SL.Sem

/-- What the kernel's run leaves. -/
theorem ker_run6 (m : (ℓ : Loc Cert.Kernel6Ideal.nD Cert.Kernel6Ideal.τ Cert.Kernel6Ideal.sig) → Buf (Elt Ideal) ℓ) (g : Dev Cert.Kernel6Ideal.nD → PrngReg) :
    θ_run (Cert.Kernel6Ideal.defs (F := Ideal)) (onTc (τ := Cert.Kernel6Ideal.τ) (Cert.Kernel6Ideal.main (F := Ideal))) ⟨m, fun _ => 0, g⟩ fun r => ∀ c : Dev Cert.Kernel6Ideal.nD,
      r.2.mem ((c.tc : Thread Cert.Kernel6Ideal.nD Cert.Kernel6Ideal.τ).loc Cert.Kernel6Ideal.main_v0_2) = Tail.rows 1 1792 4096 (by omega) (by omega) (m ((c.tc : Thread Cert.Kernel6Ideal.nD Cert.Kernel6Ideal.τ).loc Cert.Kernel6Ideal.main_arg0))
      ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12) :=
  (θ_run _ _ _).mono (fun r h c => ⟨(h c).2.2.1.trans (Cert.Kernel6Ideal.Shift.final m c), (h c).2.2.2⟩) (Cert.Kernel6Ideal.Value.run_blocks m g)

/-- The slice is these rows. -/
theorem slice6 (a : FVec Ideal Cert.Reference6Ideal.S32x64x6656 .f32) :
    Cert.Reference6Ideal.Read.val_main_v0 (F := Ideal) a = Tail.rows 1 1792 4096 (by omega) (by omega) a := by
  funext i
  rw [Cert.Reference6Ideal.Read.val_main_v0_apply]
  exact congrArg a (funext fun b => match b with
    | ⟨0, _⟩ => rfl
    | ⟨1, _⟩ => rfl
    | ⟨2, _⟩ => rfl)

/-- What the reference's run leaves. -/
theorem ref_run6 (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ fun r => ∀ c : Dev Cert.Reference6Ideal.nD,
      r.2.mem ((c.tc : Thread Cert.Reference6Ideal.nD Cert.Reference6Ideal.τ).loc Cert.Reference6Ideal.main_v0) = Tail.rows 1 1792 4096 (by omega) (by omega) (m ((c.tc : Thread Cert.Reference6Ideal.nD Cert.Reference6Ideal.τ).loc Cert.Reference6Ideal.main_arg0))
      ∧ r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12) :=
  (θ_run _ _ _).mono (fun r h c => ⟨(h c).1.trans (slice6 _), (h c).2⟩) (Cert.Reference6Ideal.Value.run m g)

/-- The reference's frame: its run leaves the arguments, and it declares no semaphore. -/
theorem frame_ref6 (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12))
      ∧ r.2.sem = fun _ => 0 :=
  (θ_run _ _ _).mono (fun r h => ⟨fun c => (h c).2, sem_eq_zero_of_no_sems (by decide) r.2⟩) (ref_run6 m g)

/-- Kernel and reference leave the same state of the token shift. -/
theorem alg6 : letI := Cert.Kernel6Ideal.Gen.facts; letI := Cert.Reference6Ideal.Gen.facts
    algebraic_Kernel6Ideal_Reference6Ideal := by
  pair_intro
  · run_from ker_run6 m g
  · run_from ref_run6 m' g'

end Cert.Proof
end
-- ==== Proof.Ffn7.lean ====
module
public import proofs.«01_k».proof.Proof.Gen.Kernel7Ideal.Value
public import proofs.«01_k».proof.Proof.FfnCore
public import Idealize.ShloMosaic.Lib.Pipeline.ValueKit
public import Idealize.ShloMosaic.Lib.Pointwise
@[expose] public section
set_option maxRecDepth 16384
noncomputable section

/-! The output and feed-forward part at the prompt's rows: the blocks, the points and the result. -/
namespace Cert.Kernel7Ideal.Ffn
open Cert.Kernel7Ideal Cert.Kernel7Ideal.Gen Idealize.ShloMosaic Idealize.ShloMosaic.TcCoe Idealize.SL.Sem
open Cert.Kernel2Ideal.Ffn (Args Blk Stages Runs)
open Idealize.ShloMosaic.Pipeline (Dat)
variable (m : (ℓ : Loc nD τ sig) → Buf (Elt Ideal) ℓ)

theorem points : cfg0.N = 704 := by decide +kernel

theorem idx : ∀ t : Fin cfg0.N, win0_0.index t = ![t.val / 11, 0] ∧ win0_1.index t = ![t.val / 11, 0] ∧ win0_2.index t = ![t.val / 11, 0]
    ∧ win0_3.index t = ![t.val / 11, 0] ∧ win0_4.index t = ![t.val / 11, 0] ∧ win0_5.index t = ![0, 0, 0]
    ∧ win0_6.index t = ![0, 0] ∧ win0_7.index t = ![0, 0] ∧ win0_8.index t = ![0, t.val % 11] ∧ win0_9.index t = ![0, t.val % 11]
    ∧ win0_10.index t = ![t.val % 11, 0] ∧ win0_11.index t = ![0, 0] ∧ win0_12.index t = ![t.val / 11, 0] :=
  (by decide +kernel : ∀ t : Fin grid0.N, _)

/-- The call's arguments. -/
def args (c : Dev nD) : Args 32768 :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9), m ((c.tc : Thread nD τ).loc main_arg10), m ((c.tc : Thread nD τ).loc main_arg11)⟩

/-- The blocks staged at a point. -/
def blks (c : Dev nD) (t : Fin cfg0.N) : Blk :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t⟩

/-! What each staged block holds of its array, at point `t`. -/
theorem blk0 (c : Dev nD) (t : Fin cfg0.N) (r : Fin 512) (k : Fin 2048) :
    (iblk m c 0 t : FVec Ideal S512x2048 .f32) (ix2 r k)
      = (m ((c.tc : Thread nD τ).loc main_arg0) : FVec Ideal S32768x2048 .f32) (ix2 ⟨512 * (t.val / 11) + r, by have := t.isLt; have := points; omega⟩ k) := by
  blk_point [iblk, V, idx t]
theorem blk1 (c : Dev nD) (t : Fin cfg0.N) (r : Fin 512) (k : Fin 512) :
    (iblk m c 1 t : FVec Ideal S512x512 .bf16) (ix2 r k)
      = (m ((c.tc : Thread nD τ).loc main_arg1) : FVec Ideal S32768x512 .bf16) (ix2 ⟨512 * (t.val / 11) + r, by have := t.isLt; have := points; omega⟩ k) := by
  blk_point [iblk, V, idx t]
theorem blk2 (c : Dev nD) (t : Fin cfg0.N) (r : Fin 512) (k : Fin 512) :
    (iblk m c 2 t : FVec Ideal S512x512 .bf16) (ix2 r k)
      = (m ((c.tc : Thread nD τ).loc main_arg2) : FVec Ideal S32768x512 .bf16) (ix2 ⟨512 * (t.val / 11) + r, by have := t.isLt; have := points; omega⟩ k) := by
  blk_point [iblk, V, idx t]
theorem blk3 (c : Dev nD) (t : Fin cfg0.N) (r : Fin 512) (k : Fin 512) :
    (iblk m c 3 t : FVec Ideal S512x512 .bf16) (ix2 r k)
      = (m ((c.tc : Thread nD τ).loc main_arg3) : FVec Ideal S32768x512 .bf16) (ix2 ⟨512 * (t.val / 11) + r, by have := t.isLt; have := points; omega⟩ k) := by
  blk_point [iblk, V, idx t]
theorem blk4 (c : Dev nD) (t : Fin cfg0.N) (r : Fin 512) (k : Fin 512) :
    (iblk m c 4 t : FVec Ideal S512x512 .bf16) (ix2 r k)
      = (m ((c.tc : Thread nD τ).loc main_arg4) : FVec Ideal S32768x512 .bf16) (ix2 ⟨512 * (t.val / 11) + r, by have := t.isLt; have := points; omega⟩ k) := by
  blk_point [iblk, V, idx t]
theorem blk5 (c : Dev nD) (t : Fin cfg0.N) (s : Fin 4) (k : Fin 512) (j : Fin 2048) :
    (iblk m c 5 t : FVec Ideal S4x512x2048 .bf16) (ix3 s k j)
      = (m ((c.tc : Thread nD τ).loc main_arg5) : FVec Ideal S2048x2048 .f32) (ix2 ⟨512 * s + k, by omega⟩ j) := by
  blk_point [iblk, idx t]
theorem blk6 (c : Dev nD) (t : Fin cfg0.N) (r : Fin 1) (k : Fin 2048) :
    (iblk m c 6 t : FVec Ideal S1x2048 .f32) (ix2 r k)
      = (m ((c.tc : Thread nD τ).loc main_arg6) : FVec Ideal S2048 .f32) (ix1 k) := by
  blk_point [iblk, idx t]
theorem blk7 (c : Dev nD) (t : Fin cfg0.N) (r : Fin 1) (k : Fin 2048) :
    (iblk m c 7 t : FVec Ideal S1x2048 .f32) (ix2 r k)
      = (m ((c.tc : Thread nD τ).loc main_arg7) : FVec Ideal S2048 .f32) (ix1 k) := by
  blk_point [iblk, idx t]
theorem blk8 (c : Dev nD) (t : Fin cfg0.N) (k : Fin 2048) (l : Fin 512) :
    (iblk m c 8 t : FVec Ideal S2048x512 .bf16) (ix2 k l)
      = (m ((c.tc : Thread nD τ).loc main_arg8) : FVec Ideal S2048x5632 .f32) (ix2 k ⟨512 * (t.val % 11) + l, by omega⟩) := by
  blk_point [iblk, idx t]
theorem blk9 (c : Dev nD) (t : Fin cfg0.N) (k : Fin 2048) (l : Fin 512) :
    (iblk m c 9 t : FVec Ideal S2048x512 .bf16) (ix2 k l)
      = (m ((c.tc : Thread nD τ).loc main_arg9) : FVec Ideal S2048x5632 .f32) (ix2 k ⟨512 * (t.val % 11) + l, by omega⟩) := by
  blk_point [iblk, idx t]
theorem blk10 (c : Dev nD) (t : Fin cfg0.N) (l : Fin 512) (j : Fin 2048) :
    (iblk m c 10 t : FVec Ideal S512x2048 .bf16) (ix2 l j)
      = (m ((c.tc : Thread nD τ).loc main_arg10) : FVec Ideal S5632x2048 .f32) (ix2 ⟨512 * (t.val % 11) + l, by omega⟩ j) := by
  blk_point [iblk, idx t]
theorem blk11 (c : Dev nD) (t : Fin cfg0.N) (r : Fin 1) (k : Fin 2048) :
    (iblk m c 11 t : FVec Ideal S1x2048 .f32) (ix2 r k)
      = (m ((c.tc : Thread nD τ).loc main_arg11) : FVec Ideal S2048 .f32) (ix1 k) := by
  blk_point [iblk, idx t]

/-- Together. -/
theorem stages (c : Dev nD) : Stages (args m c) (blks m c) where
  bd n h r := by have := points; omega
  x := blk0 m c
  a := blk1 m c
  b := blk2 m c
  d := blk3 m c
  e := blk4 m c
  wo := blk5 m c
  ga := blk6 m c
  gb := blk7 m c
  wg := blk8 m c
  wu := blk9 m c
  wd := blk10 m c
  gc := blk11 m c

/-! The terms of the program at the sample's rows. -/
theorem pay1 : k0_pay1 (F := Ideal) = Cert.Kernel2Ideal.Gen.k0_pay1 (F := Ideal) := rfl
theorem pay2 : k0_pay2 (F := Ideal) = Cert.Kernel2Ideal.Gen.k0_pay2 (F := Ideal) := rfl
theorem pay3 : k0_pay3 (F := Ideal) = Cert.Kernel2Ideal.Gen.k0_pay3 (F := Ideal) := rfl
theorem pay4 : k0_pay4 (F := Ideal) = Cert.Kernel2Ideal.Gen.k0_pay4 (F := Ideal) := rfl
theorem pay5 : k0_pay5 (F := Ideal) = Cert.Kernel2Ideal.Gen.k0_pay5 (F := Ideal) := rfl
theorem pay6 : k0_pay6 (F := Ideal) = Cert.Kernel2Ideal.Gen.k0_pay6 (F := Ideal) := rfl
theorem pay7 : k0_pay7 (F := Ideal) = Cert.Kernel2Ideal.Gen.k0_pay7 (F := Ideal) := rfl
theorem pay8 : k0_pay8 (F := Ideal) = Cert.Kernel2Ideal.Gen.k0_pay8 (F := Ideal) := rfl

/-- What the points leave. -/
theorem runs (c : Dev nD) : Runs (blks m c) (outsAt0 m c) where
  first t h := by
    rw [outsAt0_A m c t h (by omega)]
    refine Prod.ext ?_ (Prod.ext ?_ ?_) <;> frame_out <;>
      simp only [pay1, pay2, pay3, pay4, pay6, pay7, pay8, blks, Blk.mid, Blk.hid, Blk.step, Blk.pre, Blk.var, Blk.w0, Blk.w1, Blk.w2, Blk.w3]
  next t h h' := by
    rw [outsAt0_B m c t h h']
    refine Prod.ext rfl (Prod.ext rfl ?_)
    frame_out
    rw [pay4]
    exact congrArg₂ (blks m c t).step (Memref.IsWhole.read_unread _ _) (Memref.IsWhole.read_unread _ _)
  last t h := by
    rw [outsAt0_C m c t (by omega) h]
    frame_out
    rw [pay4, pay5]
    exact congrArg₂ (fun H acc => Cert.Kernel2Ideal.Gen.k0_pay5 (F := Ideal) _ ((blks m c t).step H acc) _)
      (Memref.IsWhole.read_unread _ _) (Memref.IsWhole.read_unread _ _)

/-- The result after the run. -/
theorem final (c : Dev nD) : (dats m 0 c).arrAt 12 cfg0.N
    = Layer.ffn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (dats m 0 c).arrAt_eq_of_covers 12 _ (by decide +kernel) fun t hf y => ?_
  have ht : t.val < 704 := lt_of_lt_of_eq t.isLt points
  have e : ((View.whole main_v8).slice (win0_12.rect t)).emb y
      = (ix2 ⟨512 * (t.val / 11) + (y 0 : ℕ), by have : (y 0 : ℕ) < 512 := (y 0).isLt; omega⟩ (y 1) : S32768x2048.Idx) := by
    blk_ext [idx t]
  blk_simp
  rw [after0_12, e]
  idx_vars y
  exact Cert.Kernel2Ideal.Ffn.done (stages m c) (runs m c) t ((flush0_12 t).mp hf) y0 y1
end Cert.Kernel7Ideal.Ffn
end
-- ==== Proof.Alg7.lean ====
module
public import proofs.«01_k».proof.Defs
public import proofs.«01_k».proof.Proof.Ffn7
public import proofs.«01_k».proof.Proof.Gen.Reference7Ideal.Read
public import proofs.«01_k».proof.Proof.Gen.Kernel7Ideal
public import proofs.«01_k».proof.Proof.Gen.Reference7Ideal
public import Idealize.ShloMosaic.Lib.Claim
public import Idealize.ShloMosaic.Lib.Pointwise
@[expose] public section
set_option maxRecDepth 16384
noncomputable section

/-! The output and feed-forward part at the prompt's rows: the reference at one index, and both programs' runs. -/
namespace Cert.Reference7Ideal.Ffn
open Idealize.ShloMosaic Idealize.ShloMosaic.TcCoe Idealize.SL.Sem Cert.Reference7Ideal Cert.Reference7Ideal.Read
variable (x0 : FVec Ideal S32768x2048 .f32) (x1 x2 x3 x4 : FVec Ideal S32768x512 .bf16) (x5 : FVec Ideal S2048x2048 .f32)
  (x6 x7 : FVec Ideal S2048 .f32) (x8 x9 : FVec Ideal S2048x5632 .f32) (x10 : FVec Ideal S5632x2048 .f32) (x11 : FVec Ideal S2048 .f32)

theorem mix_at (i : Fin 32768) (j : Fin 2048) : val_main_v5 (F := Ideal) x1 x2 x3 x4 x5 (ix2 i j)
    = Layer.mix (fun k => x1 (ix2 i k)) (fun k => x2 (ix2 i k)) (fun k => x3 (ix2 i k)) (fun k => x4 (ix2 i k)) (fun k l => x5 (ix2 k l)) j := by
  pointwise [val_main_v5, val_main_v4, val_main_v3, val_main_v2, val_main_v1, val_main_v0]
  refine Layer.sum_quarters _ _ _ _ _ (fun k l => x5 (ix2 k l)) j (fun k => ?_) (fun k => ?_) (fun k => ?_) (fun k => ?_)
  · exact dif_pos (show (k : ℕ) < 512 by omega)
  · exact (dif_neg (show ¬512 + (k : ℕ) < 512 by omega)).trans ((dif_pos (show 512 + (k : ℕ) - 512 < 512 by omega)).trans
      (congrArg (fun k => x2 (ix2 i k)) (Fin.ext (show 512 + (k : ℕ) - 512 = k by omega))))
  · exact (dif_neg (show ¬1024 + (k : ℕ) < 512 by omega)).trans ((dif_neg (show ¬1024 + (k : ℕ) - 512 < 512 by omega)).trans
      ((dif_pos (show 1024 + (k : ℕ) - 512 - 512 < 512 by omega)).trans (congrArg (fun k => x3 (ix2 i k)) (Fin.ext (show 1024 + (k : ℕ) - 512 - 512 = k by omega)))))
  · exact (dif_neg (show ¬1536 + (k : ℕ) < 512 by omega)).trans ((dif_neg (show ¬1536 + (k : ℕ) - 512 < 512 by omega)).trans
      ((dif_neg (show ¬1536 + (k : ℕ) - 512 - 512 < 512 by omega)).trans (congrArg (fun k => x4 (ix2 i k)) (Fin.ext (show 1536 + (k : ℕ) - 512 - 512 - 512 = k by omega)))))

theorem mid_at (i : Fin 32768) (j : Fin 2048) : val_main_v19 (F := Ideal) x0 x1 x2 x3 x4 x5 x6 (ix2 i j) = Layer.mid x0 x1 x2 x3 x4 x5 x6 i j := by
  pointwise [val_main_v19, val_main_v18, val_main_v17, val_main_v16, val_main_v15, val_main_v14, val_main_v13, val_main_v12, val_main_v11,
    val_main_v10, val_main_v9, val_main_v8, val_main_v7, val_main_v6, val_main_cst, val_main_cst_0, val_main_cst_1, mix_at, Layer.mid, Layer.rms]

theorem hid_at (i : Fin 32768) (j : Fin 2048) : val_main_v32 (F := Ideal) x0 x1 x2 x3 x4 x5 x6 x7 (ix2 i j) = Layer.hid x0 x1 x2 x3 x4 x5 x6 x7 i j := by
  pointwise [val_main_v32, val_main_v31, val_main_v30, val_main_v29, val_main_v28, val_main_v27, val_main_v26, val_main_v25, val_main_v24, val_main_v23,
    val_main_v22, val_main_v21, val_main_v20, val_main_cst_2, val_main_cst_3, val_main_cst_4, mid_at, Layer.hid, Layer.rms]

theorem gate_at (i : Fin 32768) (l : Fin 5632) : val_main_v36 (F := Ideal) x0 x1 x2 x3 x4 x5 x6 x7 x8 x9 (ix2 i l) = Layer.gate x0 x1 x2 x3 x4 x5 x6 x7 x8 x9 i l := by
  pointwise [val_main_v36, val_main_v35, val_main_v34, val_main_v33, val_main_call0_v0, val_main_call0_v1, val_main_call0_v2, val_main_call0_v3,
    val_main_call0_v4, val_main_call0_v5, val_main_call0_cst, val_main_call0_cst_0, hid_at, Layer.gate, Layer.act, Layer.row, Layer.silu, zero_sub]

theorem ref : val_main_v51 (F := Ideal) x0 x1 x2 x3 x4 x5 x6 x7 x8 x9 x10 x11 = Layer.ffn x0 x1 x2 x3 x4 x5 x6 x7 x8 x9 x10 x11 := by
  funext i
  idx_vars i
  pointwise [val_main_v51, val_main_v50, val_main_v49, val_main_v48, val_main_v47, val_main_v46, val_main_v45, val_main_v44, val_main_v43, val_main_v42,
    val_main_v41, val_main_v40, val_main_v39, val_main_v38, val_main_v37, val_main_cst_5, val_main_cst_6, val_main_cst_7, gate_at, mid_at, Layer.ffn, Layer.rms, Layer.row]
end Cert.Reference7Ideal.Ffn

namespace Cert.Proof
open Idealize.ShloMosaic Idealize.ShloMosaic.TcCoe Idealize.SL.Sem

/-- What the kernel's run leaves. -/
theorem ker_run7 (m : (ℓ : Loc Cert.Kernel7Ideal.nD Cert.Kernel7Ideal.τ Cert.Kernel7Ideal.sig) → Buf (Elt Ideal) ℓ) (g : Dev Cert.Kernel7Ideal.nD → PrngReg) :
    θ_run (Cert.Kernel7Ideal.defs (F := Ideal)) (onTc (τ := Cert.Kernel7Ideal.τ) (Cert.Kernel7Ideal.main (F := Ideal))) ⟨m, fun _ => 0, g⟩ fun r => ∀ c : Dev Cert.Kernel7Ideal.nD,
      r.2.mem ((c.tc : Thread Cert.Kernel7Ideal.nD Cert.Kernel7Ideal.τ).loc Cert.Kernel7Ideal.main_v8) = Layer.ffn (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))
      ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11) :=
  (θ_run _ _ _).mono (fun r h c => ⟨(h c).1.trans (Cert.Kernel7Ideal.Ffn.final m c), (h c).2⟩) (Cert.Kernel7Ideal.Value.run_blocks m g)

/-- What the reference's run leaves. -/
theorem ref_run7 (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ fun r => ∀ c : Dev Cert.Reference7Ideal.nD,
      r.2.mem ((c.tc : Thread Cert.Reference7Ideal.nD Cert.Reference7Ideal.τ).loc Cert.Reference7Ideal.main_v51) = Layer.ffn (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))
      ∧ r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11) :=
  (θ_run _ _ _).mono (fun r h c => ⟨(h c).1.trans ((Cert.Reference7Ideal.Read.val_main_v51_eq m c).trans (Cert.Reference7Ideal.Ffn.ref _ _ _ _ _ _ _ _ _ _ _ _)), (h c).2⟩)
    (Cert.Reference7Ideal.Value.run m g)

/-- The reference's frame: its run leaves the arguments, and it declares no semaphore. -/
theorem frame_ref7 (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0 :=
  (θ_run _ _ _).mono (fun r h => ⟨fun c => (h c).2, sem_eq_zero_of_no_sems (by decide) r.2⟩) (Cert.Reference7Ideal.Value.run m g)

/-- Kernel and reference compute the same array. -/
theorem alg7 : letI := Cert.Kernel7Ideal.Gen.facts; letI := Cert.Reference7Ideal.Gen.facts; algebraic_Kernel7Ideal_Reference7Ideal := by
  pair_intro
  · run_from ker_run7 m g
  · run_from ref_run7 m' g'

end Cert.Proof
-- ==== Proof.Alg8.lean ====
module
public import proofs.«01_k».proof.Proof.Gen.Kernel8Ideal.Value
public import proofs.«01_k».proof.Proof.ProjCore
public import proofs.«01_k».proof.Defs
public import proofs.«01_k».proof.Proof.Gen.Reference8Ideal.Read
public import proofs.«01_k».proof.Proof.Gen.Kernel8Ideal
public import proofs.«01_k».proof.Proof.Gen.Reference8Ideal
public import Idealize.ShloMosaic.Lib.Claim
public import Idealize.ShloMosaic.Lib.Pipeline.ValueKit
public import Idealize.ShloMosaic.Lib.Pointwise
@[expose] public section
set_option maxRecDepth 16384
noncomputable section
namespace Cert.Kernel8Ideal.Proj
open Cert.Kernel8Ideal Cert.Kernel8Ideal.Gen Idealize.ShloMosaic Idealize.ShloMosaic.TcCoe Idealize.SL.Sem
open Idealize.ShloMosaic.Pipeline (Dat)
open Cert.Kernel3Ideal.Proj (Grid)
variable (m : (ℓ : Loc nD τ sig) → Buf (Elt Ideal) ℓ)

theorem points : cfg0.N = 128 := by decide +kernel

theorem idx : ∀ t : Fin cfg0.N, win0_0.index t = ![t.val / 4, 0] ∧ win0_1.index t = ![0, 0] ∧ win0_2.index t = ![0, t.val % 4]
    ∧ win0_3.index t = ![t.val / 4, t.val % 4] :=
  (by decide +kernel : ∀ t : Fin grid0.N, _)

/-! What each staged block holds of its array, at point `t`. -/
theorem blk0 (c : Dev nD) (t : Fin cfg0.N) (r : Fin 1024) (k : Fin 2048) :
    (iblk m c 0 t : FVec Ideal S1024x2048 .f32) (ix2 r k)
      = (m ((c.tc : Thread nD τ).loc main_arg0) : FVec Ideal S32768x2048 .f32) (ix2 ⟨1024 * (t.val / 4) + r, by have := t.isLt; have := points; omega⟩ k) := by
  blk_point [iblk, V, idx t]
theorem blk1 (c : Dev nD) (t : Fin cfg0.N) (r : Fin 1) (k : Fin 2048) :
    (iblk m c 1 t : FVec Ideal S1x2048 .f32) (ix2 r k)
      = (m ((c.tc : Thread nD τ).loc main_arg1) : FVec Ideal S2048 .f32) (ix1 k) := by
  blk_point [iblk, idx t]
theorem blk2 (c : Dev nD) (t : Fin cfg0.N) (k : Fin 2048) (l : Fin 1664) :
    (iblk m c 2 t : FVec Ideal S2048x1664 .bf16) (ix2 k l)
      = (m ((c.tc : Thread nD τ).loc main_arg2) : FVec Ideal S2048x6656 .f32) (ix2 k ⟨1664 * (t.val % 4) + l, by omega⟩) := by
  blk_point [iblk, idx t]

/-! The terms of the program at the sample's rows. -/
theorem pay1 : k0_pay1 (F := Ideal) = Cert.Kernel3Ideal.Gen.k0_pay1 (F := Ideal) := rfl
theorem pay2 : k0_pay2 (F := Ideal) = Cert.Kernel3Ideal.Gen.k0_pay2 (F := Ideal) := rfl

/-- The points, from the first to the last. -/
theorem grid (c : Dev nD) : Grid (R := 32768) (m ((c.tc : Thread nD τ).loc main_arg0)) (m ((c.tc : Thread nD τ).loc main_arg1)) (m ((c.tc : Thread nD τ).loc main_arg2))
    (iblk m c 0) (iblk m c 1) (iblk m c 2) (outsAt0 m c) where
  bd n h r := by have := points; omega
  x := blk0 m c
  g := blk1 m c
  w := blk2 m c
  first t h := by
    rw [outsAt0_A m c t h]
    refine Prod.ext ?_ ?_ <;> (frame_out; simp only [pay1, pay2])
  next t h := by
    rw [outsAt0_B m c t h]
    refine Prod.ext ?_ rfl
    frame_out
    rw [pay2]
    exact congrArg (fun h => Cert.Kernel3Ideal.Gen.k0_pay2 (F := Ideal) h _) (Memref.IsWhole.read_unread _ _)

theorem final (c : Dev nD) : (dats m 0 c).arrAt 3 cfg0.N
    = Layer.proj (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht : t.val < 128 := lt_of_lt_of_eq t.isLt points
  have e : ((View.whole main_v2).slice (win0_3.rect t)).emb y
      = (ix2 ⟨1024 * (t.val / 4) + (y 0 : ℕ), by have : (y 0 : ℕ) < 1024 := (y 0).isLt; omega⟩
          ⟨1664 * (t.val % 4) + (y 1 : ℕ), by have : (y 1 : ℕ) < 1664 := (y 1).isLt; omega⟩ : S32768x6656.Idx) := by
    blk_ext [idx t]
  blk_simp
  rw [after0_3, e]
  idx_vars y
  exact (grid m c).out t y0 y1
end Cert.Kernel8Ideal.Proj

namespace Cert.Reference8Ideal.Proj
open Idealize.ShloMosaic Idealize.ShloMosaic.TcCoe Idealize.SL.Sem Cert.Reference8Ideal Cert.Reference8Ideal.Read

theorem ref (x : FVec Ideal S32768x2048 .f32) (g : FVec Ideal S2048 .f32) (w : FVec Ideal S2048x6656 .f32) :
    val_main_v13 (F := Ideal) x g w = Layer.proj x g w := by
  funext i
  idx_vars i
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, Layer.proj, Layer.row, Layer.rms]
end Cert.Reference8Ideal.Proj

/-! The projection at the prompt's rows: kernel and reference end with the same array. -/
namespace Cert.Proof
open Idealize.ShloMosaic Idealize.ShloMosaic.TcCoe Idealize.SL.Sem

/-- What the kernel's run leaves. -/
theorem ker_run8 (m : (ℓ : Loc Cert.Kernel8Ideal.nD Cert.Kernel8Ideal.τ Cert.Kernel8Ideal.sig) → Buf (Elt Ideal) ℓ) (g : Dev Cert.Kernel8Ideal.nD → PrngReg) :
    θ_run (Cert.Kernel8Ideal.defs (F := Ideal)) (onTc (τ := Cert.Kernel8Ideal.τ) (Cert.Kernel8Ideal.main (F := Ideal))) ⟨m, fun _ => 0, g⟩ fun r => ∀ c : Dev Cert.Kernel8Ideal.nD,
      r.2.mem ((c.tc : Thread Cert.Kernel8Ideal.nD Cert.Kernel8Ideal.τ).loc Cert.Kernel8Ideal.main_v2) = Layer.proj (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))
      ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2) :=
  (θ_run _ _ _).mono (fun r h c => ⟨(h c).1.trans (Cert.Kernel8Ideal.Proj.final m c), (h c).2⟩) (Cert.Kernel8Ideal.Value.run_blocks m g)

/-- What the reference's run leaves. -/
theorem ref_run8 (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩ fun r => ∀ c : Dev Cert.Reference8Ideal.nD,
      r.2.mem ((c.tc : Thread Cert.Reference8Ideal.nD Cert.Reference8Ideal.τ).loc Cert.Reference8Ideal.main_v13) = Layer.proj (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))
      ∧ r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2) :=
  (θ_run _ _ _).mono (fun r h c => ⟨(h c).1.trans ((Cert.Reference8Ideal.Read.val_main_v13_eq _ _ _).trans (Cert.Reference8Ideal.Proj.ref _ _ _)), (h c).2⟩)
    (Cert.Reference8Ideal.Value.run m g)

/-- The reference's frame: its run leaves the arguments, and it declares no semaphore. -/
theorem frame_ref8 (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩ fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0 :=
  (θ_run _ _ _).mono (fun r h => ⟨fun c => (h c).2, sem_eq_zero_of_no_sems (by decide) r.2⟩) (Cert.Reference8Ideal.Value.run m g)

/-- Kernel and reference compute the same array. -/
theorem alg8 : letI := Cert.Kernel8Ideal.Gen.facts; letI := Cert.Reference8Ideal.Gen.facts; algebraic_Kernel8Ideal_Reference8Ideal := by
  pair_intro
  · run_from ker_run8 m g
  · run_from ref_run8 m' g'

end Cert.Proof
-- ==== Proof.lean ====
module

public import proofs.«01_k».proof.Defs
public import proofs.«01_k».proof.Proof.Alg1
public import proofs.«01_k».proof.Proof.Proj
public import proofs.«01_k».proof.Proof.FfnRef
public import proofs.«01_k».proof.Proof.Alg4
public import proofs.«01_k».proof.Proof.Alg5
public import proofs.«01_k».proof.Proof.Alg6
public import proofs.«01_k».proof.Proof.Alg7
public import proofs.«01_k».proof.Proof.Alg8
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Reference5Ideal
public import proofs.«01_k».proof.Proof.Gen.Reference5Ideal.Run
public import proofs.«01_k».proof.Proof.Gen.Reference5Ideal.Read
public import proofs.«01_k».proof.Proof.Gen.Reference6Ideal
public import proofs.«01_k».proof.Proof.Gen.Reference6Ideal.Run
public import proofs.«01_k».proof.Proof.Gen.Reference6Ideal.Read
public import proofs.«01_k».proof.Proof.Gen.Reference4Ideal
public import proofs.«01_k».proof.Proof.Gen.Reference4Ideal.Run
public import proofs.«01_k».proof.Proof.Gen.Reference4Ideal.StepRun
public import proofs.«01_k».proof.Proof.Gen.KernelIdeal.Value
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import Idealize.ShloMosaic.Adequacy
public import Idealize.ShloMosaic.Init

@[expose] public section

noncomputable section

namespace Cert.Proof

open Idealize.ShloMosaic Idealize.SL.Sem Cert.Kernel

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  preFacts, finFacts,
  fun m ρ _ => Cert.Kernel.Gen.frame m ρ, fun m ρ _ => Cert.KernelIdeal.Gen.frame m ρ, fun m ρ _ => Cert.KernelIdeal.Gen.frame m ρ,
  fun m ρ _ => frame_ref m ρ, fun m ρ _ => frame_ref m ρ,
  fun m ρ _ => Cert.Kernel2.Gen.frame m ρ, fun m ρ _ => Cert.Kernel2Ideal.Gen.frame m ρ,
  fun m ρ _ => frame_ref2 m ρ,
  fun m ρ _ => Cert.Kernel3.Gen.frame m ρ, fun m ρ _ => Cert.Kernel3Ideal.Gen.frame m ρ,
  fun m ρ _ => frame_ref3 m ρ,
  fun m ρ _ => Cert.Kernel4.Gen.frame m ρ, fun m ρ _ => Cert.Kernel4Ideal.Gen.frame m ρ, fun m ρ _ => Cert.Kernel4Ideal.Gen.frame m ρ,
  fun m ρ _ => frame_ref4 m ρ, fun m ρ _ => frame_ref4 m ρ,
  fun m ρ _ => Cert.Kernel5.Gen.frame m ρ, fun m ρ _ => Cert.Kernel5Ideal.Gen.frame m ρ,
  fun m ρ _ => frame_ref5 m ρ,
  fun m ρ _ => Cert.Kernel6.Gen.frame m ρ, fun m ρ _ => Cert.Kernel6Ideal.Gen.frame m ρ,
  fun m ρ _ => frame_ref6 m ρ,
  fun m ρ _ => Cert.Kernel7.Gen.frame m ρ, fun m ρ _ => Cert.Kernel7Ideal.Gen.frame m ρ,
  fun m ρ _ => frame_ref7 m ρ,
  fun m ρ _ => Cert.Kernel8.Gen.frame m ρ, fun m ρ _ => Cert.Kernel8Ideal.Gen.frame m ρ,
  fun m ρ _ => frame_ref8 m ρ,
  trivial, alg1, trivial, alg2, trivial, alg3, trivial, alg4, trivial, alg5, trivial, alg6, trivial, alg7, trivial, alg8⟩

end Cert.Proof

end
